-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100_0)) (v1 : (c : Dev Cert.KernelIdeal.nD) → Buf (Elt Ideal) ((c.tc : Thread Cert.KernelIdeal.nD Cert.KernelIdeal.τ).loc Cert.KernelIdeal.main_v100_1)) (v2 : (c : Dev Cert.KernelIdeal.nD) → Buf (Elt Ideal) ((c.tc : Thread Cert.KernelIdeal.nD Cert.KernelIdeal.τ).loc Cert.KernelIdeal.main_v100_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100_0) = v0 c
          ∧ r.2.mem ((c.tc : Thread Cert.KernelIdeal.nD Cert.KernelIdeal.τ).loc Cert.KernelIdeal.main_v100_1) = v1 c
          ∧ r.2.mem ((c.tc : Thread Cert.KernelIdeal.nD Cert.KernelIdeal.τ).loc Cert.KernelIdeal.main_v100_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v18) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v10) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite8 : Cert.Pre_finite8.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x2048 : Shape := ⟨2, ![8192, 2048]⟩
abbrev S8192x32x64 : Shape := ⟨3, ![8192, 32, 64]⟩
abbrev S8192x32 : Shape := ⟨2, ![8192, 32]⟩
abbrev S_ : Shape := ⟨0, ![]⟩

class Facts : Prop where
  bcast_S_S8192x2048 : S_.BroadcastsInDim S8192x2048 (![] : Fin 0 → Fin S8192x2048.rank)
  bcast_S_S8192x32x64 : S_.BroadcastsInDim S8192x32x64 (![] : Fin 0 → Fin S8192x32x64.rank)
  bcast_S_S8192x32 : S_.BroadcastsInDim S8192x32 (![] : Fin 0 → Fin S8192x32.rank)

variable [Facts]

def fn_part1 {F : FTy → Type} [FloatOps F] (main_arg6 : FVec F S8192x32 .f32) (main_arg7 : FVec F S8192x32x64 .f32) (main_v2 : IVec S8192x2048 1) (main_v5 : IVec S8192x2048 1) (main_v8 : IVec S8192x2048 1) (main_v11 : IVec S8192x32x64 1) (main_v14 : IVec S8192x32 1) (main_v17 : IVec S8192x32x64 1) : IVec S8192x2048 1 × IVec S8192x2048 1 × IVec S8192x2048 1 × IVec S8192x32x64 1 × IVec S8192x32 1 × IVec S8192x32x64 1 × IVec S8192x32 1 × IVec S8192x32x64 1 :=
  let main_v18 : FVec F S8192x32 .f32 := Host.absf main_arg6
  let main_cst_5 : FVec F S_ .f32 := constant S_ .f32 0x7F800000#32
  let main_v19 : FVec F S8192x32 .f32 := broadcastInDim S8192x32 ![] bcast_S_S8192x32 main_cst_5
  let main_v20 : IVec S8192x32 1 := cmpf .olt main_v18 main_v19
  let main_v21 : FVec F S8192x32x64 .f32 := Host.absf main_arg7
  let main_cst_6 : FVec F S_ .f32 := constant S_ .f32 0x7F800000#32
  let main_v22 : FVec F S8192x32x64 .f32 := broadcastInDim S8192x32x64 ![] bcast_S_S8192x32x64 main_cst_6
  let main_v23 : IVec S8192x32x64 1 := cmpf .olt main_v21 main_v22
  (main_v2, main_v5, main_v8, main_v11, main_v14, main_v17, main_v20, main_v23)

def fn {F : FTy → Type} [FloatOps F] (main_arg0 : FVec F S8192x2048 .f32) (main_arg1 : FVec F S8192x2048 .f32) (main_arg2 : FVec F S8192x2048 .f32) (main_arg3 : FVec F S8192x32x64 .f32) (main_arg4 : FVec F S8192x32 .f32) (main_arg5 : FVec F S8192x32x64 .f32) (main_arg6 : FVec F S8192x32 .f32) (main_arg7 : FVec F S8192x32x64 .f32) : IVec S8192x2048 1 × IVec S8192x2048 1 × IVec S8192x2048 1 × IVec S8192x32x64 1 × IVec S8192x32 1 × IVec S8192x32x64 1 × IVec S8192x32 1 × IVec S8192x32x64 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x32x64 .f32 := Host.absf main_arg3
  let main_cst_2 : FVec F S_ .f32 := constant S_ .f32 0x7F800000#32
  let main_v10 : FVec F S8192x32x64 .f32 := broadcastInDim S8192x32x64 ![] bcast_S_S8192x32x64 main_cst_2
  let main_v11 : IVec S8192x32x64 1 := cmpf .olt main_v9 main_v10
  let main_v12 : FVec F S8192x32 .f32 := Host.absf main_arg4
  let main_cst_3 : FVec F S_ .f32 := constant S_ .f32 0x7F800000#32
  let main_v13 : FVec F S8192x32 .f32 := broadcastInDim S8192x32 ![] bcast_S_S8192x32 main_cst_3
  let main_v14 : IVec S8192x32 1 := cmpf .olt main_v12 main_v13
  let main_v15 : FVec F S8192x32x64 .f32 := Host.absf main_arg5
  let main_cst_4 : FVec F S_ .f32 := constant S_ .f32 0x7F800000#32
  let main_v16 : FVec F S8192x32x64 .f32 := broadcastInDim S8192x32x64 ![] bcast_S_S8192x32x64 main_cst_4
  let main_v17 : IVec S8192x32x64 1 := cmpf .olt main_v15 main_v16
  fn_part1 (F := F) main_arg6 main_arg7 main_v2 main_v5 main_v8 main_v11 main_v14 main_v17
-- ==== Pre_finite11.lean ====
abbrev S8192x1024 : Shape := ⟨2, ![8192, 1024]⟩
abbrev S2048x1024 : Shape := ⟨2, ![2048, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S2048x1024 : S_.BroadcastsInDim S2048x1024 (![] : Fin 0 → Fin S2048x1024.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S2048x1024 .f32) (main_arg2 : FVec F S8192x2048 .f32) (main_arg3 : FVec F S8192x2048 .f32) : IVec S8192x1024 1 × IVec S2048x1024 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_finite8.lean ====
abbrev S8192x1024 : Shape := ⟨2, ![8192, 1024]⟩
abbrev S2048x1024 : Shape := ⟨2, ![2048, 1024]⟩
abbrev S8192x2048 : Shape := ⟨2, ![8192, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  bcast_S_S2048x1024 : S_.BroadcastsInDim S2048x1024 (![] : Fin 0 → Fin S2048x1024.rank)
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x1024 .f32) (main_arg1 : FVec F S2048x1024 .f32) (main_arg2 : FVec F S8192x2048 .f32) (main_arg3 : FVec F S8192x2048 .f32) (main_arg4 : FVec F S2048 .f32) : IVec S8192x1024 1 × IVec S2048x1024 1 × IVec S8192x2048 1 × IVec S2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  (main_v2, main_v5, main_v8, main_v11)
-- ==== Kernel.lean ====
abbrev S8192x2048 : Shape := ⟨2, ![8192, 2048]⟩
abbrev S8192x32x64 : Shape := ⟨3, ![8192, 32, 64]⟩
abbrev S8192x32 : Shape := ⟨2, ![8192, 32]⟩
abbrev S512x16x32x64 : Shape := ⟨4, ![512, 16, 32, 64]⟩
abbrev S16x512x32x64 : Shape := ⟨4, ![16, 512, 32, 64]⟩
abbrev S16x32x512x512 : Shape := ⟨4, ![16, 32, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x32x512 : Shape := ⟨3, ![16, 32, 512]⟩
abbrev S16x32x512x1 : Shape := ⟨4, ![16, 32, 512, 1]⟩
abbrev S16x32x64x512 : Shape := ⟨4, ![16, 32, 64, 512]⟩
abbrev S512x16x32 : Shape := ⟨3, ![512, 16, 32]⟩
abbrev S8192x32x1 : Shape := ⟨3, ![8192, 32, 1]⟩
abbrev S4x128x16x2048 : Shape := ⟨4, ![4, 128, 16, 2048]⟩
abbrev S4x16x128x2048 : Shape := ⟨4, ![4, 16, 128, 2048]⟩
abbrev S4x1x128x128 : Shape := ⟨4, ![4, 1, 128, 128]⟩
abbrev S1x1x128x128 : Shape := ⟨4, ![1, 1, 128, 128]⟩
abbrev S640x128 : Shape := ⟨2, ![640, 128]⟩
abbrev S2x256x256 : Shape := ⟨3, ![2, 256, 256]⟩
abbrev S256x256 : Shape := ⟨2, ![256, 256]⟩
abbrev S1x256x256 : Shape := ⟨3, ![1, 256, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S256x1 : Shape := ⟨2, ![256, 1]⟩
abbrev S128x256 : Shape := ⟨2, ![128, 256]⟩

abbrev nBuf : Space → Nat
  | .hbm => 120
  | .vmem => 33
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x32x64, .f32⟩
  | .hbm, ⟨4, _⟩ => ⟨S8192x32, .f32⟩
  | .hbm, ⟨5, _⟩ => ⟨S8192x32x64, .f32⟩
  | .hbm, ⟨6, _⟩ => ⟨S8192x32, .f32⟩
  | .hbm, ⟨7, _⟩ => ⟨S8192x32x64, .f32⟩
  | .hbm, ⟨8, _⟩ => ⟨S512x16x32x64, .f32⟩
  | .hbm, ⟨9, _⟩ => ⟨S16x512x32x64, .f32⟩
  | .hbm, ⟨10, _⟩ => ⟨S512x16x32x64, .f32⟩
  | .hbm, ⟨11, _⟩ => ⟨S16x512x32x64, .f32⟩
  | .hbm, ⟨12, _⟩ => ⟨S512x16x32x64, .f32⟩
  | .hbm, ⟨13, _⟩ => ⟨S16x512x32x64, .f32⟩
  | .hbm, ⟨14, _⟩ => ⟨S16x32x512x512, .f32⟩
  | .hbm, ⟨15, _⟩ => ⟨S_, .f32⟩
  | .hbm, ⟨16, _⟩ => ⟨S16x32x512x512, .f32⟩
  | .hbm, ⟨17, _⟩ => ⟨S16x32x512x512, .f32⟩
  | .hbm, ⟨18, _⟩ => ⟨S512, .i32⟩
  | .hbm, ⟨19, _⟩ => ⟨S512x1, .i32⟩
  | .hbm, ⟨20, _⟩ => ⟨S1x512, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S_, .i32⟩
  | .hbm, ⟨28, _⟩ => ⟨S512x512, .i32⟩
  | .hbm, ⟨29, _⟩ => ⟨S512x512, .i1⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S16x32x512x512, .i1⟩
  | .hbm, ⟨34, _⟩ => ⟨S16x32x512x512, .f32⟩
  | .hbm, ⟨35, _⟩ => ⟨S16x32x512x512, .f32⟩
  | .hbm, ⟨36, _⟩ => ⟨S_, .f32⟩
  | .hbm, ⟨37, _⟩ => ⟨S16x32x512, .f32⟩
  | .hbm, ⟨38, _⟩ => ⟨S16x32x512x1, .f32⟩
  | .hbm, ⟨39, _⟩ => ⟨S16x32x512x512, .f32⟩
  | .hbm, ⟨40, _⟩ => ⟨S16x32x512x512, .f32⟩
  | .hbm, ⟨41, _⟩ => ⟨S16x32x512x512, .f32⟩
  | .hbm, ⟨42, _⟩ => ⟨S_, .f32⟩
  | .hbm, ⟨43, _⟩ => ⟨S16x32x512, .f32⟩
  | .hbm, ⟨44, _⟩ => ⟨S16x32x512, .f32⟩
  | .hbm, ⟨45, _⟩ => ⟨S16x32x512, .f32⟩
  | .hbm, ⟨46, _⟩ => ⟨S16x32x512x1, .f32⟩
  | .hbm, ⟨47, _⟩ => ⟨S16x32x512x512, .f32⟩
  | .hbm, ⟨48, _⟩ => ⟨S16x32x512x512, .f32⟩
  | .hbm, ⟨49, _⟩ => ⟨S16x32x512x512, .f32⟩
  | .hbm, ⟨50, _⟩ => ⟨S16x32x64x512, .f32⟩
  | .hbm, ⟨51, _⟩ => ⟨S16x512x32x64, .f32⟩
  | .hbm, ⟨52, _⟩ => ⟨S512x16x32x64, .f32⟩
  | .hbm, ⟨53, _⟩ => ⟨S8192x32x64, .f32⟩
  | .hbm, ⟨54, _⟩ => ⟨S512x16x32, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x32, .f32⟩
  | .hbm, ⟨69, _⟩ => ⟨S8192x32x1, .f32⟩
  | .hbm, ⟨70, _⟩ => ⟨S8192x32x64, .f32⟩
  | .hbm, ⟨71, _⟩ => ⟨S8192x32x64, .f32⟩
  | .hbm, ⟨72, _⟩ => ⟨S8192x32x1, .f32⟩
  | .hbm, ⟨73, _⟩ => ⟨S8192x32x64, .f32⟩
  | .hbm, ⟨74, _⟩ => ⟨S8192x32x64, .f32⟩
  | .hbm, ⟨75, _⟩ => ⟨S8192x32x64, .f32⟩
  | .hbm, ⟨76, _⟩ => ⟨S8192x32x1, .f32⟩
  | .hbm, ⟨77, _⟩ => ⟨S8192x32x64, .f32⟩
  | .hbm, ⟨78, _⟩ => ⟨S8192x32x64, .f32⟩
  | .hbm, ⟨79, _⟩ => ⟨S8192x32x64, .f32⟩
  | .hbm, ⟨80, _⟩ => ⟨S8192x32x1, .f32⟩
  | .hbm, ⟨81, _⟩ => ⟨S8192x32x64, .f32⟩
  | .hbm, ⟨82, _⟩ => ⟨S8192x32x64, .f32⟩
  | .hbm, ⟨83, _⟩ => ⟨S8192x2048, .f32⟩
  | .hbm, ⟨84, _⟩ => ⟨S8192x32x1, .f32⟩
  | .hbm, ⟨85, _⟩ => ⟨S8192x32x64, .f32⟩
  | .hbm, ⟨86, _⟩ => ⟨S8192x2048, .f32⟩
  | .hbm, ⟨87, _⟩ => ⟨S8192x2048, .f32⟩
  | .hbm, ⟨88, _⟩ => ⟨S8192x2048, .bf16⟩
  | .hbm, ⟨89, _⟩ => ⟨S4x128x16x2048, .bf16⟩
  | .hbm, ⟨90, _⟩ => ⟨S4x16x128x2048, .bf16⟩
  | .hbm, ⟨91, _⟩ => ⟨S8192x2048, .bf16⟩
  | .hbm, ⟨92, _⟩ => ⟨S8192x2048, .bf16⟩
  | .hbm, ⟨93, _⟩ => ⟨S4x128x16x2048, .bf16⟩
  | .hbm, ⟨94, _⟩ => ⟨S4x16x128x2048, .bf16⟩
  | .hbm, ⟨95, _⟩ => ⟨S8192x2048, .bf16⟩
  | .hbm, ⟨96, _⟩ => ⟨S8192x2048, .bf16⟩
  | .hbm, ⟨97, _⟩ => ⟨S4x128x16x2048, .bf16⟩
  | .hbm, ⟨98, _⟩ => ⟨S4x16x128x2048, .bf16⟩
  | .hbm, ⟨99, _⟩ => ⟨S8192x2048, .bf16⟩
  | .hbm, ⟨100, _⟩ => ⟨S8192x2048, .bf16⟩
  | .hbm, ⟨101, _⟩ => ⟨S4x128x16x2048, .bf16⟩
  | .hbm, ⟨102, _⟩ => ⟨S4x16x128x2048, .bf16⟩
  | .hbm, ⟨103, _⟩ => ⟨S8192x2048, .bf16⟩
  | .hbm, ⟨104, _⟩ => ⟨S8192x2048, .bf16⟩
  | .hbm, ⟨105, _⟩ => ⟨S4x128x16x2048, .bf16⟩
  | .hbm, ⟨106, _⟩ => ⟨S4x16x128x2048, .bf16⟩
  | .hbm, ⟨107, _⟩ => ⟨S8192x2048, .bf16⟩
  | .hbm, ⟨108, _⟩ => ⟨S4x128x16x2048, .f32⟩
  | .hbm, ⟨109, _⟩ => ⟨S4x16x128x2048, .f32⟩
  | .hbm, ⟨110, _⟩ => ⟨S8192x2048, .f32⟩
  | .hbm, ⟨111, _⟩ => ⟨S4x16x128x2048, .bf16⟩
  | .hbm, ⟨112, _⟩ => ⟨S4x16x128x2048, .bf16⟩
  | .hbm, ⟨113, _⟩ => ⟨S4x16x128x2048, .bf16⟩
  | .hbm, ⟨114, _⟩ => ⟨S4x16x128x2048, .bf16⟩
  | .hbm, ⟨115, _⟩ => ⟨S4x16x128x2048, .bf16⟩
  | .hbm, ⟨116, _⟩ => ⟨S4x16x128x2048, .f32⟩
  | .hbm, ⟨117, _⟩ => ⟨S4x16x128x2048, .bf16⟩
  | .hbm, ⟨118, _⟩ => ⟨S4x16x128x2048, .bf16⟩
  | .hbm, ⟨119, _⟩ => ⟨S4x16x128x2048, .bf16⟩
  | .local _ .vmem, ⟨0, _⟩ => ⟨S4x1x128x128, .bf16⟩
  | .local _ .vmem, ⟨1, _⟩ => ⟨S4x1x128x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S4x1x128x128, .bf16⟩
  | .local _ .vmem, ⟨5, _⟩ => ⟨S4x1x128x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S4x1x128x128, .bf16⟩
  | .local _ .vmem, ⟨9, _⟩ => ⟨S4x1x128x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S4x1x128x128, .bf16⟩
  | .local _ .vmem, ⟨13, _⟩ => ⟨S4x1x128x128, .bf16⟩
  | .local _ .vmem, ⟨14, _⟩ => ⟨S1x1x128x128, .bf16⟩
  | .local _ .vmem, ⟨15, _⟩ => ⟨S1x1x128x128, .bf16⟩
  | .local _ .vmem, ⟨16, _⟩ => ⟨S4x1x128x128, .bf16⟩
  | .local _ .vmem, ⟨17, _⟩ => ⟨S4x1x128x128, .bf16⟩
  | .local _ .vmem, ⟨18, _⟩ => ⟨S1x1x128x128, .bf16⟩
  | .local _ .vmem, ⟨19, _⟩ => ⟨S1x1x128x128, .bf16⟩
  | .local _ .vmem, ⟨20, _⟩ => ⟨S4x1x128x128, .f32⟩
  | .local _ .vmem, ⟨21, _⟩ => ⟨S4x1x128x128, .f32⟩
  | .local _ .vmem, ⟨22, _⟩ => ⟨S1x1x128x128, .f32⟩
  | .local _ .vmem, ⟨23, _⟩ => ⟨S1x1x128x128, .f32⟩
  | .local _ .vmem, ⟨24, _⟩ => ⟨S4x1x128x128, .bf16⟩
  | .local _ .vmem, ⟨25, _⟩ => ⟨S4x1x128x128, .bf16⟩
  | .local _ .vmem, ⟨26, _⟩ => ⟨S4x1x128x128, .bf16⟩
  | .local _ .vmem, ⟨27, _⟩ => ⟨S4x1x128x128, .bf16⟩
  | .local _ .vmem, ⟨28, _⟩ => ⟨S4x1x128x128, .bf16⟩
  | .local _ .vmem, ⟨29, _⟩ => ⟨S4x1x128x128, .bf16⟩
  | .local _ .vmem, ⟨30, _⟩ => ⟨S640x128, .bf16⟩
  | .local _ .vmem, ⟨31, _⟩ => ⟨S640x128, .bf16⟩
  | .local _ .vmem, ⟨32, _⟩ => ⟨S2x256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100_0 : Ref sig .tc := ⟨.hbm, 117, rfl⟩
abbrev main_v100_1 : Ref sig .tc := ⟨.hbm, 118, rfl⟩
abbrev main_v100_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![1, 16, 16], ![false, false, false]⟩

def k0_off1 (i : grid0.Coords) (v_true : BitVec 1) : Fin 3 → Nat :=
  let arg0 : BitVec 32 := BitVec.ofNat 32 (i 0).val
  let c0_i32_56 : BitVec 32 := 0#32
  let v64 : BitVec 1 := Scalar.cmpi .eq arg0 c0_i32_56
  let v65 : BitVec 1 := Scalar.andi v64 v_true
  let v66 : BitVec 32 := Scalar.extui v65
  let v89 : Index := Scalar.indexCast v66
  let c0_73 : Index := 0#32
  let c0_74 : Index := 0#32
  ![v89.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![v2.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, arg1.toNat, c0_i32_5.toNat, v16.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.divsi arg2 c1_i32_0
  let c0_i32_1 : BitVec 32 := 0#32
  let v4 : BitVec 1 := Scalar.cmpi .sgt arg2 c0_i32_1
  let v5 : BitVec 32 := Scalar.extui v4
  let c0_i32_2 : BitVec 32 := 0#32
  let v6 : BitVec 1 := Scalar.cmpi .slt arg2 c0_i32_2
  let v7 : BitVec 32 := Scalar.extui v6
  let v8 : BitVec 32 := Scalar.subi v5 v7
  let c0_i32_3 : BitVec 32 := 0#32
  let v9 : BitVec 1 := Scalar.cmpi .sgt c1_i32_0 c0_i32_3
  let v10 : BitVec 32 := Scalar.extui v9
  let c0_i32_4 : BitVec 32 := 0#32
  let v11 : BitVec 1 := Scalar.cmpi .slt c1_i32_0 c0_i32_4
  let v12 : BitVec 32 := Scalar.extui v11
  let v13 : BitVec 32 := Scalar.subi v10 v12
  let v14 : BitVec 1 := Scalar.cmpi .ne v8 v13
  let v15 : BitVec 32 := Scalar.remsi arg2 c1_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let c0_i32_8 : BitVec 32 := 0#32
  ![v2.toNat, arg1.toNat, c0_i32_7.toNat, v19.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, arg1.toNat, c0_i32_5.toNat, v16.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.divsi arg2 c1_i32_0
  let c0_i32_1 : BitVec 32 := 0#32
  let v4 : BitVec 1 := Scalar.cmpi .sgt arg2 c0_i32_1
  let v5 : BitVec 32 := Scalar.extui v4
  let c0_i32_2 : BitVec 32 := 0#32
  let v6 : BitVec 1 := Scalar.cmpi .slt arg2 c0_i32_2
  let v7 : BitVec 32 := Scalar.extui v6
  let v8 : BitVec 32 := Scalar.subi v5 v7
  let c0_i32_3 : BitVec 32 := 0#32
  let v9 : BitVec 1 := Scalar.cmpi .sgt c1_i32_0 c0_i32_3
  let v10 : BitVec 32 := Scalar.extui v9
  let c0_i32_4 : BitVec 32 := 0#32
  let v11 : BitVec 1 := Scalar.cmpi .slt c1_i32_0 c0_i32_4
  let v12 : BitVec 32 := Scalar.extui v11
  let v13 : BitVec 32 := Scalar.subi v10 v12
  let v14 : BitVec 1 := Scalar.cmpi .ne v8 v13
  let v15 : BitVec 32 := Scalar.remsi arg2 c1_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let c0_i32_8 : BitVec 32 := 0#32
  ![v2.toNat, arg1.toNat, c0_i32_7.toNat, v19.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![v2.toNat, arg1.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![v2.toNat, arg1.toNat, c0_i32.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![v2.toNat, arg1.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, arg1.toNat, c0_i32_5.toNat, v16.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, arg1.toNat, c0_i32_5.toNat, v16.toNat]

abbrev stage0_0 : Fin 2 → Memref sig .tc .vmem S4x1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S4x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S4x1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S4x1x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S4x1x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x32x64 : Shape := ⟨3, ![8192, 32, 64]⟩
abbrev S8192x32 : Shape := ⟨2, ![8192, 32]⟩
abbrev S512x16x32x64 : Shape := ⟨4, ![512, 16, 32, 64]⟩
abbrev S16x512x32x64 : Shape := ⟨4, ![16, 512, 32, 64]⟩
abbrev S16x32x512x512 : Shape := ⟨4, ![16, 32, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x32x512 : Shape := ⟨3, ![16, 32, 512]⟩
abbrev S16x32x512x1 : Shape := ⟨4, ![16, 32, 512, 1]⟩
abbrev S16x32x64x512 : Shape := ⟨4, ![16, 32, 64, 512]⟩
abbrev S512x16x32 : Shape := ⟨3, ![512, 16, 32]⟩
abbrev S8192x32x1 : Shape := ⟨3, ![8192, 32, 1]⟩
abbrev S16x32x512x64 : Shape := ⟨4, ![16, 32, 512, 64]⟩
abbrev S4x128x16x2048 : Shape := ⟨4, ![4, 128, 16, 2048]⟩
abbrev S4x16x128x2048 : Shape := ⟨4, ![4, 16, 128, 2048]⟩

abbrev nBuf : Space → Nat
  | .hbm => 191
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x32x64, .f32⟩
  | 4 => ⟨S8192x32, .f32⟩
  | 5 => ⟨S8192x32x64, .f32⟩
  | 6 => ⟨S8192x32, .f32⟩
  | 7 => ⟨S8192x32x64, .f32⟩
  | 8 => ⟨S512x16x32x64, .f32⟩
  | 9 => ⟨S16x512x32x64, .f32⟩
  | 10 => ⟨S512x16x32x64, .f32⟩
  | 11 => ⟨S16x512x32x64, .f32⟩
  | 12 => ⟨S512x16x32x64, .f32⟩
  | 13 => ⟨S16x512x32x64, .f32⟩
  | 14 => ⟨S16x32x512x512, .f32⟩
  | 15 => ⟨S_, .f32⟩
  | 16 => ⟨S16x32x512x512, .f32⟩
  | 17 => ⟨S16x32x512x512, .f32⟩
  | 18 => ⟨S512, .i32⟩
  | 19 => ⟨S512x1, .i32⟩
  | 20 => ⟨S1x512, .i32⟩
  | 21 => ⟨S512x512, .i32⟩
  | 22 => ⟨S512x512, .i32⟩
  | 23 => ⟨S512x512, .i32⟩
  | 24 => ⟨S_, .i32⟩
  | 25 => ⟨S512x512, .i32⟩
  | 26 => ⟨S512x512, .i1⟩
  | 27 => ⟨S_, .i32⟩
  | 28 => ⟨S512x512, .i32⟩
  | 29 => ⟨S512x512, .i1⟩
  | 30 => ⟨S512x512, .i1⟩
  | 31 => ⟨S_, .f32⟩
  | 32 => ⟨S_, .f32⟩
  | 33 => ⟨S16x32x512x512, .i1⟩
  | 34 => ⟨S16x32x512x512, .f32⟩
  | 35 => ⟨S16x32x512x512, .f32⟩
  | 36 => ⟨S_, .f32⟩
  | 37 => ⟨S16x32x512x512, .f32⟩
  | 38 => ⟨S_, .f32⟩
  | 39 => ⟨S16x32x512, .f32⟩
  | 40 => ⟨S16x32x512x1, .f32⟩
  | 41 => ⟨S16x32x512x512, .f32⟩
  | 42 => ⟨S16x32x512x512, .i1⟩
  | 43 => ⟨S16x32x512x512, .f32⟩
  | 44 => ⟨S_, .f32⟩
  | 45 => ⟨S16x32x512, .f32⟩
  | 46 => ⟨S16x32x512x1, .f32⟩
  | 47 => ⟨S16x32x512x512, .f32⟩
  | 48 => ⟨S16x32x512x512, .f32⟩
  | 49 => ⟨S16x32x512x512, .f32⟩
  | 50 => ⟨S_, .f32⟩
  | 51 => ⟨S16x32x512, .f32⟩
  | 52 => ⟨S16x32x512, .f32⟩
  | 53 => ⟨S16x32x512, .f32⟩
  | 54 => ⟨S16x32x512x1, .f32⟩
  | 55 => ⟨S16x32x512x512, .f32⟩
  | 56 => ⟨S16x32x512x512, .f32⟩
  | 57 => ⟨S16x32x512x512, .f32⟩
  | 58 => ⟨S16x32x64x512, .f32⟩
  | 59 => ⟨S16x512x32x64, .f32⟩
  | 60 => ⟨S512x16x32x64, .f32⟩
  | 61 => ⟨S8192x32x64, .f32⟩
  | 62 => ⟨S512x16x32, .f32⟩
  | 63 => ⟨S8192x32, .f32⟩
  | 64 => ⟨S8192x32, .f32⟩
  | 65 => ⟨S8192x32, .f32⟩
  | 66 => ⟨S8192x32, .i1⟩
  | 67 => ⟨S8192x32, .i1⟩
  | 68 => ⟨S_, .f32⟩
  | 69 => ⟨S8192x32, .f32⟩
  | 70 => ⟨S_, .f32⟩
  | 71 => ⟨S8192x32, .f32⟩
  | 72 => ⟨S_, .f32⟩
  | 73 => ⟨S8192x32, .f32⟩
  | 74 => ⟨S8192x32, .f32⟩
  | 75 => ⟨S8192x32, .f32⟩
  | 76 => ⟨S8192x32, .f32⟩
  | 77 => ⟨S8192x32, .f32⟩
  | 78 => ⟨S8192x32, .f32⟩
  | 79 => ⟨S8192x32, .f32⟩
  | 80 => ⟨S8192x32, .f32⟩
  | 81 => ⟨S8192x32, .f32⟩
  | 82 => ⟨S8192x32, .f32⟩
  | 83 => ⟨S8192x32, .f32⟩
  | 84 => ⟨S8192x32, .f32⟩
  | 85 => ⟨S8192x32, .f32⟩
  | 86 => ⟨S_, .f32⟩
  | 87 => ⟨S8192x32, .f32⟩
  | 88 => ⟨S8192x32, .f32⟩
  | 89 => ⟨S8192x32, .f32⟩
  | 90 => ⟨S8192x32, .f32⟩
  | 91 => ⟨S_, .f32⟩
  | 92 => ⟨S8192x32, .f32⟩
  | 93 => ⟨S8192x32, .f32⟩
  | 94 => ⟨S8192x32, .f32⟩
  | 95 => ⟨S8192x32, .f32⟩
  | 96 => ⟨S_, .f32⟩
  | 97 => ⟨S8192x32, .f32⟩
  | 98 => ⟨S8192x32, .f32⟩
  | 99 => ⟨S8192x32x1, .f32⟩
  | 100 => ⟨S8192x32x64, .f32⟩
  | 101 => ⟨S8192x32x64, .f32⟩
  | 102 => ⟨S8192x32x1, .f32⟩
  | 103 => ⟨S8192x32x64, .f32⟩
  | 104 => ⟨S8192x32x64, .f32⟩
  | 105 => ⟨S8192x32x64, .f32⟩
  | 106 => ⟨S8192x32x1, .f32⟩
  | 107 => ⟨S8192x32x64, .f32⟩
  | 108 => ⟨S8192x32x64, .f32⟩
  | 109 => ⟨S8192x32x64, .f32⟩
  | 110 => ⟨S8192x32x64, .f32⟩
  | 111 => ⟨S8192x32x64, .f32⟩
  | 112 => ⟨S8192x32x64, .f32⟩
  | 113 => ⟨S8192x32x64, .f32⟩
  | 114 => ⟨S8192x32x64, .f32⟩
  | 115 => ⟨S_, .f32⟩
  | 116 => ⟨S8192x32, .f32⟩
  | 117 => ⟨S8192x32x1, .f32⟩
  | 118 => ⟨S_, .f32⟩
  | 119 => ⟨S8192x32, .f32⟩
  | 120 => ⟨S8192x32x64, .f32⟩
  | 121 => ⟨S_, .f32⟩
  | 122 => ⟨S8192x32, .f32⟩
  | 123 => ⟨S8192x32x1, .f32⟩
  | 124 => ⟨S_, .f32⟩
  | 125 => ⟨S8192x32, .f32⟩
  | 126 => ⟨S8192x32x64, .f32⟩
  | 127 => ⟨S_, .f32⟩
  | _ => ⟨S8192x2048, .f32⟩

abbrev hbmTy0_1 (i : Nat) : BufTy := match i % 128 with
  | 0 => ⟨S8192x32, .f32⟩
  | 1 => ⟨S8192x32x1, .f32⟩
  | 2 => ⟨S_, .f32⟩
  | 3 => ⟨S8192x32, .f32⟩
  | 4 => ⟨S8192x32, .f32⟩
  | 5 => ⟨S8192x32, .f32⟩
  | 6 => ⟨S8192x32, .f32⟩
  | 7 => ⟨S8192x32, .f32⟩
  | 8 => ⟨S8192x32, .f32⟩
  | 9 => ⟨S8192x32, .f32⟩
  | 10 => ⟨S8192x32, .f32⟩
  | 11 => ⟨S8192x32, .f32⟩
  | 12 => ⟨S8192x32, .f32⟩
  | 13 => ⟨S8192x32, .f32⟩
  | 14 => ⟨S8192x32, .f32⟩
  | 15 => ⟨S8192x32, .f32⟩
  | 16 => ⟨S8192x32, .f32⟩
  | 17 => ⟨S8192x32, .f32⟩
  | 18 => ⟨S512x16x32, .f32⟩
  | 19 => ⟨S16x32x512, .f32⟩
  | 20 => ⟨S512x16x32x64, .f32⟩
  | 21 => ⟨S16x512x32x64, .f32⟩
  | 22 => ⟨S16x32x64x512, .f32⟩
  | 23 => ⟨S16x32x512x512, .f32⟩
  | 24 => ⟨S16x32x64x512, .f32⟩
  | 25 => ⟨S16x512x32x64, .f32⟩
  | 26 => ⟨S16x32x512x512, .f32⟩
  | 27 => ⟨S16x32x512x512, .f32⟩
  | 28 => ⟨S_, .f32⟩
  | 29 => ⟨S16x32x512, .f32⟩
  | 30 => ⟨S16x32x512x1, .f32⟩
  | 31 => ⟨S_, .f32⟩
  | 32 => ⟨S16x32x512, .f32⟩
  | 33 => ⟨S16x32x512, .f32⟩
  | 34 => ⟨S16x32x512, .f32⟩
  | 35 => ⟨S16x32x512x512, .f32⟩
  | 36 => ⟨S16x32x512x512, .f32⟩
  | 37 => ⟨S16x32x512x512, .f32⟩
  | 38 => ⟨S_, .f32⟩
  | 39 => ⟨S16x32x512x512, .f32⟩
  | 40 => ⟨S16x32x512x512, .f32⟩
  | 41 => ⟨S_, .f32⟩
  | 42 => ⟨S16x32x512x512, .f32⟩
  | 43 => ⟨S16x32x512x512, .f32⟩
  | 44 => ⟨S16x32x512x64, .f32⟩
  | 45 => ⟨S16x512x32x64, .f32⟩
  | 46 => ⟨S16x32x512x64, .f32⟩
  | 47 => ⟨S16x512x32x64, .f32⟩
  | 48 => ⟨S512x16x32x64, .f32⟩
  | 49 => ⟨S8192x2048, .f32⟩
  | 50 => ⟨S512x16x32x64, .f32⟩
  | 51 => ⟨S8192x2048, .f32⟩
  | 52 => ⟨S512x16x32x64, .f32⟩
  | 53 => ⟨S8192x2048, .f32⟩
  | 54 => ⟨S8192x2048, .bf16⟩
  | 55 => ⟨S4x128x16x2048, .bf16⟩
  | 56 => ⟨S4x16x128x2048, .bf16⟩
  | 57 => ⟨S8192x2048, .bf16⟩
  | 58 => ⟨S4x128x16x2048, .bf16⟩
  | 59 => ⟨S4x16x128x2048, .bf16⟩
  | 60 => ⟨S8192x2048, .bf16⟩
  | 61 => ⟨S4x128x16x2048, .bf16⟩
  | 62 => ⟨S4x16x128x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_call0_v0 : Ref sig .tc := ⟨.hbm, 32, rfl⟩
abbrev main_v20_1 : Ref sig .tc := ⟨.hbm, 33, rfl⟩
abbrev main_call0_v2 : Ref sig .tc := ⟨.hbm, 34, rfl⟩
abbrev main_v20_0 : Ref sig .tc := ⟨.hbm, 35, rfl⟩
abbrev main_call0_cst : Ref sig .tc := ⟨.hbm, 36, rfl⟩
abbrev main_v20_2 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_cst_12 : Ref sig .tc := ⟨.hbm, 118, rfl⟩
abbrev main_v91 : Ref sig .tc := ⟨.hbm, 119, rfl⟩
abbrev main_v92 : Ref sig .tc := ⟨.hbm, 120, rfl⟩
abbrev main_cst_13 : Ref sig .tc := ⟨.hbm, 121, rfl⟩
abbrev main_v93 : Ref sig .tc := ⟨.hbm, 122, rfl⟩
abbrev main_v94 : Ref sig .tc := ⟨.hbm, 123, rfl⟩
abbrev main_cst_14 : Ref sig .tc := ⟨.hbm, 124, rfl⟩
abbrev main_v95 : Ref sig .tc := ⟨.hbm, 125, rfl⟩
abbrev main_v96 : Ref sig .tc := ⟨.hbm, 126, rfl⟩
abbrev main_cst_15 : Ref sig .tc := ⟨.hbm, 127, rfl⟩
abbrev main_v97 : Ref sig .tc := ⟨.hbm, 128, rfl⟩
abbrev main_v98 : Ref sig .tc := ⟨.hbm, 129, rfl⟩
abbrev main_cst_16 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_17 : Ref sig .tc := ⟨.hbm, 156, rfl⟩
abbrev main_v124 : Ref sig .tc := ⟨.hbm, 157, rfl⟩
abbrev main_v125 : Ref sig .tc := ⟨.hbm, 158, rfl⟩
abbrev main_cst_18 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_call1_cst : Ref sig .tc := ⟨.hbm, 166, rfl⟩
abbrev main_call1_v0 : Ref sig .tc := ⟨.hbm, 167, rfl⟩
abbrev main_v132 : Ref sig .tc := ⟨.hbm, 168, rfl⟩
abbrev main_cst_19 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x2048 : Shape := ⟨2, ![8192, 2048]⟩
abbrev S1024x6144 : Shape := ⟨2, ![1024, 6144]⟩
abbrev S6144x1024 : Shape := ⟨2, ![6144, 1024]⟩
abbrev S8192x1024 : Shape := ⟨2, ![8192, 1024]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1024x6144, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S1024x6144, .bf16⟩
  | .hbm, ⟨8, _⟩ => ⟨S6144x1024, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 6], ![false, false, false]⟩

def k0_cond5 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x2048 : Shape := ⟨2, ![8192, 2048]⟩
abbrev S1024x6144 : Shape := ⟨2, ![1024, 6144]⟩
abbrev S_ : Shape := ⟨0, ![]⟩
abbrev S8192x1024 : Shape := ⟨2, ![8192, 1024]⟩
abbrev S1024x2048 : Shape := ⟨2, ![1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1024x6144, .f32⟩
  | .hbm, ⟨4, _⟩ => ⟨S_, .f32⟩
  | .hbm, ⟨5, _⟩ => ⟨S8192x1024, .f32⟩
  | .hbm, ⟨6, _⟩ => ⟨S1024x2048, .f32⟩
  | .hbm, ⟨7, _⟩ => ⟨S8192x2048, .f32⟩
  | .hbm, ⟨8, _⟩ => ⟨S1024x2048, .f32⟩
  | .hbm, ⟨9, _⟩ => ⟨S8192x2048, .f32⟩
  | .hbm, ⟨10, _⟩ => ⟨S1024x2048, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S8192x2048 : Shape := ⟨2, ![8192, 2048]⟩
abbrev S1024x4096 : Shape := ⟨2, ![1024, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1024x4096, .f32⟩
  | .hbm, ⟨3, _⟩ => ⟨S8192x2048, .bf16⟩
  | .hbm, ⟨4, _⟩ => ⟨S8192x2048, .bf16⟩
  | .hbm, ⟨5, _⟩ => ⟨S1024x4096, .bf16⟩
  | .hbm, ⟨6, _⟩ => ⟨S4096x1024, .bf16⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x2048 : Shape := ⟨2, ![8192, 2048]⟩
abbrev S1024x4096 : Shape := ⟨2, ![1024, 4096]⟩
abbrev S_ : Shape := ⟨0, ![]⟩
abbrev S8192x1024 : Shape := ⟨2, ![8192, 1024]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1024x4096, .f32⟩
  | .hbm, ⟨3, _⟩ => ⟨S_, .f32⟩
  | .hbm, ⟨4, _⟩ => ⟨S8192x1024, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S1024x2048 : Shape := ⟨2, ![1024, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S2048x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S2048x1024 : Shape := ⟨2, ![2048, 1024]⟩
abbrev S8192x2048 : Shape := ⟨2, ![8192, 2048]⟩
abbrev S2048 : Shape := ⟨1, ![2048]⟩
abbrev S1024x2048 : Shape := ⟨2, ![1024, 2048]⟩
abbrev S1x2048 : Shape := ⟨2, ![1, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x1024, .bf16⟩
  | .hbm, ⟨6, _⟩ => ⟨S2048x1024, .bf16⟩
  | .hbm, ⟨7, _⟩ => ⟨S1024x2048, .bf16⟩
  | .hbm, ⟨8, _⟩ => ⟨S8192x2048, .bf16⟩
  | .hbm, ⟨9, _⟩ => ⟨S8192x2048, .bf16⟩
  | .hbm, ⟨10, _⟩ => ⟨S1x2048, .f32⟩
  | .hbm, ⟨11, _⟩ => ⟨S8192x2048, .bf16⟩
  | .hbm, ⟨12, _⟩ => ⟨S8192x2048, .bf16⟩
  | .hbm, ⟨13, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S8192x1024 : Shape := ⟨2, ![8192, 1024]⟩
abbrev S2048x1024 : Shape := ⟨2, ![2048, 1024]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S8192x2048, .bf16⟩
  | .hbm, ⟨39, _⟩ => ⟨S8192x2048, .bf16⟩
  | .hbm, ⟨40, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Kernel9.lean ====
abbrev S8192x2048 : Shape := ⟨2, ![8192, 2048]⟩
abbrev S2048x1024 : Shape := ⟨2, ![2048, 1024]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1024, .f32⟩
  | .hbm, ⟨4, _⟩ => ⟨S8192x2048, .bf16⟩
  | .hbm, ⟨5, _⟩ => ⟨S2048x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x2048 : Shape := ⟨2, ![8192, 2048]⟩
abbrev S2048x1024 : Shape := ⟨2, ![2048, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel10.lean ====
abbrev S8192x2048 : Shape := ⟨2, ![8192, 2048]⟩
abbrev S8192x512 : Shape := ⟨2, ![8192, 512]⟩
abbrev S1024x5120 : Shape := ⟨2, ![1024, 5120]⟩
abbrev S5120x1024 : Shape := ⟨2, ![5120, 1024]⟩
abbrev S8192x1024 : Shape := ⟨2, ![8192, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S1024x5120, .f32⟩
  | .hbm, ⟨5, _⟩ => ⟨S8192x2048, .bf16⟩
  | .hbm, ⟨6, _⟩ => ⟨S8192x512, .bf16⟩
  | .hbm, ⟨7, _⟩ => ⟨S8192x512, .bf16⟩
  | .hbm, ⟨8, _⟩ => ⟨S8192x2048, .bf16⟩
  | .hbm, ⟨9, _⟩ => ⟨S1024x5120, .bf16⟩
  | .hbm, ⟨10, _⟩ => ⟨S5120x1024, .bf16⟩
  | .hbm, ⟨11, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 10], ![false, false, false]⟩

def k0_cond6 (i : grid0.Coords) : BitVec 1 :=
  let arg2 : BitVec 32 := BitVec.ofNat 32 (i 2).val
  let c9_i32 : BitVec 32 := 9#32
  let v23 : BitVec 1 := Scalar.cmpi .eq arg2 c9_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S8192x2048 : Shape := ⟨2, ![8192, 2048]⟩
abbrev S8192x512 : Shape := ⟨2, ![8192, 512]⟩
abbrev S1024x5120 : Shape := ⟨2, ![1024, 5120]⟩
abbrev S_ : Shape := ⟨0, ![]⟩
abbrev S8192x1024 : Shape := ⟨2, ![8192, 1024]⟩
abbrev S8192x5120 : Shape := ⟨2, ![8192, 5120]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S1024x5120, .f32⟩
  | .hbm, ⟨5, _⟩ => ⟨S_, .f32⟩
  | .hbm, ⟨6, _⟩ => ⟨S8192x1024, .f32⟩
  | .hbm, ⟨7, _⟩ => ⟨S8192x5120, .f32⟩
  | .hbm, ⟨8, _⟩ => ⟨S8192x2048, .f32⟩
  | .hbm, ⟨9, _⟩ => ⟨S8192x512, .f32⟩
  | .hbm, ⟨10, _⟩ => ⟨S8192x512, .f32⟩
  | .hbm, ⟨11, _⟩ => ⟨S8192x2048, .f32⟩
  | .hbm, ⟨12, _⟩ => ⟨S_, .f32⟩
  | .hbm, ⟨13, _⟩ => ⟨S8192x5120, .f32⟩
  | .hbm, ⟨14, _⟩ => ⟨S_, .f32⟩
  | .hbm, ⟨15, _⟩ => ⟨S8192x5120, .f32⟩
  | .hbm, ⟨16, _⟩ => ⟨S8192x5120, .f32⟩
  | .hbm, ⟨17, _⟩ => ⟨S_, .f32⟩
  | .hbm, ⟨18, _⟩ => ⟨S8192x5120, .f32⟩
  | .hbm, ⟨19, _⟩ => ⟨S8192x5120, .f32⟩
  | .hbm, ⟨20, _⟩ => ⟨S_, .f32⟩
  | .hbm, ⟨21, _⟩ => ⟨S8192x5120, .f32⟩
  | .hbm, ⟨22, _⟩ => ⟨S8192x5120, .f32⟩
  | .hbm, ⟨23, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel11.lean ====
abbrev S8192x1024 : Shape := ⟨2, ![8192, 1024]⟩
abbrev S2048x1024 : Shape := ⟨2, ![2048, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x2048, .f32⟩
  | .hbm, ⟨3, _⟩ => ⟨S8192x2048, .f32⟩
  | .hbm, ⟨4, _⟩ => ⟨S8192x1024, .bf16⟩
  | .hbm, ⟨5, _⟩ => ⟨S2048x1024, .bf16⟩
  | .hbm, ⟨6, _⟩ => ⟨S1024x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8192x1024 : Shape := ⟨2, ![8192, 1024]⟩
abbrev S2048x1024 : Shape := ⟨2, ![2048, 1024]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel12.lean ====
abbrev S8192x2048 : Shape := ⟨2, ![8192, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S4x512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .f32⟩
  | .local _ .vmem, ⟨5, _⟩ => ⟨S1x512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x2048 : Shape := ⟨2, ![8192, 2048]⟩
abbrev S8192x4x512 : Shape := ⟨3, ![8192, 4, 512]⟩
abbrev S_ : Shape := ⟨0, ![]⟩
abbrev S4x512x512 : Shape := ⟨3, ![4, 512, 512]⟩
abbrev S4x512x8192 : Shape := ⟨3, ![4, 512, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x4x512, .f32⟩
  | .hbm, ⟨3, _⟩ => ⟨S8192x4x512, .f32⟩
  | .hbm, ⟨4, _⟩ => ⟨S_, .f32⟩
  | .hbm, ⟨5, _⟩ => ⟨S4x512x512, .f32⟩
  | .hbm, ⟨6, _⟩ => ⟨S4x512x8192, .f32⟩
  | .hbm, ⟨7, _⟩ => ⟨S8192x4x512, .f32⟩
  | .hbm, ⟨8, _⟩ => ⟨S4x512x8192, .f32⟩
  | .hbm, ⟨9, _⟩ => ⟨S4x512x512, .f32⟩
  | .hbm, ⟨10, _⟩ => ⟨S4x512x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | .hbm, ⟨7, _⟩ => ⟨S1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S4x512x512 : Shape := ⟨3, ![4, 512, 512]⟩
abbrev S2048 : Shape := ⟨1, ![2048]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S8192x2048, .bf16⟩
  | .hbm, ⟨5, _⟩ => ⟨S4x512x512, .bf16⟩
  | .hbm, ⟨6, _⟩ => ⟨S1x2048, .f32⟩
  | .hbm, ⟨7, _⟩ => ⟨S8192x2048, .bf16⟩
  | .hbm, ⟨8, _⟩ => ⟨S8192x2048, .bf16⟩
  | .hbm, ⟨9, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S8192x2048 : Shape := ⟨2, ![8192, 2048]⟩
abbrev S4x512x512 : Shape := ⟨3, ![4, 512, 512]⟩
abbrev S2048 : Shape := ⟨1, ![2048]⟩
abbrev S8192x4x512 : Shape := ⟨3, ![8192, 4, 512]⟩
abbrev S4x512x8192 : Shape := ⟨3, ![4, 512, 8192]⟩
abbrev S1x2048 : Shape := ⟨2, ![1, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S8192x4x512, .f32⟩
  | .hbm, ⟨5, _⟩ => ⟨S4x512x8192, .f32⟩
  | .hbm, ⟨6, _⟩ => ⟨S8192x4x512, .f32⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel16.lean ====
abbrev S8192x2048 : Shape := ⟨2, ![8192, 2048]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8192x2048 : Shape := ⟨2, ![8192, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel17.lean ====
abbrev S8192x1024 : Shape := ⟨2, ![8192, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S1024x1024 : Shape := ⟨2, ![1024, 1024]⟩
abbrev S4x1024x1024 : Shape := ⟨3, ![4, 1024, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S4x1024x1024, .f32⟩
  | .hbm, ⟨2, _⟩ => ⟨S1024x1024, .f32⟩
  | .hbm, ⟨3, _⟩ => ⟨S1024x1024, .f32⟩
  | .hbm, ⟨4, _⟩ => ⟨S4x1024x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1024x1024 : Shape := ⟨2, ![1024, 1024]⟩
abbrev S4x1024x1024 : Shape := ⟨3, ![4, 1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4x1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-! ## One query block of the backward pass

The four query blocks of a stream go through the same operations: the definitions below name them once, over the block's own
operands (`q`, `dO`, `y`, `l`: the queries, the output's gradient, the merged output, the row log-sums), the window of keys
`kx` and values `vx` (the block before it and the block itself) and the mask `bs`. The two heads of a lane pair are stacked
along the rows. -/

abbrev Tile (F : FTy → Type) := Vec F S1x1x128x128 .bf16

def score (q : Tile F) (kx : Vec F S256x128 .bf16) (bs : Vec F S1x256x256 .f32) : FVec F S256x256 .f32 :=
  k0_pay28 (k0_pay26 k0_pay17 q) kx bs
def dprob (dO : Tile F) (vx : Vec F S256x128 .bf16) : FVec F S256x256 .f32 := k0_pay29 (k0_pay27 k0_pay17 dO) vx
def delta (dO y : Tile F) : FVec F S256x1 .f32 := k0_pay44 k0_pay17 dO y
def rowLse (l : Vec F S1x1x128x128 .f32) : FVec F S256x1 .f32 := k0_pay45 k0_pay17 k0_pay18 l
/-- The gradient of the keys this block's queries contribute, transposed: lanes along the rows, the window's keys along the columns. -/
def dkT (q dO y : Tile F) (l : Vec F S1x1x128x128 .f32) (kx vx : Vec F S256x128 .bf16) (bs : Vec F S1x256x256 .f32) : FVec F S128x256 .f32 :=
  k0_pay48 k0_pay19 (score q kx bs) (dprob dO vx) (k0_pay42 q) (delta dO y) (rowLse l)
def dvT (q dO : Tile F) (l : Vec F S1x1x128x128 .f32) (kx : Vec F S256x128 .bf16) (bs : Vec F S1x256x256 .f32) : FVec F S128x256 .f32 :=
  k0_pay49 k0_pay19 (score q kx bs) (k0_pay43 dO) (rowLse l)
def dqTile (q dO y : Tile F) (l : Vec F S1x1x128x128 .f32) (kx vx : Vec F S256x128 .bf16) (bs : Vec F S1x256x256 .f32) : Tile F :=
  k0_pay53 k0_pay17 (k0_pay52 (score q kx bs) (dprob dO vx) (delta dO y) (rowLse l) kx)
/-- A key block's gradient: what its own queries and the next block's contribute. -/
def joinTile (own next : FVec F S128x256 .f32) : Tile F :=
  shapeCast S1x1x128x128 (truncf .bf16 (transpose S128x128 [1, 0] (addf (k0_pay40 own) (extractStridedSlice S128x128 ![0, 0] next slices_S128x256_o0_0_S128x128)) transposes_S128x128_p1_0_S128x128) bitsLt_bf16_f32) shapeCasts_S128x128_S1x1x128x128
/-- The last key block's: no later block reads it. -/
def lastTile (own : FVec F S128x256 .f32) : Tile F := k0_pay93 own

/-! ## The blocks, the window scratch and the outputs of a grid point -/

abbrev rT0 : Rect S4x1x128x128 := Rect.unit (s := S4x1x128x128) ![0, 0, 0, 0] S1x1x128x128.size inb_S4x1x128x128_S1x1x128x128_0_0_0_0
abbrev rT1 : Rect S4x1x128x128 := Rect.unit (s := S4x1x128x128) ![1, 0, 0, 0] S1x1x128x128.size inb_S4x1x128x128_S1x1x128x128_1_0_0_0
abbrev rT2 : Rect S4x1x128x128 := Rect.unit (s := S4x1x128x128) ![2, 0, 0, 0] S1x1x128x128.size inb_S4x1x128x128_S1x1x128x128_2_0_0_0
abbrev rT3 : Rect S4x1x128x128 := Rect.unit (s := S4x1x128x128) ![3, 0, 0, 0] S1x1x128x128.size inb_S4x1x128x128_S1x1x128x128_3_0_0_0
abbrev rH : Rect S1x1x128x128 := Rect.unit (s := S1x1x128x128) ![0, 0, 0, 0] S1x1x128x128.size inb_S1x1x128x128_S1x1x128x128_0_0_0_0
abbrev rW0 : Rect S640x128 := Rect.unit (s := S640x128) ![0, 0] S128x128.size inb_S640x128_S128x128_0_0
abbrev rW1 : Rect S640x128 := Rect.unit (s := S640x128) ![128, 0] S128x128.size inb_S640x128_S128x128_128_0
abbrev rW2 : Rect S640x128 := Rect.unit (s := S640x128) ![256, 0] S128x128.size inb_S640x128_S128x128_256_0
abbrev rW3 : Rect S640x128 := Rect.unit (s := S640x128) ![384, 0] S128x128.size inb_S640x128_S128x128_384_0
abbrev rW4 : Rect S640x128 := Rect.unit (s := S640x128) ![512, 0] S128x128.size inb_S640x128_S128x128_512_0
abbrev rX0 : Rect S640x128 := Rect.unit (s := S640x128) ![0, 0] S256x128.size inb_S640x128_S256x128_0_0
abbrev rX1 : Rect S640x128 := Rect.unit (s := S640x128) ![128, 0] S256x128.size inb_S640x128_S256x128_128_0
abbrev rX2 : Rect S640x128 := Rect.unit (s := S640x128) ![256, 0] S256x128.size inb_S640x128_S256x128_256_0
abbrev rX3 : Rect S640x128 := Rect.unit (s := S640x128) ![384, 0] S256x128.size inb_S640x128_S256x128_384_0
abbrev rM (i : grid0.Coords) (f : BitVec 1) (h : ∀ a, (k0_off1 i f) a + S1x256x256.size a ≤ S2x256x256.size a) : Rect S2x256x256 :=
  Rect.unit (s := S2x256x256) (k0_off1 i f) S1x256x256.size h

/-- The window scratch: the block before the four, then the four. -/
def window (x : Vec F S4x1x128x128 .bf16) (h : Vec F S1x1x128x128 .bf16) : Vec F S640x128 .bf16 :=
  View.canon [⟨rW4, k0_pay10 (View.ld x rT3)⟩, ⟨rW3, k0_pay9 (k0_pay8 (View.ld x rT2))⟩, ⟨rW2, k0_pay7 (View.ld x rT1)⟩,
    ⟨rW1, k0_pay6 (View.ld x rT0)⟩, ⟨rW0, k0_pay5 (View.ld h rH)⟩]

def dk0 (i : grid0.Coords) (q k v dO y : Vec F S4x1x128x128 .bf16) (kh vh : Vec F S1x1x128x128 .bf16) (l : Vec F S4x1x128x128 .f32) (b : Vec F S2x256x256 .f32) : FVec F S128x256 .f32 :=
  dkT (View.ld q rT0) (View.ld dO rT0) (View.ld y rT0) (View.ld l rT0) (View.ld (window k kh) rX0) (View.ld (window v vh) rX0) (View.ld b (rM i 1#1 (k0_off1_inb i 1)))
def dv0 (i : grid0.Coords) (q k dO : Vec F S4x1x128x128 .bf16) (kh : Vec F S1x1x128x128 .bf16) (l : Vec F S4x1x128x128 .f32) (b : Vec F S2x256x256 .f32) : FVec F S128x256 .f32 :=
  dvT (View.ld q rT0) (View.ld dO rT0) (View.ld l rT0) (View.ld (window k kh) rX0) (View.ld b (rM i 1#1 (k0_off1_inb i 1)))
def dk1 (i : grid0.Coords) (q k v dO y : Vec F S4x1x128x128 .bf16) (kh vh : Vec F S1x1x128x128 .bf16) (l : Vec F S4x1x128x128 .f32) (b : Vec F S2x256x256 .f32) : FVec F S128x256 .f32 :=
  dkT (View.ld q rT1) (View.ld dO rT1) (View.ld y rT1) (View.ld l rT1) (View.ld (window k kh) rX1) (View.ld (window v vh) rX1) (View.ld b (rM i 0#1 (k0_off1_inb i 0)))
def dv1 (i : grid0.Coords) (q k dO : Vec F S4x1x128x128 .bf16) (kh : Vec F S1x1x128x128 .bf16) (l : Vec F S4x1x128x128 .f32) (b : Vec F S2x256x256 .f32) : FVec F S128x256 .f32 :=
  dvT (View.ld q rT1) (View.ld dO rT1) (View.ld l rT1) (View.ld (window k kh) rX1) (View.ld b (rM i 0#1 (k0_off1_inb i 0)))
def dk2 (i : grid0.Coords) (q k v dO y : Vec F S4x1x128x128 .bf16) (kh vh : Vec F S1x1x128x128 .bf16) (l : Vec F S4x1x128x128 .f32) (b : Vec F S2x256x256 .f32) : FVec F S128x256 .f32 :=
  dkT (View.ld q rT2) (View.ld dO rT2) (View.ld y rT2) (View.ld l rT2) (View.ld (window k kh) rX2) (View.ld (window v vh) rX2) (View.ld b (rM i 0#1 (k0_off1_inb i 0)))
def dv2 (i : grid0.Coords) (q k dO : Vec F S4x1x128x128 .bf16) (kh : Vec F S1x1x128x128 .bf16) (l : Vec F S4x1x128x128 .f32) (b : Vec F S2x256x256 .f32) : FVec F S128x256 .f32 :=
  dvT (View.ld q rT2) (View.ld dO rT2) (View.ld l rT2) (View.ld (window k kh) rX2) (View.ld b (rM i 0#1 (k0_off1_inb i 0)))
def dk3 (i : grid0.Coords) (q k v dO y : Vec F S4x1x128x128 .bf16) (kh vh : Vec F S1x1x128x128 .bf16) (l : Vec F S4x1x128x128 .f32) (b : Vec F S2x256x256 .f32) : FVec F S128x256 .f32 :=
  dkT (View.ld q rT3) (View.ld dO rT3) (View.ld y rT3) (View.ld l rT3) (View.ld (window k kh) rX3) (View.ld (window v vh) rX3) (View.ld b (rM i 0#1 (k0_off1_inb i 0)))
def dv3 (i : grid0.Coords) (q k dO : Vec F S4x1x128x128 .bf16) (kh : Vec F S1x1x128x128 .bf16) (l : Vec F S4x1x128x128 .f32) (b : Vec F S2x256x256 .f32) : FVec F S128x256 .f32 :=
  dvT (View.ld q rT3) (View.ld dO rT3) (View.ld l rT3) (View.ld (window k kh) rX3) (View.ld b (rM i 0#1 (k0_off1_inb i 0)))

def dqOut (i : grid0.Coords) (q k v dO y : Vec F S4x1x128x128 .bf16) (kh vh : Vec F S1x1x128x128 .bf16) (l : Vec F S4x1x128x128 .f32) (b : Vec F S2x256x256 .f32) : Vec F S4x1x128x128 .bf16 :=
  View.canon [⟨rT3, dqTile (View.ld q rT3) (View.ld dO rT3) (View.ld y rT3) (View.ld l rT3) (View.ld (window k kh) rX3) (View.ld (window v vh) rX3) (View.ld b (rM i 0#1 (k0_off1_inb i 0)))⟩,
    ⟨rT2, dqTile (View.ld q rT2) (View.ld dO rT2) (View.ld y rT2) (View.ld l rT2) (View.ld (window k kh) rX2) (View.ld (window v vh) rX2) (View.ld b (rM i 0#1 (k0_off1_inb i 0)))⟩,
    ⟨rT1, dqTile (View.ld q rT1) (View.ld dO rT1) (View.ld y rT1) (View.ld l rT1) (View.ld (window k kh) rX1) (View.ld (window v vh) rX1) (View.ld b (rM i 0#1 (k0_off1_inb i 0)))⟩,
    ⟨rT0, dqTile (View.ld q rT0) (View.ld dO rT0) (View.ld y rT0) (View.ld l rT0) (View.ld (window k kh) rX0) (View.ld (window v vh) rX0) (View.ld b (rM i 1#1 (k0_off1_inb i 1)))⟩]
def dkOut (i : grid0.Coords) (q k v dO y : Vec F S4x1x128x128 .bf16) (kh vh : Vec F S1x1x128x128 .bf16) (l : Vec F S4x1x128x128 .f32) (b : Vec F S2x256x256 .f32) : Vec F S4x1x128x128 .bf16 :=
  View.canon [⟨rT3, lastTile (dk3 i q k v dO y kh vh l b)⟩,
    ⟨rT2, joinTile (dk2 i q k v dO y kh vh l b) (dk3 i q k v dO y kh vh l b)⟩,
    ⟨rT1, joinTile (dk1 i q k v dO y kh vh l b) (dk2 i q k v dO y kh vh l b)⟩,
    ⟨rT0, joinTile (dk0 i q k v dO y kh vh l b) (dk1 i q k v dO y kh vh l b)⟩]
def dvOut (i : grid0.Coords) (q k dO : Vec F S4x1x128x128 .bf16) (kh : Vec F S1x1x128x128 .bf16) (l : Vec F S4x1x128x128 .f32) (b : Vec F S2x256x256 .f32) : Vec F S4x1x128x128 .bf16 :=
  View.canon [⟨rT3, lastTile (dv3 i q k dO kh l b)⟩,
    ⟨rT2, joinTile (dv2 i q k dO kh l b) (dv3 i q k dO kh l b)⟩,
    ⟨rT1, joinTile (dv1 i q k dO kh l b) (dv2 i q k dO kh l b)⟩,
    ⟨rT0, joinTile (dv0 i q k dO kh l b) (dv1 i q k dO kh l b)⟩]

theorem tiles_cover (p0 p1 p2 p3 : Tile F) (y : S4x1x128x128.Idx) :
    ∃ pc ∈ ([⟨rT3, p3⟩, ⟨rT2, p2⟩, ⟨rT1, p1⟩, ⟨rT0, p0⟩] : List (View.Piece (Elt F) S4x1x128x128 .bf16)), y ∈ pc.1.set :=
  View.cover_of_tiled (Val := Elt F) (e := .bf16) [⟨rT3, p3⟩, ⟨rT2, p2⟩, ⟨rT1, p1⟩, ⟨rT0, p0⟩] S1x1x128x128.size (by rfl) y

theorem canon_tiles_congr {p0 p1 p2 p3 q0 q1 q2 q3 : Tile F} (h0 : p0 = q0) (h1 : p1 = q1) (h2 : p2 = q2) (h3 : p3 = q3) :
    View.canon ([⟨rT3, p3⟩, ⟨rT2, p2⟩, ⟨rT1, p1⟩, ⟨rT0, p0⟩] : List (View.Piece (Elt F) S4x1x128x128 .bf16))
      = View.canon [⟨rT3, q3⟩, ⟨rT2, q2⟩, ⟨rT1, q1⟩, ⟨rT0, q0⟩] := by
  rw [h0, h1, h2, h3]

end Cert.Proof.Att

end
-- ==== Proof.Body.lean ====
module

public import proofs.«01_k».proof.Proof.Gen.KernelIdeal.Frame
public import proofs.«01_k».proof.Proof.Gen.KernelIdeal.Skeleton
public import proofs.«01_k».proof.Proof.Tile
public import Idealize.ShloMosaic.Lib.Pipeline.ValueKit.Acc

@[expose] public section

set_option maxRecDepth 16384

noncomputable section

namespace Cert.Proof.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A load of a part of a whole buffer held at `x`. -/
theorem readAt_unread {s : Shape} {e : EltTy} {sp : Space} (v : Memref sig .tc sp s e) (h : v.IsWhole) (x : Vec F s e) (r : Rect s) :
    View.readAt (Elt F) v.view r.toLoadRect (h.unread x) = View.ld x r := by
  rw [View.readAt_eq_ld, h.read_unread]

/-- A load of the window scratch after its five stores. -/
theorem readWindow (w : Memref sig .tc .vmem S640x128 .bf16) (v : Memref sig .tc .vmem S4x1x128x128 .bf16) (hv : v.IsWhole)
    (u : Memref sig .tc .vmem S1x1x128x128 .bf16) (hu : u.IsWhole) (x : Vec F S4x1x128x128 .bf16) (h : Vec F S1x1x128x128 .bf16)
    (r : Rect S640x128) :
    w.view.readCov (Val := Elt F) [⟨rW4, k0_pay10 (View.readAt (Elt F) v.view rT3.toLoadRect (hv.unread x))⟩,
      ⟨rW3, k0_pay9 (k0_pay8 (View.readAt (Elt F) v.view rT2.toLoadRect (hv.unread x)))⟩,
      ⟨rW2, k0_pay7 (View.readAt (Elt F) v.view rT1.toLoadRect (hv.unread x))⟩,
      ⟨rW1, k0_pay6 (View.readAt (Elt F) v.view rT0.toLoadRect (hv.unread x))⟩,
      ⟨rW0, k0_pay5 (View.readAt (Elt F) u.view rH.toLoadRect (hu.unread h))⟩] r.toLoadRect = View.ld (window x h) r := by
  rw [View.readCov_eq_canon']
  simp only [readAt_unread]
  rfl

/-- The condition under which the body fills the mask scratch: the three grid coordinates are zero. -/
abbrev AtFirst (i : grid0.Coords) : Prop := (Scalar.cmpi .ne (Scalar.extui (Scalar.andi (Scalar.cmpi .eq (BitVec.ofNat 32 (i 0).val) 0#32) (Scalar.andi (Scalar.cmpi .eq (BitVec.ofNat 32 (i 1).val) 0#32) (Scalar.cmpi .eq (BitVec.ofNat 32 (i 2).val) 0#32)))) 0#32) = 1#1

set_option maxHeartbeats 4000000 in
theorem bodyRun (c : Dev nD) (i : grid0.Coords) (arg3 : Memref sig .tc .vmem S4x1x128x128 .bf16) (harg3 : arg3.IsWhole) (arg4 : Memref sig .tc .vmem S1x1x128x128 .bf16) (harg4 : arg4.IsWhole) (arg5 : Memref sig .tc .vmem S4x1x128x128 .bf16) (harg5 : arg5.IsWhole) (arg6 : Memref sig .tc .vmem S1x1x128x128 .bf16) (harg6 : arg6.IsWhole) (arg7 : Memref sig .tc .vmem S4x1x128x128 .bf16) (harg7 : arg7.IsWhole) (arg8 : Memref sig .tc .vmem S1x1x128x128 .bf16) (harg8 : arg8.IsWhole) (arg9 : Memref sig .tc .vmem S4x1x128x128 .bf16) (harg9 : arg9.IsWhole) (arg10 : Memref sig .tc .vmem S1x1x128x128 .bf16) (harg10 : arg10.IsWhole) (arg11 : Memref sig .tc .vmem S4x1x128x128 .bf16) (harg11 : arg11.IsWhole) (arg12 : Memref sig .tc .vmem S1x1x128x128 .bf16) (harg12 : arg12.IsWhole) (arg13 : Memref sig .tc .vmem S4x1x128x128 .f32) (harg13 : arg13.IsWhole) (arg14 : Memref sig .tc .vmem S1x1x128x128 .f32) (harg14 : arg14.IsWhole) (arg15 : Memref sig .tc .vmem S4x1x128x128 .bf16) (harg15 : arg15.IsWhole) (arg16 : Memref sig .tc .vmem S4x1x128x128 .bf16) (harg16 : arg16.IsWhole) (arg17 : Memref sig .tc .vmem S4x1x128x128 .bf16) (harg17 : arg17.IsWhole) (arg18 : Memref sig .tc .vmem S640x128 .bf16) (harg18 : arg18.IsWhole) (arg19 : Memref sig .tc .vmem S640x128 .bf16) (harg19 : arg19.IsWhole) (arg20 : Memref sig .tc .vmem S2x256x256 .f32) (harg20 : arg20.IsWhole) (hc0 : ¬AtFirst i)
    (x0 : Vec F S4x1x128x128 .bf16) (x1 : Vec F S1x1x128x128 .bf16) (x2 : Vec F S4x1x128x128 .bf16) (x3 : Vec F S1x1x128x128 .bf16) (x4 : Vec F S4x1x128x128 .bf16) (x5 : Vec F S1x1x128x128 .bf16) (x6 : Vec F S4x1x128x128 .bf16) (x7 : Vec F S1x1x128x128 .bf16) (x8 : Vec F S4x1x128x128 .bf16) (x9 : Vec F S1x1x128x128 .bf16) (x10 : Vec F S4x1x128x128 .f32) (x11 : Vec F S1x1x128x128 .f32) (b : Vec F S2x256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare b
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (dqOut i x0 x2 x4 x6 x8 x3 x5 x10 b) ∗ owns (c : Thread nD τ) arg16 fullShare (dkOut i x0 x2 x4 x6 x8 x3 x5 x10 b) ∗ owns (c : Thread nD τ) arg17 fullShare (dvOut i x0 x2 x6 x3 x10 b) ∗ (∃ d, owns (c : Thread nD τ) arg18 fullShare d) ∗ (∃ d, owns (c : Thread nD τ) arg19 fullShare d) ∗ owns (c : Thread nD τ) arg20 fullShare b) -∗ K ⟨⟩))
          ⊢ wp frame (wpE (defs₀ (F := F)) Variants.none c none) E (cc0_attn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_attn2_eq_skeleton]; unfold cc0_attn2_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg20.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro; clear hf0 hf1 hf2 hf3 hf4 hf5 hf6 hf7 hf8 hf9 hf10 hf11 hfs2 K E
      refine (View.read_writes_eq_canon _ _ _ (tiles_cover _ _ _ _)).trans ?_
      unfold dqOut
      refine canon_tiles_congr ?_ ?_ ?_ ?_
      all_goals
        try unfold dk0
        try unfold dk1
        try unfold dk2
        try unfold dk3
        try unfold dv0
        try unfold dv1
        try unfold dv2
        try unfold dv3
        simp only [← readAt_unread arg3 harg3 x0, ← readAt_unread arg9 harg9 x6, ← readAt_unread arg11 harg11 x8, ← readAt_unread arg13 harg13 x10,
          ← readAt_unread arg20 harg20 b, ← readWindow arg18 arg5 harg5 arg6 harg6 x2 x3, ← readWindow arg19 arg7 harg7 arg8 harg8 x4 x5]
        rfl
    isplitl [H13]
    · iexists _; isplitr; swap; · iexact H13
      ipureintro; clear hf0 hf1 hf2 hf3 hf4 hf5 hf6 hf7 hf8 hf9 hf10 hf11 hfs2 K E
      refine (View.read_writes_eq_canon _ _ _ (tiles_cover _ _ _ _)).trans ?_
      unfold dkOut
      refine canon_tiles_congr ?_ ?_ ?_ ?_
      all_goals
        try unfold dk0
        try unfold dk1
        try unfold dk2
        try unfold dk3
        try unfold dv0
        try unfold dv1
        try unfold dv2
        try unfold dv3
        simp only [← readAt_unread arg3 harg3 x0, ← readAt_unread arg9 harg9 x6, ← readAt_unread arg11 harg11 x8, ← readAt_unread arg13 harg13 x10,
          ← readAt_unread arg20 harg20 b, ← readWindow arg18 arg5 harg5 arg6 harg6 x2 x3, ← readWindow arg19 arg7 harg7 arg8 harg8 x4 x5]
        rfl
    isplitl [H14]
    · iexists _; isplitr; swap; · iexact H14
      ipureintro; clear hf0 hf1 hf2 hf3 hf4 hf5 hf6 hf7 hf8 hf9 hf10 hf11 hfs2 K E
      refine (View.read_writes_eq_canon _ _ _ (tiles_cover _ _ _ _)).trans ?_
      unfold dvOut
      refine canon_tiles_congr ?_ ?_ ?_ ?_
      all_goals
        try unfold dk0
        try unfold dk1
        try unfold dk2
        try unfold dk3
        try unfold dv0
        try unfold dv1
        try unfold dv2
        try unfold dv3
        simp only [← readAt_unread arg3 harg3 x0, ← readAt_unread arg9 harg9 x6, ← readAt_unread arg11 harg11 x8, ← readAt_unread arg13 harg13 x10,
          ← readAt_unread arg20 harg20 b, ← readWindow arg18 arg5 harg5 arg6 harg6 x2 x3, ← readWindow arg19 arg7 harg7 arg8 harg8 x4 x5]
        rfl
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact harg20.read_unread _

end Cert.Proof.Att

end
-- ==== Proof.First.lean ====
module

public import proofs.«01_k».proof.Proof.Gen.KernelIdeal.Frame
public import proofs.«01_k».proof.Proof.Gen.KernelIdeal.Skeleton
public import proofs.«01_k».proof.Proof.Body
public import Idealize.ShloMosaic.Lib.Exec.Geometry
public import Idealize.ShloMosaic.Lib.Pipeline.ValueKit.Acc

@[expose] public section

set_option maxRecDepth 16384

noncomputable section

namespace Cert.Proof.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The mask scratch as the first point fills it: row 0 the window's band, row 1 the same without the block before. -/
def maskPair : Vec F S2x256x256 .f32 :=
  View.canon [⟨Rect.unit (s := S2x256x256) ![1, 0, 0] S1x256x256.size inb_S2x256x256_S1x256x256_1_0_0, k0_pay4⟩,
    ⟨Rect.unit (s := S2x256x256) ![0, 0, 0] S1x256x256.size inb_S2x256x256_S1x256x256_0_0_0, k0_pay3⟩]

theorem mask_cover (y : S2x256x256.Idx) :
    ∃ pc ∈ ([⟨Rect.unit (s := S2x256x256) ![1, 0, 0] S1x256x256.size inb_S2x256x256_S1x256x256_1_0_0, k0_pay4⟩,
      ⟨Rect.unit (s := S2x256x256) ![0, 0, 0] S1x256x256.size inb_S2x256x256_S1x256x256_0_0_0, k0_pay3⟩] :
        List (View.Piece (Elt F) S2x256x256 .f32)), y ∈ pc.1.set :=
  View.cover_of_tiled (Val := Elt F) (e := .f32)
    [⟨Rect.unit (s := S2x256x256) ![1, 0, 0] S1x256x256.size inb_S2x256x256_S1x256x256_1_0_0, k0_pay4⟩,
      ⟨Rect.unit (s := S2x256x256) ![0, 0, 0] S1x256x256.size inb_S2x256x256_S1x256x256_0_0_0, k0_pay3⟩]
    S1x256x256.size (by rfl) y

theorem readMask (w : Memref sig .tc .vmem S2x256x256 .f32) (r : Rect S2x256x256) :
    w.view.readCov (Val := Elt F) [⟨Rect.unit (s := S2x256x256) ![1, 0, 0] S1x256x256.size inb_S2x256x256_S1x256x256_1_0_0, k0_pay4⟩,
      ⟨Rect.unit (s := S2x256x256) ![0, 0, 0] S1x256x256.size inb_S2x256x256_S1x256x256_0_0_0, k0_pay3⟩] r.toLoadRect
      = View.ld maskPair r := by
  rw [View.readCov_eq_canon']
  rfl

theorem off1_one (i : grid0.Coords) : k0_off1 i 1#1 = ![1, 0, 0] := by
  have h : (i 0).val = 0 := by have := (i 0).isLt; simpa [grid0] using this
  unfold k0_off1
  rw [h]
  rfl

theorem off1_zero (i : grid0.Coords) : k0_off1 i 0#1 = ![0, 0, 0] := by
  have h : (i 0).val = 0 := by have := (i 0).isLt; simpa [grid0] using this
  unfold k0_off1
  rw [h]
  rfl

instance closedOff_one (i : grid0.Coords) : ClosedOff (k0_off1 i 1#1) := ⟨![1, 0, 0], off1_one i⟩
instance closedOff_zero (i : grid0.Coords) : ClosedOff (k0_off1 i 0#1) := ⟨![0, 0, 0], off1_zero i⟩

set_option maxHeartbeats 4000000 in
theorem firstRun (c : Dev nD) (i : grid0.Coords) (arg3 : Memref sig .tc .vmem S4x1x128x128 .bf16) (harg3 : arg3.IsWhole) (arg4 : Memref sig .tc .vmem S1x1x128x128 .bf16) (harg4 : arg4.IsWhole) (arg5 : Memref sig .tc .vmem S4x1x128x128 .bf16) (harg5 : arg5.IsWhole) (arg6 : Memref sig .tc .vmem S1x1x128x128 .bf16) (harg6 : arg6.IsWhole) (arg7 : Memref sig .tc .vmem S4x1x128x128 .bf16) (harg7 : arg7.IsWhole) (arg8 : Memref sig .tc .vmem S1x1x128x128 .bf16) (harg8 : arg8.IsWhole) (arg9 : Memref sig .tc .vmem S4x1x128x128 .bf16) (harg9 : arg9.IsWhole) (arg10 : Memref sig .tc .vmem S1x1x128x128 .bf16) (harg10 : arg10.IsWhole) (arg11 : Memref sig .tc .vmem S4x1x128x128 .bf16) (harg11 : arg11.IsWhole) (arg12 : Memref sig .tc .vmem S1x1x128x128 .bf16) (harg12 : arg12.IsWhole) (arg13 : Memref sig .tc .vmem S4x1x128x128 .f32) (harg13 : arg13.IsWhole) (arg14 : Memref sig .tc .vmem S1x1x128x128 .f32) (harg14 : arg14.IsWhole) (arg15 : Memref sig .tc .vmem S4x1x128x128 .bf16) (harg15 : arg15.IsWhole) (arg16 : Memref sig .tc .vmem S4x1x128x128 .bf16) (harg16 : arg16.IsWhole) (arg17 : Memref sig .tc .vmem S4x1x128x128 .bf16) (harg17 : arg17.IsWhole) (arg18 : Memref sig .tc .vmem S640x128 .bf16) (harg18 : arg18.IsWhole) (arg19 : Memref sig .tc .vmem S640x128 .bf16) (harg19 : arg19.IsWhole) (arg20 : Memref sig .tc .vmem S2x256x256 .f32) (harg20 : arg20.IsWhole) (hc0 : AtFirst i)
    (x0 : Vec F S4x1x128x128 .bf16) (x1 : Vec F S1x1x128x128 .bf16) (x2 : Vec F S4x1x128x128 .bf16) (x3 : Vec F S1x1x128x128 .bf16) (x4 : Vec F S4x1x128x128 .bf16) (x5 : Vec F S1x1x128x128 .bf16) (x6 : Vec F S4x1x128x128 .bf16) (x7 : Vec F S1x1x128x128 .bf16) (x8 : Vec F S4x1x128x128 .bf16) (x9 : Vec F S1x1x128x128 .bf16) (x10 : Vec F S4x1x128x128 .f32) (x11 : Vec F S1x1x128x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (dqOut i x0 x2 x4 x6 x8 x3 x5 x10 maskPair) ∗ owns (c : Thread nD τ) arg16 fullShare (dkOut i x0 x2 x4 x6 x8 x3 x5 x10 maskPair) ∗ owns (c : Thread nD τ) arg17 fullShare (dvOut i x0 x2 x6 x3 x10 maskPair) ∗ (∃ d, owns (c : Thread nD τ) arg18 fullShare d) ∗ (∃ d, owns (c : Thread nD τ) arg19 fullShare d) ∗ owns (c : Thread nD τ) arg20 fullShare maskPair) -∗ K ⟨⟩))
          ⊢ wp frame (wpE (defs₀ (F := F)) Variants.none c none) E (cc0_attn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_attn2_eq_skeleton]; unfold cc0_attn2_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro; clear hf0 hf1 hf2 hf3 hf4 hf5 hf6 hf7 hf8 hf9 hf10 hf11 K E
      refine (View.read_writes_eq_canon _ _ _ (tiles_cover _ _ _ _)).trans ?_
      unfold dqOut
      refine canon_tiles_congr ?_ ?_ ?_ ?_
      all_goals
        try unfold dk0
        try unfold dk1
        try unfold dk2
        try unfold dk3
        try unfold dv0
        try unfold dv1
        try unfold dv2
        try unfold dv3
        simp only [← readAt_unread arg3 harg3 x0, ← readAt_unread arg9 harg9 x6, ← readAt_unread arg11 harg11 x8, ← readAt_unread arg13 harg13 x10,
          ← readMask arg20, ← readWindow arg18 arg5 harg5 arg6 harg6 x2 x3, ← readWindow arg19 arg7 harg7 arg8 harg8 x4 x5]
        rfl
    isplitl [H13]
    · iexists _; isplitr; swap; · iexact H13
      ipureintro; clear hf0 hf1 hf2 hf3 hf4 hf5 hf6 hf7 hf8 hf9 hf10 hf11 K E
      refine (View.read_writes_eq_canon _ _ _ (tiles_cover _ _ _ _)).trans ?_
      unfold dkOut
      refine canon_tiles_congr ?_ ?_ ?_ ?_
      all_goals
        try unfold dk0
        try unfold dk1
        try unfold dk2
        try unfold dk3
        try unfold dv0
        try unfold dv1
        try unfold dv2
        try unfold dv3
        simp only [← readAt_unread arg3 harg3 x0, ← readAt_unread arg9 harg9 x6, ← readAt_unread arg11 harg11 x8, ← readAt_unread arg13 harg13 x10,
          ← readMask arg20, ← readWindow arg18 arg5 harg5 arg6 harg6 x2 x3, ← readWindow arg19 arg7 harg7 arg8 harg8 x4 x5]
        rfl
    isplitl [H14]
    · iexists _; isplitr; swap; · iexact H14
      ipureintro; clear hf0 hf1 hf2 hf3 hf4 hf5 hf6 hf7 hf8 hf9 hf10 hf11 K E
      refine (View.read_writes_eq_canon _ _ _ (tiles_cover _ _ _ _)).trans ?_
      unfold dvOut
      refine canon_tiles_congr ?_ ?_ ?_ ?_
      all_goals
        try unfold dk0
        try unfold dk1
        try unfold dk2
        try unfold dk3
        try unfold dv0
        try unfold dv1
        try unfold dv2
        try unfold dv3
        simp only [← readAt_unread arg3 harg3 x0, ← readAt_unread arg9 harg9 x6, ← readAt_unread arg11 harg11 x8, ← readAt_unread arg13 harg13 x10,
          ← readMask arg20, ← readWindow arg18 arg5 harg5 arg6 harg6 x2 x3, ← readWindow arg19 arg7 harg7 arg8 harg8 x4 x5]
        rfl
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact View.read_writes_eq_canon _ _ _ mask_cover

end Cert.Proof.Att

end
-- ==== Proof.Run.lean ====
module

public import proofs.«01_k».proof.Proof.Gen.KernelIdeal.Frame
public import proofs.«01_k».proof.Proof.Gen.KernelIdeal.Points
public import proofs.«01_k».proof.Proof.First
public import Idealize.ShloMosaic.Lib.Claim

@[expose] public section

set_option maxRecDepth 16384

noncomputable section

namespace Cert.Proof.Att

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
theorem atFirst_iff : ∀ t : Fin cfg0.N, AtFirst (grid0.coords t) ↔ t.val % 256 = 0 :=
  (fun t => by
    have ht : t.val < 256 := Nat.lt_of_lt_of_eq t.isLt N_0
    have e0 : (grid0.coords t 0).val = t.val / 256 % 1 := Pipeline.Grid.coords_val t 0 (by decide) rfl
    have e1 : (grid0.coords t 1).val = t.val / 16 % 16 := Pipeline.Grid.coords_val t 1 (by decide) rfl
    have e2 : (grid0.coords t 2).val = t.val / 1 % 16 := Pipeline.Grid.coords_val t 2 (by decide) rfl
    simp only [AtFirst, e0, e1, e2]
    word_cmp
   : ∀ t : Fin grid0.N, AtFirst (grid0.coords t) ↔ t.val % 256 = 0)

/-! ## The staging memrefs and the scratch operands at a point -/

abbrev ms0_0 (t : Fin cfg0.N) : Memref sig .tc .vmem S4x1x128x128 .bf16 := win0_0.stage (cfg0.slots t 0)
abbrev ms0_1 (t : Fin cfg0.N) : Memref sig .tc .vmem S1x1x128x128 .bf16 := win0_1.stage (cfg0.slots t 1)
abbrev ms0_2 (t : Fin cfg0.N) : Memref sig .tc .vmem S4x1x128x128 .bf16 := win0_2.stage (cfg0.slots t 2)
abbrev ms0_3 (t : Fin cfg0.N) : Memref sig .tc .vmem S1x1x128x128 .bf16 := win0_3.stage (cfg0.slots t 3)
abbrev ms0_4 (t : Fin cfg0.N) : Memref sig .tc .vmem S4x1x128x128 .bf16 := win0_4.stage (cfg0.slots t 4)
abbrev ms0_5 (t : Fin cfg0.N) : Memref sig .tc .vmem S1x1x128x128 .bf16 := win0_5.stage (cfg0.slots t 5)
abbrev ms0_6 (t : Fin cfg0.N) : Memref sig .tc .vmem S4x1x128x128 .bf16 := win0_6.stage (cfg0.slots t 6)
abbrev ms0_7 (t : Fin cfg0.N) : Memref sig .tc .vmem S1x1x128x128 .bf16 := win0_7.stage (cfg0.slots t 7)
abbrev ms0_8 (t : Fin cfg0.N) : Memref sig .tc .vmem S4x1x128x128 .bf16 := win0_8.stage (cfg0.slots t 8)
abbrev ms0_9 (t : Fin cfg0.N) : Memref sig .tc .vmem S1x1x128x128 .bf16 := win0_9.stage (cfg0.slots t 9)
abbrev ms0_10 (t : Fin cfg0.N) : Memref sig .tc .vmem S4x1x128x128 .f32 := win0_10.stage (cfg0.slots t 10)
abbrev ms0_11 (t : Fin cfg0.N) : Memref sig .tc .vmem S1x1x128x128 .f32 := win0_11.stage (cfg0.slots t 11)
abbrev ms0_12 (t : Fin cfg0.N) : Memref sig .tc .vmem S4x1x128x128 .bf16 := win0_12.stage (cfg0.slots t 12)
abbrev ms0_13 (t : Fin cfg0.N) : Memref sig .tc .vmem S4x1x128x128 .bf16 := win0_13.stage (cfg0.slots t 13)
abbrev ms0_14 (t : Fin cfg0.N) : Memref sig .tc .vmem S4x1x128x128 .bf16 := win0_14.stage (cfg0.slots t 14)
abbrev scM0_0 : Memref sig .tc .vmem S640x128 .bf16 := Memref.whole cc0_scratch0
abbrev scM0_1 : Memref sig .tc .vmem S640x128 .bf16 := Memref.whole cc0_scratch1
abbrev scM0_2 : Memref sig .tc .vmem S2x256x256 .f32 := Memref.whole cc0_scratch2

/-- The launch's invariant, its scratch operands as memrefs owned at some contents. -/
theorem PhiA_split (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- After the first point: the same, the mask scratch holding the two masks. -/
def PhiMask (c : Dev nD) : sProp 𝕄 :=
  iprop(iprop((∃ d, owns (c : Thread nD τ) scM0_0 fullShare d) ∗ (∃ d, owns (c : Thread nD τ) scM0_1 fullShare d) ∗ owns (c : Thread nD τ) scM0_2 fullShare maskPair) ∗ (∃ r, prngReg c r))

/-- The invariant before point `t`. -/
def PhiAt (c : Dev nD) (t : Fin (cfg0.N + 1)) : sProp 𝕄 := if t.val = 0 then Pipeline.ΦA spec0 c else PhiMask c

theorem PhiAt_zero (c : Dev nD) (t : Fin (cfg0.N + 1)) (h : t.val = 0) : (PhiAt c t : sProp 𝕄) = Pipeline.ΦA spec0 c := by
  unfold PhiAt; rw [if_pos h]
theorem PhiAt_pos (c : Dev nD) (t : Fin (cfg0.N + 1)) (h : t.val ≠ 0) : (PhiAt c t : sProp 𝕄) = PhiMask c := by
  unfold PhiAt; rw [if_neg h]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => dqOut (grid0.coords t) (iblk m c 0 t) (iblk m c 2 t) (iblk m c 4 t) (iblk m c 6 t) (iblk m c 8 t) (iblk m c 3 t) (iblk m c 5 t) (iblk m c 10 t) maskPair
    | ⟨13, _⟩ => dkOut (grid0.coords t) (iblk m c 0 t) (iblk m c 2 t) (iblk m c 4 t) (iblk m c 6 t) (iblk m c 8 t) (iblk m c 3 t) (iblk m c 5 t) (iblk m c 10 t) maskPair
    | ⟨14, _⟩ => dvOut (grid0.coords t) (iblk m c 0 t) (iblk m c 2 t) (iblk m c 6 t) (iblk m c 3 t) (iblk m c 10 t) maskPair
  Φ t := PhiAt c t
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = dqOut (grid0.coords t) (iblk m c 0 t) (iblk m c 2 t) (iblk m c 4 t) (iblk m c 6 t) (iblk m c 8 t) (iblk m c 3 t) (iblk m c 5 t) (iblk m c 10 t) maskPair := by dsimp only [dats]
theorem after_13 (c : Dev nD) (t : Fin cfg0.N) : (dats m 0 c).after 13 t = dkOut (grid0.coords t) (iblk m c 0 t) (iblk m c 2 t) (iblk m c 4 t) (iblk m c 6 t) (iblk m c 8 t) (iblk m c 3 t) (iblk m c 5 t) (iblk m c 10 t) maskPair := by dsimp only [dats]
theorem after_14 (c : Dev nD) (t : Fin cfg0.N) : (dats m 0 c).after 14 t = dvOut (grid0.coords t) (iblk m c 0 t) (iblk m c 2 t) (iblk m c 6 t) (iblk m c 3 t) (iblk m c 10 t) maskPair := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = PhiAt c t.succ from rfl, show (dats m 0 c).Φ t.castSucc = PhiAt c t.castSucc from rfl,
    show (dats m 0 c).owesAt () t.succ = (dats m 0 c).owesAt () t.castSucc from rfl,
    after_0, after_1, after_2, after_3, after_4, after_5, after_6, after_7, after_8, after_9, after_10, after_11, after_12, after_13, after_14]
  rw [PhiAt_pos c t.succ (by simp)]
  have hN : t.val < 256 := lt_of_lt_of_eq t.isLt (show cfg0.N = 256 from N_0)
  by_cases h0 : t.val % 256 = 0
  · rw [PhiAt_zero c t.castSucc (by simp only [Fin.val_castSucc]; omega), PhiA_split]; unfold PhiMask
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((firstRun c (grid0.coords t) _ _ _ _ _ _ _ _ _ _ _ _ _ _ _ _ _ _ _ _ _ _ _ _ _ _ _ _ _ _ _ _ _ _ _ _ ((atFirst_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [PhiAt_pos c t.castSucc (by simp only [Fin.val_castSucc]; omega)]; unfold PhiMask
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((bodyRun c (grid0.coords t) _ _ _ _ _ _ _ _ _ _ _ _ _ _ _ _ _ _ _ _ _ _ _ _ _ _ _ _ _ _ _ _ _ _ _ _ (fun h => h0 ((atFirst_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) maskPair) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : (Pipeline.ΦA spec0 c : sProp 𝕄) ⊢ PhiAt c 0 := by
  rw [PhiAt_zero c 0 rfl]

theorem leave (c : Dev nD) : (PhiAt c (Fin.last cfg0.N) : sProp 𝕄) ⊢ Pipeline.ΦA spec0 c := by
  rw [PhiAt_pos c _ (by rw [Fin.val_last, show cfg0.N = 256 from N_0]; decide), PhiA_split]; unfold PhiMask
  iintro ⟨⟨HS0, HS1, HS2⟩, Hg⟩
  isplitl [HS0 HS1 HS2]
  · isplitl [HS0]
    · iexact HS0
    isplitl [HS1]
    · iexact HS1
    iexists _; iexact HS2
  iexact Hg

/-! ## The launch -/

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter) (hout := leave)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.Att

end
-- ==== Proof.Slice.lean ====
module

public import Idealize.ShloMosaic.PureOps.Ideal

@[expose] public section

noncomputable section

/-! One stream and one head of the banded attention, in real numbers: the forward quantities, the gradient of the
    merged output as reverse-mode differentiation writes it, and its closed form. -/

namespace Cert.Proof.Att

open Finset

/-- The arguments at one stream and one head, with the row maxima `M` that the log-sums subtract. -/
structure Slice where
  q : Fin 512 → Fin 64 → ℝ
  k : Fin 512 → Fin 64 → ℝ
  v : Fin 512 → Fin 64 → ℝ
  dy : Fin 512 → Fin 64 → ℝ
  oa : Fin 512 → Fin 64 → ℝ
  ob : Fin 512 → Fin 64 → ℝ
  la : Fin 512 → ℝ
  lb : Fin 512 → ℝ
  M : Fin 512 → ℝ

/-- Position `j` is seen from position `i`. -/
def Band (i j : Fin 512) : Prop := j.val ≤ i.val ∧ i.val ≤ j.val + 128

instance (i j : Fin 512) : Decidable (Band i j) := inferInstanceAs (Decidable (_ ∧ _))

theorem Band.refl (i : Fin 512) : Band i i := ⟨le_refl _, by omega⟩

namespace Slice
variable (D : Slice)

def s (i j : Fin 512) : ℝ := (∑ d, D.q i d * D.k j d) * (1 / 8)
def e (i j : Fin 512) : ℝ := if Band i j then Real.exp (D.s i j - D.M i) else 0
def Z (i : Fin 512) : ℝ := ∑ j, D.e i j
def L (i : Fin 512) : ℝ := Real.log (D.Z i) + D.M i
def p (i j : Fin 512) : ℝ := if Band i j then Real.exp (D.s i j - D.L i) else 0
def o (i : Fin 512) (d : Fin 64) : ℝ := ∑ j, D.v j d * D.p i j
def top (i : Fin 512) : ℝ := max (max (D.la i) (D.lb i)) (D.L i)
def ea (i : Fin 512) : ℝ := Real.exp (D.la i - D.top i)
def eb (i : Fin 512) : ℝ := Real.exp (D.lb i - D.top i)
def ec (i : Fin 512) : ℝ := Real.exp (D.L i - D.top i)
def den (i : Fin 512) : ℝ := D.ea i + D.eb i + D.ec i
def wa (i : Fin 512) : ℝ := D.ea i * (1 / D.den i)
def wb (i : Fin 512) : ℝ := D.eb i * (1 / D.den i)
def wc (i : Fin 512) : ℝ := D.ec i * (1 / D.den i)
def y (i : Fin 512) (d : Fin 64) : ℝ := D.wa i * D.oa i d + D.wb i * D.ob i d + D.wc i * D.o i d
def dO (i : Fin 512) (d : Fin 64) : ℝ := D.wc i * D.dy i d
/-- The gradient at the scores. -/
def ds (i j : Fin 512) : ℝ := D.p i j * ((∑ d, D.dO i d * D.v j d) - ∑ d, D.dO i d * D.y i d)
def A (i : Fin 512) : ℝ := ∑ d, D.dy i d * D.o i d
def P (i j : Fin 512) : ℝ := (∑ d, D.dO i d * D.v j d) * D.p i j

theorem e_nonneg (i j : Fin 512) : 0 ≤ D.e i j := by
  unfold e; split_ifs <;> positivity

theorem Z_pos (i : Fin 512) : 0 < D.Z i :=
  lt_of_lt_of_le (by unfold e; rw [if_pos (Band.refl i)]; positivity)
    (single_le_sum (f := fun j => D.e i j) (fun j _ => D.e_nonneg i j) (mem_univ i))

theorem den_pos (i : Fin 512) : 0 < D.den i := by unfold den ea eb ec; positivity

theorem e_div_Z (i j : Fin 512) : D.e i j * (1 / D.Z i) = D.p i j := by
  unfold e p
  split_ifs
  · have hz := D.Z_pos i
    rw [L, show D.s i j - (Real.log (D.Z i) + D.M i) = (D.s i j - D.M i) - Real.log (D.Z i) by ring,
      Real.exp_sub (D.s i j - D.M i), Real.exp_log hz]
    ring
  · ring

theorem sum_P (i : Fin 512) : ∑ j, D.P i j = D.wc i * D.A i := by
  unfold P A o dO
  simp only [Finset.sum_mul, Finset.mul_sum]
  rw [Finset.sum_comm]
  refine Finset.sum_congr rfl fun d _ => Finset.sum_congr rfl fun j _ => ?_
  ring

theorem dO_y (i : Fin 512) : ∑ d, D.dO i d * D.y i d
    = D.wc i * (D.wa i * (∑ d, D.dy i d * D.oa i d) + D.wb i * (∑ d, D.dy i d * D.ob i d) + D.wc i * D.A i) := by
  unfold A
  simp only [Finset.mul_sum, ← Finset.sum_add_distrib]
  refine Finset.sum_congr rfl fun d _ => ?_
  unfold dO y
  ring

/-- What reverse-mode differentiation adds up at a score is `ds`. -/
theorem ds_eq (i j : Fin 512) :
    D.P i j + ((-(D.A i * (1 * (1 / (D.den i * D.den i))) * D.ec i) + D.A i * (1 / D.den i)
        + -((∑ d, D.dy i d * D.ob i d) * (1 * (1 / (D.den i * D.den i))) * D.eb i)
        + -((∑ d, D.dy i d * D.oa i d) * (1 * (1 / (D.den i * D.den i))) * D.ea i)) * D.ec i
        + ∑ x, -D.P i x) * (1 / D.Z i) * D.e i j = D.ds i j := by
  have hd := (D.den_pos i).ne'
  rw [Finset.sum_neg_distrib, D.sum_P, mul_assoc _ (1 / D.Z i), mul_comm (1 / D.Z i), D.e_div_Z, ds, D.dO_y, P]
  unfold wa wb wc
  field_simp
  ring

theorem p_of_not (i j : Fin 512) (h : ¬ Band i j) : D.p i j = 0 := if_neg h
theorem ds_of_not (i j : Fin 512) (h : ¬ Band i j) : D.ds i j = 0 := by rw [ds, D.p_of_not i j h, zero_mul]

end Slice

theorem coe_sum {ι : Type*} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

theorem coe_max (a b : ℝ) : ((max a b : ℝ) : EReal) = max (a : EReal) b := EReal.coe_strictMono.monotone.map_max

/-- A maximum of numbers and `-∞`s, at least one of them a number, is a number. -/
theorem fold_max_real {ι : Type*} (t : Finset ι) (f : ι → EReal) (hf : ∀ x ∈ t, f x ≠ ⊤)
    (hx : ∃ x ∈ t, f x ≠ ⊥) : t.fold max ⊥ f = ((t.fold max ⊥ f).toReal : EReal) := by
  classical
  refine (EReal.coe_toReal ?_ ?_).symm
  · have : t.fold max ⊥ f < ⊤ := Finset.fold_max_lt _ |>.mpr ⟨bot_lt_top, fun x h => lt_top_iff_ne_top.mpr (hf x h)⟩
    exact this.ne
  · obtain ⟨x, h, hn⟩ := hx
    have : ⊥ < t.fold max ⊥ f := Finset.lt_fold_max _ |>.mpr (Or.inr ⟨x, h, bot_lt_iff_ne_bot.mpr hn⟩)
    exact this.ne'

end Cert.Proof.Att

end
-- ==== Proof.Ref.lean ====
module

public import proofs.«01_k».proof.Proof.Gen.ReferenceIdeal.Run
public import Idealize.ShloMosaic.Lib.Pointwise
public import proofs.«01_k».proof.Proof.Slice

@[expose] public section

set_option maxRecDepth 16384

noncomputable section

namespace Cert.Proof.Att

open Cert.ReferenceIdeal
open Idealize.ShloMosaic Idealize.ShloMosaic.TcCoe Idealize.ShloMosaic.Tactic Idealize.ShloMosaic.StableHlo
open Cert.ReferenceIdeal.Value

variable (V0 : Valuation τ sig (Elt Ideal))

/-- Row of the sequence that is position `i` of stream `r`. -/
def rowOf (r : Fin 16) (i : Fin 512) : Fin 8192 := ⟨i.val * 16 + r.val, by omega⟩
/-- Column of lane `d` of head `h`. -/
def colOf (h : Fin 32) (d : Fin 64) : Fin 2048 := ⟨h.val * 64 + d.val, by omega⟩

theorem rowOf_mod (r : Fin 16) (i : Fin 512) (h : (rowOf r i).val % 16 < 16) : (⟨(rowOf r i).val % 16, h⟩ : Fin 16) = r :=
  Fin.ext (by simp only [rowOf]; omega)
theorem rowOf_div (r : Fin 16) (i : Fin 512) (h : (rowOf r i).val / 16 < 512) : (⟨(rowOf r i).val / 16, h⟩ : Fin 512) = i :=
  Fin.ext (by simp only [rowOf]; omega)

/-- Every element of every argument is a number. -/
structure FiniteArgs : Prop where
  a0 : ∀ x, (V0 (Proc.devRef .tc main_arg0) x : EReal) = ((V0 (Proc.devRef .tc main_arg0) x : EReal).toReal : EReal)
  a1 : ∀ x, (V0 (Proc.devRef .tc main_arg1) x : EReal) = ((V0 (Proc.devRef .tc main_arg1) x : EReal).toReal : EReal)
  a2 : ∀ x, (V0 (Proc.devRef .tc main_arg2) x : EReal) = ((V0 (Proc.devRef .tc main_arg2) x : EReal).toReal : EReal)
  a3 : ∀ x, (V0 (Proc.devRef .tc main_arg3) x : EReal) = ((V0 (Proc.devRef .tc main_arg3) x : EReal).toReal : EReal)
  a4 : ∀ x, (V0 (Proc.devRef .tc main_arg4) x : EReal) = ((V0 (Proc.devRef .tc main_arg4) x : EReal).toReal : EReal)
  a5 : ∀ x, (V0 (Proc.devRef .tc main_arg5) x : EReal) = ((V0 (Proc.devRef .tc main_arg5) x : EReal).toReal : EReal)
  a6 : ∀ x, (V0 (Proc.devRef .tc main_arg6) x : EReal) = ((V0 (Proc.devRef .tc main_arg6) x : EReal).toReal : EReal)
  a7 : ∀ x, (V0 (Proc.devRef .tc main_arg7) x : EReal) = ((V0 (Proc.devRef .tc main_arg7) x : EReal).toReal : EReal)

/-- The arguments at stream `r` and head `h`. -/
def slice (r : Fin 16) (h : Fin 32) : Slice where
  q i d := (V0 (Proc.devRef .tc main_arg0) (ix2 (rowOf r i) (colOf h d)) : EReal).toReal
  k i d := (V0 (Proc.devRef .tc main_arg1) (ix2 (rowOf r i) (colOf h d)) : EReal).toReal
  v i d := (V0 (Proc.devRef .tc main_arg2) (ix2 (rowOf r i) (colOf h d)) : EReal).toReal
  oa i d := (V0 (Proc.devRef .tc main_arg3) (ix3 (rowOf r i) h d) : EReal).toReal
  la i := (V0 (Proc.devRef .tc main_arg4) (ix2 (rowOf r i) h) : EReal).toReal
  ob i d := (V0 (Proc.devRef .tc main_arg5) (ix3 (rowOf r i) h d) : EReal).toReal
  lb i := (V0 (Proc.devRef .tc main_arg6) (ix2 (rowOf r i) h) : EReal).toReal
  dy i d := (V0 (Proc.devRef .tc main_arg7) (ix3 (rowOf r i) h d) : EReal).toReal
  M i := (res_main_v21 V0 (ix3 r h i) : EReal).toReal

theorem ofBits_eighth : Ideal.ofBits .f32 0x3E000000#32 = ((1 / 8 : ℝ) : EReal) := by
  simp [Ideal.ofBits, Ideal.ieee, -EReal.coe_mul]; norm_num
theorem ofBits_negInf : Ideal.ofBits .f32 0xFF800000#32 = ⊥ := by simp [Ideal.ofBits, Ideal.ieee]

variable {V0} (hf : FiniteArgs V0) (r : Fin 16) (h : Fin 32)
include hf

theorem dy_at (i : Fin 512) (d : Fin 64) :
    (V0 (Proc.devRef .tc main_arg7) (ix3 (rowOf r i) h d) : EReal) = (((slice V0 r h).dy i d : ℝ) : EReal) := hf.a7 _
theorem oa_at (i : Fin 512) (d : Fin 64) :
    (V0 (Proc.devRef .tc main_arg3) (ix3 (rowOf r i) h d) : EReal) = (((slice V0 r h).oa i d : ℝ) : EReal) := hf.a3 _
theorem ob_at (i : Fin 512) (d : Fin 64) :
    (V0 (Proc.devRef .tc main_arg5) (ix3 (rowOf r i) h d) : EReal) = (((slice V0 r h).ob i d : ℝ) : EReal) := hf.a5 _
omit hf in
theorem rowOf_eq (i : Fin 512) (hi : i.val * 16 + r.val < 8192) : (⟨i.val * 16 + r.val, hi⟩ : Fin 8192) = rowOf r i := rfl

theorem v1_at (i : Fin 512) (d : Fin 64) : (res_main_v1 V0 (ix4 r i h d) : EReal) = (((slice V0 r h).q i d : ℝ) : EReal) := by
  pointwise [res_main_v1]
  exact hf.a0 _
theorem v3_at (i : Fin 512) (d : Fin 64) : (res_main_v3 V0 (ix4 r i h d) : EReal) = (((slice V0 r h).k i d : ℝ) : EReal) := by
  pointwise [res_main_v3]
  exact hf.a1 _
theorem v5_at (i : Fin 512) (d : Fin 64) : (res_main_v5 V0 (ix4 r i h d) : EReal) = (((slice V0 r h).v i d : ℝ) : EReal) := by
  pointwise [res_main_v5]
  exact hf.a2 _

omit hf in
theorem band_word (i j : Fin 512) :
    IntOp.andi (IntOp.cmpi .sge (IntOp.subi (BitVec.ofNat 32 i.val) (BitVec.ofNat 32 j.val)) 0#32)
      (IntOp.cmpi .sle (IntOp.subi (BitVec.ofNat 32 i.val) (BitVec.ofNat 32 j.val)) 128#32)
      = if Band i j then 1#1 else 0#1 := by
  have hi := i.isLt
  have hj := j.isLt
  have e : (BitVec.ofNat 32 i.val - BitVec.ofNat 32 j.val).toInt = (i.val : Int) - j.val := by
    have ti : (BitVec.ofNat 32 i.val).toInt = i.val := by
      rw [BitVec.toInt_ofNat']; exact Int.bmod_eq_of_le (by omega) (by omega)
    have tj : (BitVec.ofNat 32 j.val).toInt = j.val := by
      rw [BitVec.toInt_ofNat']; exact Int.bmod_eq_of_le (by omega) (by omega)
    rw [BitVec.toInt_sub, ti, tj]
    exact Int.bmod_eq_of_le (by omega) (by omega)
  have e0 : (0#32).toInt = 0 := by decide
  have e1 : (128#32).toInt = 128 := by decide
  have c1 : IntOp.cmpi .sge (IntOp.subi (BitVec.ofNat 32 i.val) (BitVec.ofNat 32 j.val)) 0#32 = BitVec.ofBool (decide (j.val ≤ i.val)) := by
    simp only [IntOp.cmpi, IntOp.subi, BitVec.sle, e, e0]
    congr 1
    exact decide_eq_decide.mpr (by omega)
  have c2 : IntOp.cmpi .sle (IntOp.subi (BitVec.ofNat 32 i.val) (BitVec.ofNat 32 j.val)) 128#32 = BitVec.ofBool (decide (i.val ≤ j.val + 128)) := by
    simp only [IntOp.cmpi, IntOp.subi, BitVec.sle, e, e1]
    congr 1
    exact decide_eq_decide.mpr (by omega)
  rw [c1, c2]
  by_cases h1 : j.val ≤ i.val <;> by_cases h2 : i.val ≤ j.val + 128
  · rw [if_pos (show Band i j from ⟨h1, h2⟩), decide_eq_true h1, decide_eq_true h2]; rfl
  · rw [if_neg (show ¬ Band i j from fun b => h2 b.2), decide_eq_true h1, decide_eq_false h2]; rfl
  · rw [if_neg (show ¬ Band i j from fun b => h1 b.1), decide_eq_false h1, decide_eq_true h2]; rfl
  · omega

omit hf in
theorem v20_1_at (i j : Fin 512) : res_main_v20_1 V0 (ix4 r h i j) = if Band i j then 1#1 else 0#1 := by
  pointwise [res_main_v20_1, res_main_v14, res_main_v9]
  exact band_word i j

theorem v20_at (i j : Fin 512) :
    (res_main_v20_0 V0 (ix4 r h i j) : EReal) = if Band i j then ((slice V0 r h).s i j : EReal) else ⊥ := by
  pointwise [res_main_v20_0]
  rw [v20_1_at]
  simp only [v1_at hf, v3_at hf, ← EReal.coe_mul, ← coe_sum, ofBits_eighth]
  by_cases hb : Band i j
  · rw [if_pos hb, if_pos hb]; rfl
  · rw [if_neg hb, if_neg hb]; exact ofBits_negInf

theorem v20_real (i j : Fin 512) (hb : Band i j) :
    (res_main_v20_0 V0 (ix4 r h i j) : EReal) = ((slice V0 r h).s i j : EReal) := by rw [v20_at hf, if_pos hb]
theorem v20_bot (i j : Fin 512) (hb : ¬ Band i j) : (res_main_v20_0 V0 (ix4 r h i j) : EReal) = (⊥ : EReal) := by
  rw [v20_at hf, if_neg hb]

theorem v20_ne_top (x : S16x32x512x512.Idx) : (res_main_v20_0 V0 x : EReal) ≠ (⊤ : EReal) := by
  idx_vars x
  rw [v20_at hf]
  by_cases hb : Band x2 x3
  · rw [if_pos hb]; exact EReal.coe_ne_top _
  · rw [if_neg hb]; exact (bot_ne_top : (⊥ : EReal) ≠ ⊤)

theorem v21_at (i : Fin 512) : (res_main_v21 V0 (ix3 r h i) : EReal) = (((slice V0 r h).M i : ℝ) : EReal) := by
  have key : ∀ x : EReal, x = (res_main_v21 V0 (ix3 r h i) : EReal) → x = (x.toReal : EReal) := by
    intro x hx
    rw [hx]
    pointwise [res_main_v21]
    rw [ofBits_negInf]
    refine fold_max_real _ _ (fun x _ => v20_ne_top hf x) ⟨ix4 r h i i, ?_, ?_⟩
    · simp only [Finset.mem_filter, Finset.mem_univ, true_and]
      funext a
      refine Fin.ext ((Shape.ReducesTo.drop_apply_val _ _ _).trans ?_)
      fin_cases a <;> rfl
    · exact ne_of_eq_of_ne (v20_real hf r h i i (Band.refl i)) (EReal.coe_ne_bot _)
  dsimp only [slice]
  exact key _ rfl

theorem v30_at (i j : Fin 512) : (res_main_v30 V0 (ix4 r h i j) : EReal) = (((slice V0 r h).e i j : ℝ) : EReal) := by
  pointwise [res_main_v30]
  rw [v21_at hf r h i, v20_at hf r h i j]
  unfold Slice.e
  by_cases hb : Band i j
  · rw [if_pos hb, if_pos hb, ← EReal.coe_sub, Ideal.exp_coe]
  · rw [if_neg hb, if_neg hb, EReal.bot_sub, Ideal.exp_bot]; rfl

theorem v31_at (i : Fin 512) : (res_main_v31 V0 (ix3 r h i) : EReal) = (((slice V0 r h).Z i : ℝ) : EReal) := by
  pointwise [res_main_v31]
  simp only [v30_at hf, ← coe_sum]
  rfl

theorem v33_at (i : Fin 512) : (res_main_v33 V0 (ix3 r h i) : EReal) = (((slice V0 r h).L i : ℝ) : EReal) := by
  pointwise [res_main_v33]
  rw [v31_at hf, v21_at hf, Ideal.log_coe, if_neg (not_le.mpr ((slice V0 r h).Z_pos i)), ← EReal.coe_add]
  rfl

theorem v37_at (i j : Fin 512) : (res_main_v37 V0 (ix4 r h i j) : EReal) = (((slice V0 r h).p i j : ℝ) : EReal) := by
  pointwise [res_main_v37]
  rw [v33_at hf, v20_at hf]
  unfold Slice.p
  by_cases hb : Band i j
  · rw [if_pos hb, if_pos hb, ← EReal.coe_sub, Ideal.exp_coe]
  · rw [if_neg hb, if_neg hb, EReal.bot_sub, Ideal.exp_bot]; rfl

theorem v41_at (i : Fin 512) (d : Fin 64) : (res_main_v41 V0 (ix3 (rowOf r i) h d) : EReal) = (((slice V0 r h).o i d : ℝ) : EReal) := by
  pointwise [res_main_v41]
  simp only [rowOf_mod, rowOf_div, v5_at hf, v37_at hf, ← EReal.coe_mul, ← coe_sum]
  rfl

theorem v43_at (i : Fin 512) : (res_main_v43 V0 (ix2 (rowOf r i) h) : EReal) = (((slice V0 r h).L i : ℝ) : EReal) := by
  pointwise [res_main_v43]
  simp only [rowOf_mod, rowOf_div, v33_at hf]

theorem v45_at (i : Fin 512) : (res_main_v45 V0 (ix2 (rowOf r i) h) : EReal) = (((slice V0 r h).top i : ℝ) : EReal) := by
  pointwise [res_main_v45, res_main_v44]
  rw [v43_at hf, hf.a4, hf.a6, ← coe_max, ← coe_max]
  rfl
theorem v54_at (i : Fin 512) : (res_main_v54 V0 (ix2 (rowOf r i) h) : EReal) = (((slice V0 r h).ea i : ℝ) : EReal) := by
  pointwise [res_main_v54]
  rw [v45_at hf, hf.a4, ← EReal.coe_sub, Ideal.exp_coe]
  rfl
theorem v56_at (i : Fin 512) : (res_main_v56 V0 (ix2 (rowOf r i) h) : EReal) = (((slice V0 r h).eb i : ℝ) : EReal) := by
  pointwise [res_main_v56]
  rw [v45_at hf, hf.a6, ← EReal.coe_sub, Ideal.exp_coe]
  rfl
theorem v58_at (i : Fin 512) : (res_main_v58 V0 (ix2 (rowOf r i) h) : EReal) = (((slice V0 r h).ec i : ℝ) : EReal) := by
  pointwise [res_main_v58]
  rw [v45_at hf, v43_at hf, ← EReal.coe_sub, Ideal.exp_coe]
  rfl
theorem v60_at (i : Fin 512) : (res_main_v60 V0 (ix2 (rowOf r i) h) : EReal) = (((slice V0 r h).den i : ℝ) : EReal) := by
  pointwise [res_main_v60]
  rw [v54_at hf, v56_at hf, v58_at hf, ← EReal.coe_add, ← EReal.coe_add]
  rfl
theorem v118_at (i : Fin 512) (d : Fin 64) : (res_main_v118 V0 (ix4 r h d i) : EReal) = (((slice V0 r h).dO i d : ℝ) : EReal) := by
  pointwise [res_main_v118, res_main_v80, res_main_v85]
  rw [show (⟨i.val * 16 + r.val, by omega⟩ : Fin 8192) = rowOf r i from rfl, v58_at hf, v60_at hf,
    Ideal.div_coe ((slice V0 r h).den_pos i).ne', hf.a7, ← EReal.coe_mul, ← EReal.coe_mul]
  rfl
theorem v122_at (i j : Fin 512) : (res_main_v122 V0 (ix4 r h i j) : EReal) = (((slice V0 r h).P i j : ℝ) : EReal) := by
  pointwise [res_main_v122]
  simp only [v118_at hf, v5_at hf, v37_at hf, ← EReal.coe_mul, ← coe_sum]
  rfl
theorem v91_at (i : Fin 512) : (res_main_v91 V0 (ix2 (rowOf r i) h) : EReal) = (((slice V0 r h).A i : ℝ) : EReal) := by
  pointwise [res_main_v91, res_main_v85]
  simp only [v41_at hf, dy_at hf, ← EReal.coe_mul, ← coe_sum]
  simp only [Finset.univ_unique, Finset.sum_singleton]
  rfl
theorem v134_at (i j : Fin 512) : (res_main_v134 V0 (ix4 r h i j) : EReal) = (((slice V0 r h).ds i j * (1 / 8) : ℝ) : EReal) := by
  pointwise [res_main_v134, res_main_v84]
  rw [v20_1_at]
  by_cases hb : Band i j
  · rw [if_pos hb]
    simp only [rowOf_eq, v122_at hf, v91_at hf, v60_at hf, v58_at hf,
      v56_at hf, v54_at hf, v31_at hf, v30_at hf, oa_at hf, ob_at hf, dy_at hf, ofBits_eighth, Ideal.ofBits_one_f32]
    have hd := (slice V0 r h).den_pos i
    have hz := (slice V0 r h).Z_pos i
    simp only [← EReal.coe_mul, Ideal.div_coe hd.ne', Ideal.div_coe (mul_pos hd hd).ne', Ideal.div_coe hz.ne', ← EReal.coe_neg,
      ← coe_sum, ← EReal.coe_one, ← EReal.coe_add, Finset.univ_unique, Finset.sum_singleton]
    rw [← (slice V0 r h).ds_eq i j]
    rfl
  · rw [if_neg hb, Slice.ds_of_not _ _ _ hb, zero_mul]
    rfl

/-- A row of the reference's results: stream `r`, block `b`, row `i` of the block. -/
def posOf (b : Fin 4) (i : Fin 128) : Fin 512 := ⟨b.val * 128 + i.val, by omega⟩
def headOf (c : Fin 2048) : Fin 32 := ⟨c.val / 64, by omega⟩
def laneOf (c : Fin 2048) : Fin 64 := ⟨c.val % 64, by omega⟩

open Cert.ReferenceIdeal.Gen in
theorem ref_dq_at (b : Fin 4) (i : Fin 128) (c : Fin 2048) :
    (transpose S4x16x128x2048 [0, 2, 1, 3] (shapeCast _ (truncf .bf16 (shapeCast _ (transpose S512x16x32x64 [1, 0, 2, 3] (transpose S16x512x32x64 [0, 2, 1, 3] (Host.dotGeneral (φ₂ := .f32) dot_S16x32x512x512_S16x512x32x64_S16x32x512x64_3_1_2_3_01_02 none (res_main_v134 V0) (res_main_v3 V0)) transposes_S16x32x512x64_S16x512x32x64_0_2_1_3) transposes_S16x512x32x64_S512x16x32x64_1_0_2_3) shapeCasts_S512x16x32x64_S8192x2048) bitsLt_bf16_f32) shapeCasts_S8192x2048_S4x128x16x2048) transposes_S4x128x16x2048_S4x16x128x2048_0_2_1_3 (ix4 b r i c) : EReal)
      = ((∑ j, ((slice V0 r (headOf c)).ds (posOf b i) j * (1 / 8)) * (slice V0 r (headOf c)).k j (laneOf c) : ℝ) : EReal) := by
  pointwise []
  have hp : ∀ hb, (⟨(b.val * 2048 + i.val * 16 + r.val) / 16, hb⟩ : Fin 512) = posOf b i :=
    fun hb => Fin.ext (by simp only [posOf]; omega)
  rw [coe_sum]
  refine Finset.sum_congr rfl fun x _ => ?_
  rw [hp, EReal.coe_mul]
  exact congrArg₂ (· * ·) (v134_at hf r _ _ _) (v3_at hf r _ _ _)
open Cert.ReferenceIdeal.Gen in
theorem ref_dk_at (b : Fin 4) (i : Fin 128) (c : Fin 2048) :
    (transpose S4x16x128x2048 [0, 2, 1, 3] (shapeCast _ (truncf .bf16 (shapeCast _ (transpose S512x16x32x64 [1, 0, 2, 3] (transpose S16x512x32x64 [0, 2, 1, 3] (Host.dotGeneral (φ₂ := .f32) dot_S16x32x512x512_S16x512x32x64_S16x32x512x64_2_1_3_3_01_02 none (res_main_v134 V0) (res_main_v1 V0)) transposes_S16x32x512x64_S16x512x32x64_0_2_1_3) transposes_S16x512x32x64_S512x16x32x64_1_0_2_3) shapeCasts_S512x16x32x64_S8192x2048) bitsLt_bf16_f32) shapeCasts_S8192x2048_S4x128x16x2048) transposes_S4x128x16x2048_S4x16x128x2048_0_2_1_3 (ix4 b r i c) : EReal)
      = ((∑ j, ((slice V0 r (headOf c)).ds j (posOf b i) * (1 / 8)) * (slice V0 r (headOf c)).q j (laneOf c) : ℝ) : EReal) := by
  pointwise []
  have hp : ∀ hb, (⟨(b.val * 2048 + i.val * 16 + r.val) / 16, hb⟩ : Fin 512) = posOf b i :=
    fun hb => Fin.ext (by simp only [posOf]; omega)
  rw [coe_sum]
  refine Finset.sum_congr rfl fun x _ => ?_
  rw [hp, EReal.coe_mul]
  exact congrArg₂ (· * ·) (v134_at hf r _ _ _) (v1_at hf r _ _ _)
open Cert.ReferenceIdeal.Gen in
theorem ref_dv_at (b : Fin 4) (i : Fin 128) (c : Fin 2048) :
    (transpose S4x16x128x2048 [0, 2, 1, 3] (shapeCast _ (truncf .bf16 (shapeCast _ (transpose S512x16x32x64 [1, 0, 2, 3] (transpose S16x512x32x64 [0, 3, 1, 2] (Host.dotGeneral (φ₂ := .f32) dot_S16x32x64x512_S16x32x512x512_S16x32x64x512_3_2_2_3_01_01 none (res_main_v118 V0) (res_main_v37 V0)) transposes_S16x32x64x512_S16x512x32x64_0_3_1_2) transposes_S16x512x32x64_S512x16x32x64_1_0_2_3) shapeCasts_S512x16x32x64_S8192x2048) bitsLt_bf16_f32) shapeCasts_S8192x2048_S4x128x16x2048) transposes_S4x128x16x2048_S4x16x128x2048_0_2_1_3 (ix4 b r i c) : EReal)
      = ((∑ x, (slice V0 r (headOf c)).dO x (laneOf c) * (slice V0 r (headOf c)).p x (posOf b i) : ℝ) : EReal) := by
  pointwise []
  have hp : ∀ hb, (⟨(b.val * 2048 + i.val * 16 + r.val) / 16, hb⟩ : Fin 512) = posOf b i :=
    fun hb => Fin.ext (by simp only [posOf]; omega)
  rw [coe_sum]
  refine Finset.sum_congr rfl fun x _ => ?_
  rw [hp, EReal.coe_mul]
  exact congrArg₂ (· * ·) (v118_at hf r _ _ _) (v37_at hf r _ _ _)
end Cert.Proof.Att
end
-- ==== Proof.Host.lean ====
module

public import proofs.«01_k».proof.Proof.Gen.KernelIdeal.Frame
public import proofs.«01_k».proof.Proof.Gen.ReferenceIdeal.Run
public import Idealize.ShloMosaic.Lib.Claim

@[expose] public section

set_option maxRecDepth 16384

noncomputable section

/-! The host lines of the kernel's program up to its one region, cut into stretches. Up to the log-sums, the
    outputs and the merging weights they are the reference's own forward lines, so each value is the reference's. -/

namespace Cert.Proof.Att

open Cert.KernelIdeal Cert.KernelIdeal.Gen
open Idealize.ShloMosaic Idealize.ShloMosaic.TcCoe Idealize.ShloMosaic.Tactic Idealize.ShloMosaic.StableHlo
open Cert.ReferenceIdeal.Value

variable {F : FTy → Type} [FloatOps F] [Named F]
variable (m : (ℓ : Loc nD τ sig) → Buf (Elt F) ℓ) (c : Dev nD)

theorem after_split (n : ℕ) (l : List (HloOp τ sig (Elt F))) (σ : Valuation τ sig (Elt F)) :
    after l σ = after (l.drop n) (after (l.take n) σ) := by
  conv_lhs => rw [← List.take_append_drop n l]
  generalize l.take n = a
  generalize l.drop n = b
  induction a generalizing σ with
  | nil => rfl
  | cons x a ih => simp only [List.cons_append, after_cons, ih]

theorem after_cat (a b : List (HloOp τ sig (Elt F))) (σ : Valuation τ sig (Elt F)) :
    after (a ++ b) σ = after b (after a σ) := by
  induction a generalizing σ with
  | nil => rfl
  | cons x a ih => simp only [List.cons_append, after_cons, ih]

def st0 : Valuation τ sig (Elt F) := fun b => m (c, b)
def st1 : Valuation τ sig (Elt F) := after hostOps0 (st0 m c)
def st2 : Valuation τ sig (Elt F) := after hostOps0_1 (st1 m c)
def st3 : Valuation τ sig (Elt F) := after (hostOps0_2.take 10) (st2 m c)
def st4 : Valuation τ sig (Elt F) := after ((hostOps0_2.drop 10).take 10) (st3 m c)
def st5 : Valuation τ sig (Elt F) := after (((hostOps0_2.drop 10).drop 10).take 13) (st4 m c)
def st6 : Valuation τ sig (Elt F) := after ((((hostOps0_2.drop 10).drop 10).drop 13).take 19) (st5 m c)
def st7 : Valuation τ sig (Elt F) := after ((((hostOps0_2.drop 10).drop 10).drop 13).drop 19) (st6 m c)

theorem V_eq (b : Ref sig .tc) : V m c b = st7 m c (Proc.devRef .tc b) := by
  show after (List.flatten [hostOps0, hostOps0_1, hostOps0_2]) (st0 m c) (Proc.devRef .tc b) = _
  simp only [List.flatten_cons, List.flatten_nil, List.append_nil]
  rw [after_cat, after_cat, after_split 10 hostOps0_2, after_split 10 (hostOps0_2.drop 10),
    after_split 13 ((hostOps0_2.drop 10).drop 10), after_split 19 (((hostOps0_2.drop 10).drop 10).drop 13)]
  rfl

variable (V0 : Valuation Cert.ReferenceIdeal.τ Cert.ReferenceIdeal.sig (Elt F))

/-- The two memories agree on the arguments. -/
structure Agree : Prop where
  a0 : m ((c : Thread nD τ).loc main_arg0) = V0 (Proc.devRef .tc Cert.ReferenceIdeal.main_arg0)
  a1 : m ((c : Thread nD τ).loc main_arg1) = V0 (Proc.devRef .tc Cert.ReferenceIdeal.main_arg1)
  a2 : m ((c : Thread nD τ).loc main_arg2) = V0 (Proc.devRef .tc Cert.ReferenceIdeal.main_arg2)
  a3 : m ((c : Thread nD τ).loc main_arg3) = V0 (Proc.devRef .tc Cert.ReferenceIdeal.main_arg3)
  a4 : m ((c : Thread nD τ).loc main_arg4) = V0 (Proc.devRef .tc Cert.ReferenceIdeal.main_arg4)
  a5 : m ((c : Thread nD τ).loc main_arg5) = V0 (Proc.devRef .tc Cert.ReferenceIdeal.main_arg5)
  a6 : m ((c : Thread nD τ).loc main_arg6) = V0 (Proc.devRef .tc Cert.ReferenceIdeal.main_arg6)
  a7 : m ((c : Thread nD τ).loc main_arg7) = V0 (Proc.devRef .tc Cert.ReferenceIdeal.main_arg7)

variable {m c V0}

theorem st1_arg0 (h : Agree m c V0) : st1 m c (Proc.devRef .tc main_arg0) = V0 (Proc.devRef .tc Cert.ReferenceIdeal.main_arg0) := by
  unfold st1

  entry_read
  exact h.a0
theorem st1_arg1 (h : Agree m c V0) : st1 m c (Proc.devRef .tc main_arg1) = V0 (Proc.devRef .tc Cert.ReferenceIdeal.main_arg1) := by
  unfold st1

  entry_read
  exact h.a1
theorem st1_arg2 (h : Agree m c V0) : st1 m c (Proc.devRef .tc main_arg2) = V0 (Proc.devRef .tc Cert.ReferenceIdeal.main_arg2) := by
  unfold st1

  entry_read
  exact h.a2
theorem st1_arg3 (h : Agree m c V0) : st1 m c (Proc.devRef .tc main_arg3) = V0 (Proc.devRef .tc Cert.ReferenceIdeal.main_arg3) := by
  unfold st1

  entry_read
  exact h.a3
theorem st1_arg4 (h : Agree m c V0) : st1 m c (Proc.devRef .tc main_arg4) = V0 (Proc.devRef .tc Cert.ReferenceIdeal.main_arg4) := by
  unfold st1

  entry_read
  exact h.a4
theorem st1_arg5 (h : Agree m c V0) : st1 m c (Proc.devRef .tc main_arg5) = V0 (Proc.devRef .tc Cert.ReferenceIdeal.main_arg5) := by
  unfold st1

  entry_read
  exact h.a5
theorem st1_arg6 (h : Agree m c V0) : st1 m c (Proc.devRef .tc main_arg6) = V0 (Proc.devRef .tc Cert.ReferenceIdeal.main_arg6) := by
  unfold st1

  entry_read
  exact h.a6
theorem st1_arg7 (h : Agree m c V0) : st1 m c (Proc.devRef .tc main_arg7) = V0 (Proc.devRef .tc Cert.ReferenceIdeal.main_arg7) := by
  unfold st1

  entry_read
  exact h.a7
theorem st1_v5 (h : Agree m c V0) : st1 m c (Proc.devRef .tc main_v5) = res_main_v5 V0 := by
  unfold st1

  entry_read
  simp only [st0]
  try rw [show m (c, Proc.devRef .tc main_arg0) = V0 (Proc.devRef .tc Cert.ReferenceIdeal.main_arg0) from h.a0]
  try rw [show m (c, Proc.devRef .tc main_arg1) = V0 (Proc.devRef .tc Cert.ReferenceIdeal.main_arg1) from h.a1]
  try rw [show m (c, Proc.devRef .tc main_arg2) = V0 (Proc.devRef .tc Cert.ReferenceIdeal.main_arg2) from h.a2]
  try rfl

theorem st1_v8 (h : Agree m c V0) : st1 m c (Proc.devRef .tc main_v8) = mulf (Host.dotGeneral Cert.ReferenceIdeal.dot_S16x512x32x64_S16x512x32x64_S16x32x512x512_3_3_1_1_02_02 none (res_main_v1 V0) (res_main_v3 V0)) (broadcastInDim S16x32x512x512 ![] bcast_S_S16x32x512x512 (constant S_ .f32 0x3E000000#32)) := by
  unfold st1
  entry_read
  simp only [st0]
  rw [show m (c, Proc.devRef .tc main_arg0) = V0 (Proc.devRef .tc Cert.ReferenceIdeal.main_arg0) from h.a0, show m (c, Proc.devRef .tc main_arg1) = V0 (Proc.devRef .tc Cert.ReferenceIdeal.main_arg1) from h.a1]
  rfl
theorem st1_v19 : st1 m c (Proc.devRef .tc main_v19) = (andi (cmpi .sge (res_main_v14 V0) (broadcastInDim S512x512 ![] bcast_S_S512x512 (constantI S_ 32 0#32))) (cmpi .sle (res_main_v14 V0) (broadcastInDim S512x512 ![] bcast_S_S512x512 (constantI S_ 32 128#32)))) := by
  unfold st1
  entry_read
  rfl
theorem st1_cst_1 : st1 m c (Proc.devRef .tc main_cst_1) = (constant S_ .f32 0xFF800000#32 : FVec F S_ .f32) := by
  unfold st1
  entry_read
  rfl
theorem st2_arg0 (h : Agree m c V0) : st2 m c (Proc.devRef .tc main_arg0) = V0 (Proc.devRef .tc Cert.ReferenceIdeal.main_arg0) := by
  unfold st2

  entry_read
  exact st1_arg0 h
theorem st2_arg1 (h : Agree m c V0) : st2 m c (Proc.devRef .tc main_arg1) = V0 (Proc.devRef .tc Cert.ReferenceIdeal.main_arg1) := by
  unfold st2

  entry_read
  exact st1_arg1 h
theorem st2_arg2 (h : Agree m c V0) : st2 m c (Proc.devRef .tc main_arg2) = V0 (Proc.devRef .tc Cert.ReferenceIdeal.main_arg2) := by
  unfold st2

  entry_read
  exact st1_arg2 h
theorem st2_arg3 (h : Agree m c V0) : st2 m c (Proc.devRef .tc main_arg3) = V0 (Proc.devRef .tc Cert.ReferenceIdeal.main_arg3) := by
  unfold st2

  entry_read
  exact st1_arg3 h
theorem st2_arg4 (h : Agree m c V0) : st2 m c (Proc.devRef .tc main_arg4) = V0 (Proc.devRef .tc Cert.ReferenceIdeal.main_arg4) := by
  unfold st2

  entry_read
  exact st1_arg4 h
theorem st2_arg5 (h : Agree m c V0) : st2 m c (Proc.devRef .tc main_arg5) = V0 (Proc.devRef .tc Cert.ReferenceIdeal.main_arg5) := by
  unfold st2

  entry_read
  exact st1_arg5 h
theorem st2_arg6 (h : Agree m c V0) : st2 m c (Proc.devRef .tc main_arg6) = V0 (Proc.devRef .tc Cert.ReferenceIdeal.main_arg6) := by
  unfold st2

  entry_read
  exact st1_arg6 h
theorem st2_arg7 (h : Agree m c V0) : st2 m c (Proc.devRef .tc main_arg7) = V0 (Proc.devRef .tc Cert.ReferenceIdeal.main_arg7) := by
  unfold st2

  entry_read
  exact st1_arg7 h
theorem st2_v5 (h : Agree m c V0) : st2 m c (Proc.devRef .tc main_v5) = res_main_v5 V0 := by
  unfold st2

  entry_read
  exact st1_v5 h

theorem st2_v20 (h : Agree m c V0) : st2 m c (Proc.devRef .tc main_v20) = res_main_v20_0 V0 := by
  unfold st2
  entry_read
  rw [st1_v8 h, st1_v19 (V0 := V0), st1_cst_1]
  rfl

end Cert.Proof.Att

end
-- ==== Proof.Host2.lean ====
module

public import proofs.«01_k».proof.Proof.Host

@[expose] public section

set_option maxRecDepth 16384

noncomputable section

namespace Cert.Proof.Att

open Cert.KernelIdeal Cert.KernelIdeal.Gen
open Idealize.ShloMosaic Idealize.ShloMosaic.TcCoe Idealize.ShloMosaic.Tactic Idealize.ShloMosaic.StableHlo
open Cert.ReferenceIdeal.Value

variable {F : FTy → Type} [FloatOps F] [Named F]
variable {m : (ℓ : Loc nD τ sig) → Buf (Elt F) ℓ} {c : Dev nD}
variable {V0 : Valuation Cert.ReferenceIdeal.τ Cert.ReferenceIdeal.sig (Elt F)}

theorem st3_keep (r : Ref sig .tc) (hr : r ∉ ([main_cst_2, main_v21, main_v22, main_v23, main_v24, main_v25, main_cst_3, main_v26, main_v27, main_v28] : List (Ref sig .tc))) : st3 m c (Proc.devRef .tc r) = st2 m c (Proc.devRef .tc r) :=
  after_of_writes_sub (hostOps0_2.take 10) _ (W := [main_cst_2, main_v21, main_v22, main_v23, main_v24, main_v25, main_cst_3, main_v26, main_v27, main_v28]) (by
    simp only [hostOps0_2, List.drop_succ_cons, List.drop_zero, List.take_succ_cons, List.take_zero]
    simp only [List.Forall]
    repeat' apply And.intro
    all_goals (simp only [nullary_writes, unary_writes, binary_writes, ternary_writes, reshape_writes, Finset.singleton_subset_iff, List.mem_toFinset]; exact List.mem_map_of_mem (by decide))) hr
theorem st4_keep (r : Ref sig .tc) (hr : r ∉ ([main_v29, main_v30, main_v31, main_v32, main_v33, main_v34, main_v35, main_v36, main_v37, main_v38] : List (Ref sig .tc))) : st4 m c (Proc.devRef .tc r) = st3 m c (Proc.devRef .tc r) :=
  after_of_writes_sub ((hostOps0_2.drop 10).take 10) _ (W := [main_v29, main_v30, main_v31, main_v32, main_v33, main_v34, main_v35, main_v36, main_v37, main_v38]) (by
    simp only [hostOps0_2, List.drop_succ_cons, List.drop_zero, List.take_succ_cons, List.take_zero]
    simp only [List.Forall]
    repeat' apply And.intro
    all_goals (simp only [nullary_writes, unary_writes, binary_writes, ternary_writes, reshape_writes, Finset.singleton_subset_iff, List.mem_toFinset]; exact List.mem_map_of_mem (by decide))) hr
theorem st5_keep (r : Ref sig .tc) (hr : r ∉ ([main_v39, main_v40, main_v41, main_v42, main_v43, main_v44, main_v45, main_v46, main_v47, main_v48, main_v49, main_v50, main_v51] : List (Ref sig .tc))) : st5 m c (Proc.devRef .tc r) = st4 m c (Proc.devRef .tc r) :=
  after_of_writes_sub (((hostOps0_2.drop 10).drop 10).take 13) _ (W := [main_v39, main_v40, main_v41, main_v42, main_v43, main_v44, main_v45, main_v46, main_v47, main_v48, main_v49, main_v50, main_v51]) (by
    simp only [hostOps0_2, List.drop_succ_cons, List.drop_zero, List.take_succ_cons, List.take_zero]
    simp only [List.Forall]
    repeat' apply And.intro
    all_goals (simp only [nullary_writes, unary_writes, binary_writes, ternary_writes, reshape_writes, Finset.singleton_subset_iff, List.mem_toFinset]; exact List.mem_map_of_mem (by decide))) hr
theorem st6_keep (r : Ref sig .tc) (hr : r ∉ ([main_v52, main_v53, main_v54, main_v55, main_v56, main_v57, main_v58, main_v59, main_v60, main_v61, main_v62, main_v63, main_v64, main_v65, main_v66, main_v67, main_v68, main_v69, main_v70] : List (Ref sig .tc))) : st6 m c (Proc.devRef .tc r) = st5 m c (Proc.devRef .tc r) :=
  after_of_writes_sub ((((hostOps0_2.drop 10).drop 10).drop 13).take 19) _ (W := [main_v52, main_v53, main_v54, main_v55, main_v56, main_v57, main_v58, main_v59, main_v60, main_v61, main_v62, main_v63, main_v64, main_v65, main_v66, main_v67, main_v68, main_v69, main_v70]) (by
    simp only [hostOps0_2, List.drop_succ_cons, List.drop_zero, List.take_succ_cons, List.take_zero]
    simp only [List.Forall]
    repeat' apply And.intro
    all_goals (simp only [nullary_writes, unary_writes, binary_writes, ternary_writes, reshape_writes, Finset.singleton_subset_iff, List.mem_toFinset]; exact List.mem_map_of_mem (by decide))) hr
theorem st3_arg0 (h : Agree m c V0) : st3 m c (Proc.devRef .tc main_arg0) = V0 (Proc.devRef .tc Cert.ReferenceIdeal.main_arg0) :=
  (st3_keep main_arg0 (by decide)).trans (st2_arg0 h)
theorem st3_arg1 (h : Agree m c V0) : st3 m c (Proc.devRef .tc main_arg1) = V0 (Proc.devRef .tc Cert.ReferenceIdeal.main_arg1) :=
  (st3_keep main_arg1 (by decide)).trans (st2_arg1 h)
theorem st3_arg2 (h : Agree m c V0) : st3 m c (Proc.devRef .tc main_arg2) = V0 (Proc.devRef .tc Cert.ReferenceIdeal.main_arg2) :=
  (st3_keep main_arg2 (by decide)).trans (st2_arg2 h)
theorem st3_arg3 (h : Agree m c V0) : st3 m c (Proc.devRef .tc main_arg3) = V0 (Proc.devRef .tc Cert.ReferenceIdeal.main_arg3) :=
  (st3_keep main_arg3 (by decide)).trans (st2_arg3 h)
theorem st3_arg4 (h : Agree m c V0) : st3 m c (Proc.devRef .tc main_arg4) = V0 (Proc.devRef .tc Cert.ReferenceIdeal.main_arg4) :=
  (st3_keep main_arg4 (by decide)).trans (st2_arg4 h)
theorem st3_arg5 (h : Agree m c V0) : st3 m c (Proc.devRef .tc main_arg5) = V0 (Proc.devRef .tc Cert.ReferenceIdeal.main_arg5) :=
  (st3_keep main_arg5 (by decide)).trans (st2_arg5 h)
theorem st3_arg6 (h : Agree m c V0) : st3 m c (Proc.devRef .tc main_arg6) = V0 (Proc.devRef .tc Cert.ReferenceIdeal.main_arg6) :=
  (st3_keep main_arg6 (by decide)).trans (st2_arg6 h)
theorem st3_arg7 (h : Agree m c V0) : st3 m c (Proc.devRef .tc main_arg7) = V0 (Proc.devRef .tc Cert.ReferenceIdeal.main_arg7) :=
  (st3_keep main_arg7 (by decide)).trans (st2_arg7 h)
theorem st3_v5 (h : Agree m c V0) : st3 m c (Proc.devRef .tc main_v5) = res_main_v5 V0 :=
  (st3_keep main_v5 (by decide)).trans (st2_v5 h)
theorem st3_v20 (h : Agree m c V0) : st3 m c (Proc.devRef .tc main_v20) = res_main_v20_0 V0 :=
  (st3_keep main_v20 (by decide)).trans (st2_v20 h)
theorem st3_v28 (h : Agree m c V0) : st3 m c (Proc.devRef .tc main_v28) = res_main_v33 V0 := by
  unfold st3
  simp only [hostOps0_2, List.drop_succ_cons, List.drop_zero, List.take_succ_cons, List.take_zero]
  entry_read
  rw [st2_v20 h]
  rfl
theorem st4_arg0 (h : Agree m c V0) : st4 m c (Proc.devRef .tc main_arg0) = V0 (Proc.devRef .tc Cert.ReferenceIdeal.main_arg0) :=
  (st4_keep main_arg0 (by decide)).trans (st3_arg0 h)
theorem st4_arg1 (h : Agree m c V0) : st4 m c (Proc.devRef .tc main_arg1) = V0 (Proc.devRef .tc Cert.ReferenceIdeal.main_arg1) :=
  (st4_keep main_arg1 (by decide)).trans (st3_arg1 h)
theorem st4_arg2 (h : Agree m c V0) : st4 m c (Proc.devRef .tc main_arg2) = V0 (Proc.devRef .tc Cert.ReferenceIdeal.main_arg2) :=
  (st4_keep main_arg2 (by decide)).trans (st3_arg2 h)
theorem st4_arg3 (h : Agree m c V0) : st4 m c (Proc.devRef .tc main_arg3) = V0 (Proc.devRef .tc Cert.ReferenceIdeal.main_arg3) :=
  (st4_keep main_arg3 (by decide)).trans (st3_arg3 h)
theorem st4_arg4 (h : Agree m c V0) : st4 m c (Proc.devRef .tc main_arg4) = V0 (Proc.devRef .tc Cert.ReferenceIdeal.main_arg4) :=
  (st4_keep main_arg4 (by decide)).trans (st3_arg4 h)
theorem st4_arg5 (h : Agree m c V0) : st4 m c (Proc.devRef .tc main_arg5) = V0 (Proc.devRef .tc Cert.ReferenceIdeal.main_arg5) :=
  (st4_keep main_arg5 (by decide)).trans (st3_arg5 h)
theorem st4_arg6 (h : Agree m c V0) : st4 m c (Proc.devRef .tc main_arg6) = V0 (Proc.devRef .tc Cert.ReferenceIdeal.main_arg6) :=
  (st4_keep main_arg6 (by decide)).trans (st3_arg6 h)
theorem st4_arg7 (h : Agree m c V0) : st4 m c (Proc.devRef .tc main_arg7) = V0 (Proc.devRef .tc Cert.ReferenceIdeal.main_arg7) :=
  (st4_keep main_arg7 (by decide)).trans (st3_arg7 h)
theorem st4_v36 (h : Agree m c V0) : st4 m c (Proc.devRef .tc main_v36) = res_main_v41 V0 := by
  unfold st4
  simp only [hostOps0_2, List.drop_succ_cons, List.drop_zero, List.take_succ_cons, List.take_zero]
  entry_read
  rw [st3_v5 h, st3_v20 h, st3_v28 h]
  rfl
theorem st4_v38 (h : Agree m c V0) : st4 m c (Proc.devRef .tc main_v38) = res_main_v43 V0 := by
  unfold st4
  simp only [hostOps0_2, List.drop_succ_cons, List.drop_zero, List.take_succ_cons, List.take_zero]
  entry_read
  rw [st3_v28 h]
  rfl
theorem st5_arg0 (h : Agree m c V0) : st5 m c (Proc.devRef .tc main_arg0) = V0 (Proc.devRef .tc Cert.ReferenceIdeal.main_arg0) :=
  (st5_keep main_arg0 (by decide)).trans (st4_arg0 h)
theorem st5_arg1 (h : Agree m c V0) : st5 m c (Proc.devRef .tc main_arg1) = V0 (Proc.devRef .tc Cert.ReferenceIdeal.main_arg1) :=
  (st5_keep main_arg1 (by decide)).trans (st4_arg1 h)
theorem st5_arg2 (h : Agree m c V0) : st5 m c (Proc.devRef .tc main_arg2) = V0 (Proc.devRef .tc Cert.ReferenceIdeal.main_arg2) :=
  (st5_keep main_arg2 (by decide)).trans (st4_arg2 h)
theorem st5_arg3 (h : Agree m c V0) : st5 m c (Proc.devRef .tc main_arg3) = V0 (Proc.devRef .tc Cert.ReferenceIdeal.main_arg3) :=
  (st5_keep main_arg3 (by decide)).trans (st4_arg3 h)
theorem st5_arg5 (h : Agree m c V0) : st5 m c (Proc.devRef .tc main_arg5) = V0 (Proc.devRef .tc Cert.ReferenceIdeal.main_arg5) :=
  (st5_keep main_arg5 (by decide)).trans (st4_arg5 h)
theorem st5_arg7 (h : Agree m c V0) : st5 m c (Proc.devRef .tc main_arg7) = V0 (Proc.devRef .tc Cert.ReferenceIdeal.main_arg7) :=
  (st5_keep main_arg7 (by decide)).trans (st4_arg7 h)
theorem st5_v36 (h : Agree m c V0) : st5 m c (Proc.devRef .tc main_v36) = res_main_v41 V0 :=
  (st5_keep main_v36 (by decide)).trans (st4_v36 h)
theorem st5_v38 (h : Agree m c V0) : st5 m c (Proc.devRef .tc main_v38) = res_main_v43 V0 :=
  (st5_keep main_v38 (by decide)).trans (st4_v38 h)
theorem st5_v49 (h : Agree m c V0) : st5 m c (Proc.devRef .tc main_v49) = (Host.divf (res_main_v54 V0) (res_main_v60 V0) : FVec F S8192x32 .f32) := by
  unfold st5
  simp only [hostOps0_2, List.drop_succ_cons, List.drop_zero, List.take_succ_cons, List.take_zero]
  entry_read
  rw [st4_arg4 h, st4_arg6 h, st4_v38 h]
  rfl
theorem st5_v50 (h : Agree m c V0) : st5 m c (Proc.devRef .tc main_v50) = (Host.divf (res_main_v56 V0) (res_main_v60 V0) : FVec F S8192x32 .f32) := by
  unfold st5
  simp only [hostOps0_2, List.drop_succ_cons, List.drop_zero, List.take_succ_cons, List.take_zero]
  entry_read
  rw [st4_arg4 h, st4_arg6 h, st4_v38 h]
  rfl
theorem st5_v51 (h : Agree m c V0) : st5 m c (Proc.devRef .tc main_v51) = (Host.divf (res_main_v58 V0) (res_main_v60 V0) : FVec F S8192x32 .f32) := by
  unfold st5
  simp only [hostOps0_2, List.drop_succ_cons, List.drop_zero, List.take_succ_cons, List.take_zero]
  entry_read
  rw [st4_arg4 h, st4_arg6 h, st4_v38 h]
  rfl
theorem st6_arg0 (h : Agree m c V0) : st6 m c (Proc.devRef .tc main_arg0) = V0 (Proc.devRef .tc Cert.ReferenceIdeal.main_arg0) :=
  (st6_keep main_arg0 (by decide)).trans (st5_arg0 h)
theorem st6_arg1 (h : Agree m c V0) : st6 m c (Proc.devRef .tc main_arg1) = V0 (Proc.devRef .tc Cert.ReferenceIdeal.main_arg1) :=
  (st6_keep main_arg1 (by decide)).trans (st5_arg1 h)
theorem st6_arg2 (h : Agree m c V0) : st6 m c (Proc.devRef .tc main_arg2) = V0 (Proc.devRef .tc Cert.ReferenceIdeal.main_arg2) :=
  (st6_keep main_arg2 (by decide)).trans (st5_arg2 h)

end Cert.Proof.Att

end
-- ==== Proof.Host3.lean ====
module

public import proofs.«01_k».proof.Proof.Host2
public import proofs.«01_k».proof.Proof.Ref

@[expose] public section

set_option maxRecDepth 16384

noncomputable section

namespace Cert.Proof.Att

open Cert.KernelIdeal Cert.KernelIdeal.Gen
open Idealize.ShloMosaic Idealize.ShloMosaic.TcCoe Idealize.ShloMosaic.Tactic Idealize.ShloMosaic.StableHlo
open Cert.ReferenceIdeal.Value

variable {m : (ℓ : Loc nD τ sig) → Buf (Elt Ideal) ℓ} {c : Dev nD}
variable {V0 : Valuation Cert.ReferenceIdeal.τ Cert.ReferenceIdeal.sig (Elt Ideal)}
variable (hA : Agree m c V0) (hf : FiniteArgs V0) (r : Fin 16)
include hA hf

theorem st6_v66_at (i : Fin 512) (x : Fin 2048) :
    (st6 m c (Proc.devRef .tc main_v66) (ix2 (rowOf r i) x) : EReal) = (((slice V0 r (headOf x)).dO i (laneOf x) : ℝ) : EReal) := by
  unfold st6
  simp only [hostOps0_2, List.drop_succ_cons, List.drop_zero, List.take_succ_cons, List.take_zero]
  entry_read
  rw [st5_v51 hA, st5_arg7 hA]
  pointwise []
  simp only [show ∀ hx, (⟨x.val / 64, hx⟩ : Fin 32) = headOf x from fun _ => rfl, show ∀ hx, (⟨x.val % 64, hx⟩ : Fin 64) = laneOf x from fun _ => rfl]
  simp only [v58_at hf, v60_at hf, dy_at hf, Ideal.div_coe ((slice V0 r (headOf x)).den_pos i).ne', ← EReal.coe_mul]
  rfl
theorem st6_v69_at (i : Fin 512) (x : Fin 2048) :
    (st6 m c (Proc.devRef .tc main_v69) (ix2 (rowOf r i) x) : EReal) = (((slice V0 r (headOf x)).L i : ℝ) : EReal) := by
  unfold st6
  simp only [hostOps0_2, List.drop_succ_cons, List.drop_zero, List.take_succ_cons, List.take_zero]
  entry_read
  rw [st5_v38 hA]
  pointwise []
  exact v43_at hf r _ i
theorem st6_v70_at (i : Fin 512) (x : Fin 2048) :
    (st6 m c (Proc.devRef .tc main_v70) (ix2 (rowOf r i) x) : EReal) = (((slice V0 r (headOf x)).y i (laneOf x) : ℝ) : EReal) := by
  unfold st6
  simp only [hostOps0_2, List.drop_succ_cons, List.drop_zero, List.take_succ_cons, List.take_zero]
  entry_read
  rw [st5_v49 hA, st5_v50 hA, st5_v51 hA, st5_v36 hA, st5_arg3 hA, st5_arg5 hA]
  pointwise []
  simp only [show ∀ hx, (⟨x.val / 64, hx⟩ : Fin 32) = headOf x from fun _ => rfl, show ∀ hx, (⟨x.val % 64, hx⟩ : Fin 64) = laneOf x from fun _ => rfl]
  simp only [v54_at hf, v56_at hf, v58_at hf, v60_at hf, oa_at hf, ob_at hf, v41_at hf, Ideal.div_coe ((slice V0 r (headOf x)).den_pos i).ne',
    ← EReal.coe_mul, ← EReal.coe_add]
  rfl

omit hA hf in
theorem row_eq (b : Fin 4) (i : Fin 128) (hr : b.val * 2048 + i.val * 16 + r.val < 8192) :
    (⟨b.val * 2048 + i.val * 16 + r.val, hr⟩ : Fin 8192) = rowOf r (posOf b i) := Fin.ext (by simp only [rowOf, posOf]; omega)
omit hA hf in
theorem col_eq (x : Fin 2048) : x = colOf (headOf x) (laneOf x) := Fin.ext (by simp only [colOf, headOf, laneOf]; omega)

theorem V94_at (b : Fin 4) (i : Fin 128) (x : Fin 2048) :
    (V m c main_v94 (ix4 b r i x) : EReal) = (((slice V0 r (headOf x)).q (posOf b i) (laneOf x) : ℝ) : EReal) := by
  rw [V_eq]
  unfold st7
  simp only [hostOps0_2, List.drop_succ_cons, List.drop_zero, List.take_succ_cons, List.take_zero]
  entry_read
  rw [st6_arg0 hA]
  pointwise []
  rw [row_eq]
  refine (hf.a0 _).trans ?_
  conv_lhs => rw [col_eq x]
  rfl
theorem V95_at (b : Fin 4) (i : Fin 128) (x : Fin 2048) :
    (V m c main_v95 (ix4 b r i x) : EReal) = (((slice V0 r (headOf x)).k (posOf b i) (laneOf x) : ℝ) : EReal) := by
  rw [V_eq]
  unfold st7
  simp only [hostOps0_2, List.drop_succ_cons, List.drop_zero, List.take_succ_cons, List.take_zero]
  entry_read
  rw [st6_arg1 hA]
  pointwise []
  rw [row_eq]
  refine (hf.a1 _).trans ?_
  conv_lhs => rw [col_eq x]
  rfl
theorem V96_at (b : Fin 4) (i : Fin 128) (x : Fin 2048) :
    (V m c main_v96 (ix4 b r i x) : EReal) = (((slice V0 r (headOf x)).v (posOf b i) (laneOf x) : ℝ) : EReal) := by
  rw [V_eq]
  unfold st7
  simp only [hostOps0_2, List.drop_succ_cons, List.drop_zero, List.take_succ_cons, List.take_zero]
  entry_read
  rw [st6_arg2 hA]
  pointwise []
  rw [row_eq]
  refine (hf.a2 _).trans ?_
  conv_lhs => rw [col_eq x]
  rfl
theorem V97_at (b : Fin 4) (i : Fin 128) (x : Fin 2048) :
    (V m c main_v97 (ix4 b r i x) : EReal) = (((slice V0 r (headOf x)).dO (posOf b i) (laneOf x) : ℝ) : EReal) := by
  rw [V_eq]
  unfold st7
  simp only [hostOps0_2, List.drop_succ_cons, List.drop_zero, List.take_succ_cons, List.take_zero]
  entry_read
  have key := st6_v66_at hA hf r (posOf b i) x
  generalize st6 m c = X at key ⊢
  pointwise []
  rw [row_eq]
  exact key
theorem V98_at (b : Fin 4) (i : Fin 128) (x : Fin 2048) :
    (V m c main_v98 (ix4 b r i x) : EReal) = (((slice V0 r (headOf x)).y (posOf b i) (laneOf x) : ℝ) : EReal) := by
  rw [V_eq]
  unfold st7
  simp only [hostOps0_2, List.drop_succ_cons, List.drop_zero, List.take_succ_cons, List.take_zero]
  entry_read
  have key := st6_v70_at hA hf r (posOf b i) x
  generalize st6 m c = X at key ⊢
  pointwise []
  rw [row_eq]
  exact key
theorem V99_at (b : Fin 4) (i : Fin 128) (x : Fin 2048) :
    (V m c main_v99 (ix4 b r i x) : EReal) = (((slice V0 r (headOf x)).L (posOf b i) : ℝ) : EReal) := by
  rw [V_eq]
  unfold st7
  simp only [hostOps0_2, List.drop_succ_cons, List.drop_zero, List.take_succ_cons, List.take_zero]
  entry_read
  have key := st6_v69_at hA hf r (posOf b i) x
  generalize st6 m c = X at key ⊢
  pointwise []
  rw [row_eq]
  exact key

end Cert.Proof.Att
end
-- ==== Proof.TileAt.lean ====
module

public import proofs.«01_k».proof.Proof.Tile
public import proofs.«01_k».proof.Proof.Ref
public import Idealize.ShloMosaic.Lib.Pointwise
public import Idealize.ShloMosaic.PureOps.Ideal

@[expose] public section

set_option maxRecDepth 16384

noncomputable section

/-! One query block's operations at an index, in exact arithmetic: what they compute of the block's stream and of the two heads
    of the lane pair. -/

namespace Cert.Proof.Att

open Cert.KernelIdeal Cert.KernelIdeal.Gen
open Idealize.ShloMosaic Idealize.ShloMosaic.TcCoe Idealize.ShloMosaic.Tactic

/-! ## Words -/

theorem sge_word (a b : ℕ) (ha : a < 2 ^ 31) (hb : b < 2 ^ 31) :
    IntOp.cmpi .sge (BitVec.ofNat 32 a) (BitVec.ofNat 32 b) = BitVec.ofBool (decide (b ≤ a)) := by
  have ta : (BitVec.ofNat 32 a).toInt = a := by rw [BitVec.toInt_ofNat']; exact Int.bmod_eq_of_le (by omega) (by omega)
  have tb : (BitVec.ofNat 32 b).toInt = b := by rw [BitVec.toInt_ofNat']; exact Int.bmod_eq_of_le (by omega) (by omega)
  simp only [IntOp.cmpi, BitVec.sle, ta, tb]
  congr 1
  exact decide_eq_decide.mpr (by omega)
theorem sle_word (a b : ℕ) (ha : a < 2 ^ 31) (hb : b < 2 ^ 31) :
    IntOp.cmpi .sle (BitVec.ofNat 32 a) (BitVec.ofNat 32 b) = BitVec.ofBool (decide (a ≤ b)) := sge_word b a hb ha
theorem row_word : ∀ R : Fin 256, IntOp.andi (BitVec.ofNat 32 R.val) 127#32 = BitVec.ofNat 32 (R.val % 128) := by decide +kernel
theorem row_word_add : ∀ R : Fin 256, IntOp.addi (BitVec.ofNat 32 (R.val % 128)) 128#32 = BitVec.ofNat 32 (R.val % 128 + 128) := by decide +kernel
theorem lane_word : ∀ x : Fin 128, IntOp.cmpi .slt (BitVec.ofNat 32 x.val) 64#32 = BitVec.ofBool (decide (x.val < 64)) := by decide +kernel
theorem lane_word_not : ∀ x : Fin 128, IntOp.xori (IntOp.cmpi .slt (BitVec.ofNat 32 x.val) 64#32) 1#1 = BitVec.ofBool (decide (¬ x.val < 64)) := by
  decide +kernel
theorem and_word (a b : Bool) : IntOp.andi (BitVec.ofBool a) (BitVec.ofBool b) = BitVec.ofBool (a && b) := by
  cases a <;> cases b <;> rfl
theorem select_word {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem mask_eq : (Named.named (F := Ideal) κ "mask" 0xF149F2CA#32 : Ideal .f32) = (⊥ : EReal) :=
  IdealRules.named_const.ideal_named_scalar _ _ _ _ rfl

/-! ## Lanes and positions -/

def hd (x : Fin 128) : Fin 2 := ⟨x.val / 64, by omega⟩
def ln (x : Fin 128) : Fin 64 := ⟨x.val % 64, by omega⟩
def lane (g : Fin 2) (d : Fin 64) : Fin 128 := ⟨g.val * 64 + d.val, by omega⟩
def stack (g : Fin 2) (i : Fin 128) : Fin 256 := ⟨g.val * 128 + i.val, by omega⟩

theorem hd_lane (g : Fin 2) (d : Fin 64) : hd (lane g d) = g := Fin.ext (by simp only [hd, lane]; omega)
theorem ln_lane (g : Fin 2) (d : Fin 64) : ln (lane g d) = d := Fin.ext (by simp only [ln, lane]; omega)
theorem lane_hd (x : Fin 128) : lane (hd x) (ln x) = x := Fin.ext (by simp only [hd, ln, lane]; omega)
theorem stack_zero (i : Fin 128) (h : i.val < 256) : (⟨i.val, h⟩ : Fin 256) = stack 0 i := Fin.ext (by simp [stack])
theorem stack_one (i : Fin 128) (h : 128 + i.val < 256) : (⟨128 + i.val, h⟩ : Fin 256) = stack 1 i := Fin.ext (by simp [stack])

theorem sum_lanes (f : Fin 128 → ℝ) : ∑ x, f x = ∑ d, f (lane 0 d) + ∑ d, f (lane 1 d) := by
  refine (Fin.sum_univ_add (a := 64) (b := 64) f).trans (congrArg₂ (· + ·) ?_ ?_)
  · exact Finset.sum_congr rfl fun d _ => congrArg f (Fin.ext (by simp [lane]))
  · exact Finset.sum_congr rfl fun d _ => congrArg f (Fin.ext (by simp [lane]; omega))

theorem lane_zero_lt (d : Fin 64) : (lane 0 d).val < 64 := by simp [lane]
theorem lane_one_ge (d : Fin 64) : ¬ (lane 1 d).val < 64 := by simp [lane]

theorem sum_low (f : Fin 128 → ℝ) : ∑ x, (if x.val < 64 then f x else 0) = ∑ d, f (lane 0 d) := by
  rw [sum_lanes]
  simp only [lane_zero_lt, lane_one_ge, if_true, if_false, Finset.sum_const_zero, add_zero]
theorem sum_high (f : Fin 128 → ℝ) : ∑ x, (if x.val < 64 then 0 else f x) = ∑ d, f (lane 1 d) := by
  rw [sum_lanes]
  simp only [lane_zero_lt, lane_one_ge, if_true, if_false, Finset.sum_const_zero, zero_add]

/-- Block `j`'s window position `w` is seen from its row `i`. -/
def Vis (j : Fin 4) (i : Fin 128) (w : Fin 256) : Prop := (i.val ≤ w.val ∧ w.val ≤ i.val + 128) ∧ (j.val = 0 → 128 ≤ w.val)
instance (j : Fin 4) (i : Fin 128) (w : Fin 256) : Decidable (Vis j i w) := inferInstanceAs (Decidable (_ ∧ _))
/-- The position in the stream of window position `w` of block `j`. -/
def keyPos (j : Fin 4) (w : Fin 256) : Fin 512 := ⟨j.val * 128 + w.val - 128, by omega⟩

theorem Vis.le {j : Fin 4} {i : Fin 128} {w : Fin 256} (h : Vis j i w) : 128 ≤ j.val * 128 + w.val := by
  obtain ⟨-, h0⟩ := h
  by_cases hj : j.val = 0
  · have := h0 hj; omega
  · omega
theorem Vis.band {j : Fin 4} {i : Fin 128} {w : Fin 256} (h : Vis j i w) : Band (posOf j i) (keyPos j w) := by
  have := h.le
  obtain ⟨⟨h1, h2⟩, h0⟩ := h
  constructor <;> simp only [posOf, keyPos] <;> omega

/-- The operands of block `j` of a stream, the two heads of its lane pair `D`. -/
structure InTile (D : Fin 2 → Slice) (j : Fin 4) (q dO y : Tile Ideal) (l : Vec Ideal S1x1x128x128 .f32)
    (kx vx : Vec Ideal S256x128 .bf16) (bs : Vec Ideal S1x256x256 .f32) (kw vw : Fin 256 → Fin 128 → ℝ) : Prop where
  hq : ∀ i x, (q (ix4 0 0 i x) : EReal) = (((D (hd x)).q (posOf j i) (ln x) : ℝ) : EReal)
  ho : ∀ i x, (dO (ix4 0 0 i x) : EReal) = (((D (hd x)).dO (posOf j i) (ln x) : ℝ) : EReal)
  hy : ∀ i x, (y (ix4 0 0 i x) : EReal) = (((D (hd x)).y (posOf j i) (ln x) : ℝ) : EReal)
  hl : ∀ i x, (l (ix4 0 0 i x) : EReal) = (((D (hd x)).L (posOf j i) : ℝ) : EReal)
  hk : ∀ w x, (kx (ix2 w x) : EReal) = ((kw w x : ℝ) : EReal)
  hv : ∀ w x, (vx (ix2 w x) : EReal) = ((vw w x : ℝ) : EReal)
  hb : ∀ g i w, (bs (ix3 0 (stack g i) w) : EReal) = if Vis j i w then (0 : EReal) else ⊥
  hkw : ∀ w x, 128 ≤ j.val * 128 + w.val → kw w x = (D (hd x)).k (keyPos j w) (ln x)
  hvw : ∀ w x, 128 ≤ j.val * 128 + w.val → vw w x = (D (hd x)).v (keyPos j w) (ln x)

theorem ite_coe (p : Prop) [Decidable p] (a b : ℝ) : (if p then (a : EReal) else b) = ((if p then a else b : ℝ) : EReal) := by
  split_ifs <;> rfl

theorem stack_lo (i : Fin 128) : (stack 0 i).val < 128 := by simp [stack]
theorem stack_hi (i : Fin 128) : ¬ (stack 1 i).val < 128 := by simp [stack]
theorem stack_lo_eq (i : Fin 128) (h) : (⟨(stack 0 i).val, h⟩ : Fin 128) = i := Fin.ext (by simp [stack])
theorem stack_hi_eq (i : Fin 128) (h) : (⟨(stack 1 i).val - 128, h⟩ : Fin 128) = i := Fin.ext (by simp [stack])

theorem ite_mul_lo (p : Prop) [Decidable p] (a b : ℝ) : (if p then a else 0) * b = if p then a * b else 0 := by
  split_ifs <;> ring
theorem ite_mul_hi (p : Prop) [Decidable p] (a b : ℝ) : (if p then 0 else a) * b = if p then 0 else a * b := by
  split_ifs <;> ring

/-- The largest of one number, at some place, and `-∞` at the others. -/
theorem fold_max_one {ι : Type} [Fintype ι] (P : ι → Prop) [DecidablePred P] (a : EReal) (h : ∃ x, P x) :
    Finset.univ.fold max ⊥ (fun x => if P x then a else ⊥) = a := by
  obtain ⟨x, hx⟩ := h
  refine le_antisymm ((Finset.fold_max_le _).mpr ⟨bot_le, fun y _ => ?_⟩) ((Finset.le_fold_max _).mpr (Or.inr ⟨x, Finset.mem_univ _, ?_⟩))
  · split_ifs
    · exact le_refl _
    · exact bot_le
  · rw [if_pos hx]

variable {D : Fin 2 → Slice} {j : Fin 4} {q dO y : Tile Ideal} {l : Vec Ideal S1x1x128x128 .f32}
  {kx vx : Vec Ideal S256x128 .bf16} {bs : Vec Ideal S1x256x256 .f32} {kw vw : Fin 256 → Fin 128 → ℝ}
variable (T : InTile D j q dO y l kx vx bs kw vw)
include T

theorem score_at (g : Fin 2) (i : Fin 128) (w : Fin 256) :
    (score q kx bs (ix2 (stack g i) w) : EReal)
      = if Vis j i w then ((∑ d, (D g).q (posOf j i) d * (1 / 8) * kw w (lane g d) : ℝ) : EReal) else ⊥ := by
  have key : ∀ a : ℝ, (a : EReal) + (if Vis j i w then (0 : EReal) else ⊥) = if Vis j i w then (a : EReal) else ⊥ := by
    intro a
    split_ifs
    · rw [add_zero]
    · rw [EReal.add_bot]
  rw [← key, ← T.hb g i w]
  fin_cases g
  · pointwise [score, k0_pay28, k0_pay26, k0_pay17]
    simp only [stack_lo, dif_pos, stack_lo_eq, lane_word, select_word, T.hq, T.hk, ofBits_eighth, ← EReal.coe_mul, ← EReal.coe_zero,
      ite_coe, ← coe_sum, ite_mul_lo]
    rw [sum_low]
    simp only [hd_lane, ln_lane]
  · pointwise [score, k0_pay28, k0_pay26, k0_pay17]
    simp only [stack_hi, dif_neg, not_false_eq_true, stack_hi_eq, lane_word, select_word, T.hq, T.hk, ofBits_eighth, ← EReal.coe_mul, ← EReal.coe_zero,
      ite_coe, ← coe_sum, ite_mul_hi]
    rw [sum_high]
    simp only [hd_lane, ln_lane]

theorem dprob_at (g : Fin 2) (i : Fin 128) (w : Fin 256) :
    (dprob dO vx (ix2 (stack g i) w) : EReal) = ((∑ d, (D g).dO (posOf j i) d * vw w (lane g d) : ℝ) : EReal) := by
  fin_cases g
  · pointwise [dprob, k0_pay29, k0_pay27, k0_pay17]
    simp only [stack_lo, dif_pos, stack_lo_eq, lane_word, select_word, T.ho, T.hv, ← EReal.coe_mul, ← EReal.coe_zero,
      ite_coe, ← coe_sum, ite_mul_lo]
    rw [sum_low]
    simp only [hd_lane, ln_lane]
  · pointwise [dprob, k0_pay29, k0_pay27, k0_pay17]
    simp only [stack_hi, dif_neg, not_false_eq_true, stack_hi_eq, lane_word, select_word, T.ho, T.hv, ← EReal.coe_mul, ← EReal.coe_zero,
      ite_coe, ← coe_sum, ite_mul_hi]
    rw [sum_high]
    simp only [hd_lane, ln_lane]

theorem delta_at (g : Fin 2) (i : Fin 128) :
    (delta dO y (ix2 (stack g i) 0) : EReal) = ((∑ d, (D g).dO (posOf j i) d * (D g).y (posOf j i) d : ℝ) : EReal) := by
  fin_cases g
  · pointwise [delta, k0_pay44, k0_pay43, k0_pay17]
    simp only [stack_lo, dif_pos, stack_lo_eq, lane_word, select_word, T.ho, T.hy, ← EReal.coe_mul, ← EReal.coe_zero, ite_coe, ← coe_sum]
    rw [sum_low]
    simp only [hd_lane, ln_lane]
  · pointwise [delta, k0_pay44, k0_pay43, k0_pay17]
    simp only [stack_hi, dif_neg, not_false_eq_true, stack_hi_eq, lane_word, select_word, T.ho, T.hy, ← EReal.coe_mul, ← EReal.coe_zero,
      ite_coe, ← coe_sum]
    rw [sum_high]
    simp only [hd_lane, ln_lane]

theorem rowLse_at (g : Fin 2) (i : Fin 128) : (rowLse l (ix2 (stack g i) 0) : EReal) = (((D g).L (posOf j i) : ℝ) : EReal) := by
  fin_cases g
  · pointwise [rowLse, k0_pay45, k0_pay17, k0_pay18]
    simp only [stack_lo, dif_pos, stack_lo_eq, lane_word, select_word, T.hl, mask_eq, ofBits_negInf]
    rw [show (fun x : Fin 128 => if x.val < 64 then (((D (hd x)).L (posOf j i) : ℝ) : EReal) else ⊥)
      = fun x => if x.val < 64 then (((D 0).L (posOf j i) : ℝ) : EReal) else ⊥ from funext fun x => by
        split_ifs with hx
        · rw [show hd x = 0 from Fin.ext (by simp only [hd]; omega)]
        · rfl]
    exact fold_max_one _ _ ⟨0, by decide⟩
  · pointwise [rowLse, k0_pay45, k0_pay17, k0_pay18]
    simp only [stack_hi, dif_neg, not_false_eq_true, stack_hi_eq, lane_word_not, select_word, T.hl, mask_eq, ofBits_negInf]
    rw [show (fun x : Fin 128 => if ¬ x.val < 64 then (((D (hd x)).L (posOf j i) : ℝ) : EReal) else ⊥)
      = fun x => if ¬ x.val < 64 then (((D 1).L (posOf j i) : ℝ) : EReal) else ⊥ from funext fun x => by
        by_cases hx : ¬ x.val < 64
        · rw [if_pos hx, if_pos hx, show hd x = 1 from Fin.ext (by simp only [hd]; omega)]
        · rw [if_neg hx, if_neg hx]]
    exact fold_max_one _ _ ⟨64, by decide⟩

theorem prob_at (g : Fin 2) (i : Fin 128) (w : Fin 256) :
    Ideal.exp ((score q kx bs (ix2 (stack g i) w) : EReal) - (rowLse l (ix2 (stack g i) 0) : EReal))
      = ((if Vis j i w then (D g).p (posOf j i) (keyPos j w) else 0 : ℝ) : EReal) := by
  rw [score_at T, rowLse_at T]
  by_cases hv : Vis j i w
  · rw [if_pos hv, if_pos hv, ← EReal.coe_sub, Ideal.exp_coe, Slice.p, if_pos hv.band, Slice.s, Finset.sum_mul]
    refine congrArg (fun z : ℝ => ((Real.exp (z - _) : ℝ) : EReal)) (Finset.sum_congr rfl fun d _ => ?_)
    rw [T.hkw _ _ hv.le, hd_lane, ln_lane]
    ring
  · rw [if_neg hv, if_neg hv, EReal.bot_sub, Ideal.exp_bot]
    rfl

theorem dscore_at (g : Fin 2) (i : Fin 128) (w : Fin 256) :
    Ideal.exp ((score q kx bs (ix2 (stack g i) w) : EReal) - (rowLse l (ix2 (stack g i) 0) : EReal))
        * ((dprob dO vx (ix2 (stack g i) w) : EReal) - (delta dO y (ix2 (stack g i) 0) : EReal))
      = ((if Vis j i w then (D g).ds (posOf j i) (keyPos j w) else 0 : ℝ) : EReal) := by
  rw [prob_at T, dprob_at T, delta_at T, ← EReal.coe_sub, ← EReal.coe_mul]
  refine congrArg (fun z : ℝ => (z : EReal)) ?_
  by_cases hv : Vis j i w
  · rw [if_pos hv, if_pos hv, Slice.ds]
    refine congrArg (fun z : ℝ => _ * (z - _)) (Finset.sum_congr rfl fun d _ => ?_)
    rw [T.hvw _ _ hv.le, hd_lane, ln_lane]
  · rw [if_neg hv, if_neg hv, zero_mul]

theorem dkT_at (x : Fin 128) (w : Fin 256) :
    (dkT q dO y l kx vx bs (ix2 x w) : EReal)
      = ((∑ i, (D (hd x)).q (posOf j i) (ln x) * (1 / 8) * (if Vis j i w then (D (hd x)).ds (posOf j i) (keyPos j w) else 0) : ℝ) : EReal) := by
  pointwise [dkT, k0_pay48, k0_pay47, k0_pay46, k0_pay42, k0_pay19]
  simp only [stack_zero, stack_one, dscore_at T, lane_word, select_word, T.hq, ofBits_eighth, ← EReal.coe_mul]
  by_cases hx : x.val < 64
  · simp only [if_pos hx, Finset.sum_const_zero, add_zero, ← coe_sum, show hd x = 0 from Fin.ext (by simp only [hd]; omega)]
  · simp only [if_neg hx, Finset.sum_const_zero, zero_add, ← coe_sum, show hd x = 1 from Fin.ext (by simp only [hd]; omega)]

theorem dvT_at (x : Fin 128) (w : Fin 256) :
    (dvT q dO l kx bs (ix2 x w) : EReal)
      = ((∑ i, (D (hd x)).dO (posOf j i) (ln x) * (if Vis j i w then (D (hd x)).p (posOf j i) (keyPos j w) else 0) : ℝ) : EReal) := by
  pointwise [dvT, k0_pay49, k0_pay46, k0_pay43, k0_pay19]
  simp only [stack_zero, stack_one, prob_at T, lane_word, select_word, T.ho, ← EReal.coe_mul]
  by_cases hx : x.val < 64
  · simp only [if_pos hx, Finset.sum_const_zero, add_zero, ← coe_sum, show hd x = 0 from Fin.ext (by simp only [hd]; omega)]
  · simp only [if_neg hx, Finset.sum_const_zero, zero_add, ← coe_sum, show hd x = 1 from Fin.ext (by simp only [hd]; omega)]

theorem dqTile_at (i x : Fin 128) :
    (dqTile q dO y l kx vx bs (ix4 0 0 i x) : EReal)
      = (((∑ w, (if Vis j i w then (D (hd x)).ds (posOf j i) (keyPos j w) else 0) * kw w x) * (1 / 8) : ℝ) : EReal) := by
  pointwise [dqTile, k0_pay53, k0_pay52, k0_pay47, k0_pay46, k0_pay17]
  simp only [stack_zero, stack_one, dscore_at T, lane_word, select_word, T.hk, ofBits_eighth, ← EReal.coe_mul, ← coe_sum]
  by_cases hx : x.val < 64
  · simp only [if_pos hx, show hd x = 0 from Fin.ext (by simp only [hd]; omega)]
  · simp only [if_neg hx, show hd x = 1 from Fin.ext (by simp only [hd]; omega)]

omit T in
theorem joinTile_at (u v : FVec Ideal S128x256 .f32) (i x : Fin 128) :
    (joinTile u v (ix4 0 0 i x) : EReal) = (u (ix2 x (stack 1 i)) : EReal) + (v (ix2 x (stack 0 i)) : EReal) := by
  pointwise [joinTile, k0_pay40]
  simp only [stack_zero, stack_one]
omit T in
theorem lastTile_at (u : FVec Ideal S128x256 .f32) (i x : Fin 128) :
    (lastTile u (ix4 0 0 i x) : EReal) = (u (ix2 x (stack 1 i)) : EReal) := by
  pointwise [lastTile, k0_pay93]
  simp only [stack_one]

end Cert.Proof.Att
end
-- ==== Proof.Block.lean ====
module

public import proofs.«01_k».proof.Proof.First
public import proofs.«01_k».proof.Proof.TileAt
public import Idealize.ShloMosaic.Lib.Pipeline.ValueKit

@[expose] public section

set_option maxRecDepth 16384

noncomputable section

/-! One grid point of the backward pass in exact arithmetic: its four query blocks together give the closed form of the
    three gradients at the positions of the stream. -/

namespace Cert.Proof.Att

open Cert.KernelIdeal Cert.KernelIdeal.Gen
open Idealize.ShloMosaic Idealize.ShloMosaic.TcCoe Idealize.ShloMosaic.Tactic

/-! ## Sums over the positions of a stream -/

theorem sum_blocks (f : Fin 512 → ℝ) : ∑ j, f j = ∑ b : Fin 4, ∑ i : Fin 128, f (posOf b i) := by
  rw [← Fintype.sum_prod_type' (f := fun b i => f (posOf b i))]
  refine (Fintype.sum_equiv (finProdFinEquiv (m := 4) (n := 128)) _ _ fun x => ?_).symm
  exact congrArg f (Fin.ext (by
    rw [finProdFinEquiv_apply_val]; simp only [posOf]; omega))

theorem sum_stack (f : Fin 256 → ℝ) : ∑ w, f w = ∑ i, f (stack 0 i) + ∑ i, f (stack 1 i) := by
  refine (Fin.sum_univ_add (a := 128) (b := 128) f).trans (congrArg₂ (· + ·) ?_ ?_)
  · exact Finset.sum_congr rfl fun d _ => congrArg f (Fin.ext (by simp [stack]))
  · exact Finset.sum_congr rfl fun d _ => congrArg f (Fin.ext (by simp [stack]; omega))

theorem key_own (b : Fin 4) (i : Fin 128) : keyPos b (stack 1 i) = posOf b i := Fin.ext (by simp only [keyPos, stack, posOf]; omega)
theorem key_before (b c : Fin 4) (h : b.val = c.val + 1) (i : Fin 128) : keyPos b (stack 0 i) = posOf c i :=
  Fin.ext (by simp only [keyPos, stack, posOf]; simp; omega)

theorem vis_own (b : Fin 4) (i i' : Fin 128) : Vis b i' (stack 1 i) ↔ Band (posOf b i') (posOf b i) := by
  simp only [Vis, Band, stack, posOf]; simp; omega
theorem vis_before (b c : Fin 4) (h : b.val = c.val + 1) (i i' : Fin 128) : Vis b i' (stack 0 i) ↔ Band (posOf b i') (posOf c i) := by
  simp only [Vis, Band, stack, posOf]; simp; omega
theorem not_vis_first (i i' : Fin 128) : ¬ Vis 0 i' (stack 0 i) := by
  simp only [Vis, stack]; simp

theorem ite_own (b : Fin 4) (i i' : Fin 128) (f : Fin 512 → Fin 512 → ℝ) (hf : ∀ i j, ¬ Band i j → f i j = 0) :
    (if Vis b i' (stack 1 i) then f (posOf b i') (keyPos b (stack 1 i)) else 0) = f (posOf b i') (posOf b i) := by
  rw [key_own]
  by_cases h : Vis b i' (stack 1 i)
  · rw [if_pos h]
  · rw [if_neg h, hf _ _ fun hb => h ((vis_own b i i').mpr hb)]
theorem ite_before (b c : Fin 4) (h : b.val = c.val + 1) (i i' : Fin 128) (f : Fin 512 → Fin 512 → ℝ) (hf : ∀ i j, ¬ Band i j → f i j = 0) :
    (if Vis b i' (stack 0 i) then f (posOf b i') (keyPos b (stack 0 i)) else 0) = f (posOf b i') (posOf c i) := by
  rw [key_before b c h]
  by_cases hv : Vis b i' (stack 0 i)
  · rw [if_pos hv]
  · rw [if_neg hv, hf _ _ fun hb => hv ((vis_before b c h i i').mpr hb)]

theorem far (b c : Fin 4) (h : b.val < c.val ∨ c.val + 1 < b.val) (i i' : Fin 128) : ¬ Band (posOf b i') (posOf c i) := by
  simp only [Band, posOf]; omega

/-- The queries that see a position of block `c`: the block's own and the next block's. -/
theorem sum_queries (f : Fin 512 → Fin 512 → ℝ) (hf : ∀ i j, ¬ Band i j → f i j = 0) (b c : Fin 4) (h : b.val = c.val + 1) (i : Fin 128) :
    ∑ κ, f κ (posOf c i) = ∑ i', f (posOf c i') (posOf c i) + ∑ i', f (posOf b i') (posOf c i) := by
  rw [sum_blocks, ← Finset.sum_subset (Finset.subset_univ {c, b}), Finset.sum_pair]
  · intro e; rw [e] at h; omega
  · intro a _ ha
    simp only [Finset.mem_insert, Finset.mem_singleton, not_or] at ha
    have h1 : a.val ≠ c.val := fun e => ha.1 (Fin.ext e)
    have h2 : a.val ≠ b.val := fun e => ha.2 (Fin.ext e)
    exact Finset.sum_eq_zero fun i' _ => hf _ _ (far a c (by omega) i i')
theorem sum_queries_last (f : Fin 512 → Fin 512 → ℝ) (hf : ∀ i j, ¬ Band i j → f i j = 0) (i : Fin 128) :
    ∑ κ, f κ (posOf 3 i) = ∑ i', f (posOf 3 i') (posOf 3 i) := by
  rw [sum_blocks, ← Finset.sum_subset (Finset.subset_univ {3}), Finset.sum_singleton]
  intro a _ ha
  have h1 : a.val ≠ 3 := fun e => ha (Finset.mem_singleton.mpr (Fin.ext e))
  exact Finset.sum_eq_zero fun i' _ => hf _ _ (far a 3 (Or.inl (by have := a.isLt; show a.val < 3; omega)) i i')
/-- The positions a query of block `b` sees: the block before and its own. -/
theorem sum_keys (f : Fin 512 → Fin 512 → ℝ) (hf : ∀ i j, ¬ Band i j → f i j = 0) (b c : Fin 4) (h : b.val = c.val + 1) (i : Fin 128) :
    ∑ κ, f (posOf b i) κ = ∑ i', f (posOf b i) (posOf c i') + ∑ i', f (posOf b i) (posOf b i') := by
  rw [sum_blocks, ← Finset.sum_subset (Finset.subset_univ {c, b}), Finset.sum_pair]
  · intro e; rw [e] at h; omega
  · intro a _ ha
    simp only [Finset.mem_insert, Finset.mem_singleton, not_or] at ha
    have h1 : a.val ≠ c.val := fun e => ha.1 (Fin.ext e)
    have h2 : a.val ≠ b.val := fun e => ha.2 (Fin.ext e)
    exact Finset.sum_eq_zero fun i' _ => hf _ _ (far b a (by omega) i' i)
theorem sum_keys_first (f : Fin 512 → Fin 512 → ℝ) (hf : ∀ i j, ¬ Band i j → f i j = 0) (i : Fin 128) :
    ∑ κ, f (posOf 0 i) κ = ∑ i', f (posOf 0 i) (posOf 0 i') := by
  rw [sum_blocks, ← Finset.sum_subset (Finset.subset_univ {0}), Finset.sum_singleton]
  intro a _ ha
  have h1 : a.val ≠ 0 := fun e => ha (Finset.mem_singleton.mpr (Fin.ext e))
  exact Finset.sum_eq_zero fun i' _ => hf _ _ (far 0 a (Or.inl (by show 0 < a.val; omega)) i' i)

theorem sum_window (f : Fin 512 → Fin 512 → ℝ) (hf : ∀ i j, ¬ Band i j → f i j = 0) (b : Fin 4) (i : Fin 128) :
    ∑ w, (if Vis b i w then f (posOf b i) (keyPos b w) else 0) = ∑ κ, f (posOf b i) κ := by
  rw [sum_stack]
  simp only [ite_own b _ i f hf]
  by_cases h0 : b = 0
  · subst h0
    simp only [not_vis_first, if_false, Finset.sum_const_zero, zero_add]
    exact (sum_keys_first f hf i).symm
  · have hb : b.val ≠ 0 := fun e => h0 (Fin.ext e)
    have h : b.val = (⟨b.val - 1, by omega⟩ : Fin 4).val + 1 := by show b.val = b.val - 1 + 1; omega
    simp only [ite_before b _ h _ i f hf]
    exact (sum_keys f hf b _ h i).symm

/-! ## The window, the blocks and the masks at an index -/

abbrev Four (F : FTy → Type) := Vec F S4x1x128x128 .bf16

def blockOf {e : EltTy} (X : Vec Ideal S4x1x128x128 e) (j : Fin 4) : Vec Ideal S1x1x128x128 e := fun y => X (ix4 j 0 (y 2) (y 3))
def winOf (W : Vec Ideal S640x128 .bf16) (j : Fin 4) : Vec Ideal S256x128 .bf16 :=
  fun y => W (ix2 (⟨j.val * 128 + (y 0).val, by have : (y 0).val < 256 := (y 0).isLt; omega⟩ : Fin 640) (y 1))
def maskOf (j : Fin 4) : Vec Ideal S1x256x256 .f32 := if j = 0 then (k0_pay4 : FVec Ideal S1x256x256 .f32) else (k0_pay3 : FVec Ideal S1x256x256 .f32)

theorem ld_rT0 {e : EltTy} (X : Vec Ideal S4x1x128x128 e) : View.ld X rT0 = blockOf X 0 := by
  funext y; refine congrArg X (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 0 + 1 * (y 3).val = (y 3).val; omega
theorem ld_rT1 {e : EltTy} (X : Vec Ideal S4x1x128x128 e) : View.ld X rT1 = blockOf X 1 := by
  funext y; refine congrArg X (funext fun a => Fin.ext ?_)
  have h0 : (y 0).val < 1 := (y 0).isLt
  have h1 : (y 1).val < 1 := (y 1).isLt
  match a with
  | ⟨0, _⟩ => show 1 + 1 * (y 0).val = 1; omega
  | ⟨1, _⟩ => show 0 + 1 * (y 1).val = 0; omega
  | ⟨2, _⟩ => show 0 + 1 * (y 2).val = (y 2).val; omega
  | ⟨3, _⟩ => show 0 + 1 * (y 3).val = (y 3).val; omega
theorem ld_rT2 {e : EltTy} (X : Vec Ideal S4x1x128x128 e) : View.ld X rT2 = blockOf X 2 := by
  funext y; refine congrArg X (funext fun a => Fin.ext ?_)
  have h0 : (y 0).val < 1 := (y 0).isLt
  have h1 : (y 1).val < 1 := (y 1).isLt
  match a with
  | ⟨0, _⟩ => show 2 + 1 * (y 0).val = 2; omega
  | ⟨1, _⟩ => show 0 + 1 * (y 1).val = 0; omega
  | ⟨2, _⟩ => show 0 + 1 * (y 2).val = (y 2).val; omega
  | ⟨3, _⟩ => show 0 + 1 * (y 3).val = (y 3).val; omega
theorem ld_rT3 {e : EltTy} (X : Vec Ideal S4x1x128x128 e) : View.ld X rT3 = blockOf X 3 := by
  funext y; refine congrArg X (funext fun a => Fin.ext ?_)
  have h0 : (y 0).val < 1 := (y 0).isLt
  have h1 : (y 1).val < 1 := (y 1).isLt
  match a with
  | ⟨0, _⟩ => show 3 + 1 * (y 0).val = 3; omega
  | ⟨1, _⟩ => show 0 + 1 * (y 1).val = 0; omega
  | ⟨2, _⟩ => show 0 + 1 * (y 2).val = (y 2).val; omega
  | ⟨3, _⟩ => show 0 + 1 * (y 3).val = (y 3).val; omega
theorem ld_rH {e : EltTy} (X : Vec Ideal S1x1x128x128 e) : View.ld X rH = X := by
  funext y; refine congrArg X (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem ld_rX0 (W : Vec Ideal S640x128 .bf16) : View.ld W rX0 = winOf W 0 := by
  funext y; refine congrArg W (funext fun a => Fin.ext ?_)
  match a with
  | ⟨0, _⟩ => show 0 + 1 * (y 0).val = 0 * 128 + (y 0).val; omega
  | ⟨1, _⟩ => show 0 + 1 * (y 1).val = (y 1).val; omega
theorem ld_rX1 (W : Vec Ideal S640x128 .bf16) : View.ld W rX1 = winOf W 1 := by
  funext y; refine congrArg W (funext fun a => Fin.ext ?_)
  match a with
  | ⟨0, _⟩ => show 128 + 1 * (y 0).val = 1 * 128 + (y 0).val; omega
  | ⟨1, _⟩ => show 0 + 1 * (y 1).val = (y 1).val; omega
theorem ld_rX2 (W : Vec Ideal S640x128 .bf16) : View.ld W rX2 = winOf W 2 := by
  funext y; refine congrArg W (funext fun a => Fin.ext ?_)
  match a with
  | ⟨0, _⟩ => show 256 + 1 * (y 0).val = 2 * 128 + (y 0).val; omega
  | ⟨1, _⟩ => show 0 + 1 * (y 1).val = (y 1).val; omega
theorem ld_rX3 (W : Vec Ideal S640x128 .bf16) : View.ld W rX3 = winOf W 3 := by
  funext y; refine congrArg W (funext fun a => Fin.ext ?_)
  match a with
  | ⟨0, _⟩ => show 384 + 1 * (y 0).val = 3 * 128 + (y 0).val; omega
  | ⟨1, _⟩ => show 0 + 1 * (y 1).val = (y 1).val; omega

theorem pay5_at (t : Tile Ideal) (i x : Fin 128) : k0_pay5 t (ix2 i x) = t (ix4 0 0 i x) := by pointwise [k0_pay5]
theorem pay6_at (t : Tile Ideal) (i x : Fin 128) : k0_pay6 t (ix2 i x) = t (ix4 0 0 i x) := by pointwise [k0_pay6]
theorem pay7_at (t : Tile Ideal) (i x : Fin 128) : k0_pay7 t (ix2 i x) = t (ix4 0 0 i x) := by pointwise [k0_pay7]
theorem pay89_at (t : Tile Ideal) (i x : Fin 128) : k0_pay9 (k0_pay8 t) (ix2 i x) = t (ix4 0 0 i x) := by pointwise [k0_pay9, k0_pay8]
theorem pay10_at (t : Tile Ideal) (i x : Fin 128) : k0_pay10 t (ix2 i x) = t (ix4 0 0 i x) := by pointwise [k0_pay10]

theorem idx_pair (z : S128x128.Idx) (i x : Fin 128) (h0 : i.val = (z 0).val) (h1 : x.val = (z 1).val) : z = ix2 i x := by
  funext a; refine Fin.ext ?_
  match a with
  | ⟨0, _⟩ => exact h0.symm
  | ⟨1, _⟩ => exact h1.symm
theorem idx_tile (z : S1x1x128x128.Idx) (i x : Fin 128) (h2 : i.val = (z 2).val) (h3 : x.val = (z 3).val) : z = ix4 0 0 i x := by
  have h0 : (z 0).val < 1 := (z 0).isLt
  have h1 : (z 1).val < 1 := (z 1).isLt
  funext a; refine Fin.ext ?_
  match a with
  | ⟨0, _⟩ => show (z 0).val = 0; omega
  | ⟨1, _⟩ => show (z 1).val = 0; omega
  | ⟨2, _⟩ => exact h2.symm
  | ⟨3, _⟩ => exact h3.symm

theorem window_at (k : Four Ideal) (kh : Tile Ideal) (R : Fin 640) (x : Fin 128) :
    window k kh (ix2 R x) = if h : R.val < 128 then kh (ix4 0 0 (⟨R.val, h⟩ : Fin 128) x)
      else k (ix4 (⟨R.val / 128 - 1, by omega⟩ : Fin 4) 0 (⟨R.val % 128, by omega⟩ : Fin 128) x) := by
  unfold window
  simp only [ld_rT0, ld_rT1, ld_rT2, ld_rT3, ld_rH]
  canon_tiles z h
  · have e0 : R.val = 512 + (z 0).val := h0
    rw [show z = ix2 (⟨R.val % 128, by omega⟩ : Fin 128) x from idx_pair z _ _ (by show R.val % 128 = _; omega) h1, pay10_at, dif_neg (by omega)]
    exact congrArg (fun b => k (ix4 b 0 (⟨R.val % 128, by omega⟩ : Fin 128) x)) (Fin.ext (by show 3 = R.val / 128 - 1; omega))
  · have e0 : R.val = 384 + (z 0).val := h0
    rw [show z = ix2 (⟨R.val % 128, by omega⟩ : Fin 128) x from idx_pair z _ _ (by show R.val % 128 = _; omega) h1, pay89_at, dif_neg (by omega)]
    exact congrArg (fun b => k (ix4 b 0 (⟨R.val % 128, by omega⟩ : Fin 128) x)) (Fin.ext (by show 2 = R.val / 128 - 1; omega))
  · have e0 : R.val = 256 + (z 0).val := h0
    rw [show z = ix2 (⟨R.val % 128, by omega⟩ : Fin 128) x from idx_pair z _ _ (by show R.val % 128 = _; omega) h1, pay7_at, dif_neg (by omega)]
    exact congrArg (fun b => k (ix4 b 0 (⟨R.val % 128, by omega⟩ : Fin 128) x)) (Fin.ext (by show 1 = R.val / 128 - 1; omega))
  · have e0 : R.val = 128 + (z 0).val := h0
    rw [show z = ix2 (⟨R.val % 128, by omega⟩ : Fin 128) x from idx_pair z _ _ (by show R.val % 128 = _; omega) h1, pay6_at, dif_neg (by omega)]
    exact congrArg (fun b => k (ix4 b 0 (⟨R.val % 128, by omega⟩ : Fin 128) x)) (Fin.ext (by show 0 = R.val / 128 - 1; omega))
  · have e0 : R.val = (z 0).val := h0
    rw [show z = ix2 (⟨R.val, by omega⟩ : Fin 128) x from idx_pair z _ _ h0 h1, pay5_at, dif_pos (by omega)]

theorem tiles_at (p0 p1 p2 p3 : Tile Ideal) (b : Fin 4) (i x : Fin 128) :
    (View.canon ([⟨rT3, p3⟩, ⟨rT2, p2⟩, ⟨rT1, p1⟩, ⟨rT0, p0⟩] : List (View.Piece (Elt Ideal) S4x1x128x128 .bf16))) (ix4 b 0 i x)
      = (![p0, p1, p2, p3] b) (ix4 0 0 i x) := by
  canon_tiles z h using tiles_cover ..
  · have e0 : b.val = 3 + (z 0).val := h0
    obtain rfl : b = 3 := Fin.ext (by show b.val = 3; omega)
    exact congrArg p3 (idx_tile z i x h2 h3)
  · have e0 : b.val = 2 + (z 0).val := h0
    obtain rfl : b = 2 := Fin.ext (by show b.val = 2; omega)
    exact congrArg p2 (idx_tile z i x h2 h3)
  · have e0 : b.val = 1 + (z 0).val := h0
    obtain rfl : b = 1 := Fin.ext (by show b.val = 1; omega)
    exact congrArg p1 (idx_tile z i x h2 h3)
  · have e0 : b.val = (z 0).val := h0
    obtain rfl : b = 0 := Fin.ext (by show b.val = 0; omega)
    exact congrArg p0 (idx_tile z i x h2 h3)

theorem mask_one (i : grid0.Coords) : View.ld (maskPair (F := Ideal)) (rM i 1#1 (k0_off1_inb i 1)) = maskOf 0 := by
  funext y
  have e0 : ((rM i 1#1 (k0_off1_inb i 1)).idx y 0).val = 1 + (y 0).val := by
    show k0_off1 i 1#1 0 + 1 * (y 0).val = _; rw [off1_one]; show 1 + 1 * (y 0).val = _; omega
  have e1 : ((rM i 1#1 (k0_off1_inb i 1)).idx y 1).val = (y 1).val := by
    show k0_off1 i 1#1 1 + 1 * (y 1).val = _; rw [off1_one]; show 0 + 1 * (y 1).val = _; omega
  have e2 : ((rM i 1#1 (k0_off1_inb i 1)).idx y 2).val = (y 2).val := by
    show k0_off1 i 1#1 2 + 1 * (y 2).val = _; rw [off1_one]; show 0 + 1 * (y 2).val = _; omega
  have y0 : (y 0).val < 1 := (y 0).isLt
  unfold maskPair View.ld
  canon_tiles z h
  · have hz : z = y := funext fun a => Fin.ext (by
      match a with
      | ⟨0, _⟩ => show (z 0).val = (y 0).val; omega
      | ⟨1, _⟩ => exact (h1.symm.trans e1)
      | ⟨2, _⟩ => exact (h2.symm.trans e2))
    rw [hz, maskOf, if_pos rfl]
  · exfalso; omega
theorem mask_zero (i : grid0.Coords) (j : Fin 4) (hj : j ≠ 0) : View.ld (maskPair (F := Ideal)) (rM i 0#1 (k0_off1_inb i 0)) = maskOf j := by
  funext y
  have e0 : ((rM i 0#1 (k0_off1_inb i 0)).idx y 0).val = 0 + (y 0).val := by
    show k0_off1 i 0#1 0 + 1 * (y 0).val = _; rw [off1_zero]; show 0 + 1 * (y 0).val = _; omega
  have e1 : ((rM i 0#1 (k0_off1_inb i 0)).idx y 1).val = (y 1).val := by
    show k0_off1 i 0#1 1 + 1 * (y 1).val = _; rw [off1_zero]; show 0 + 1 * (y 1).val = _; omega
  have e2 : ((rM i 0#1 (k0_off1_inb i 0)).idx y 2).val = (y 2).val := by
    show k0_off1 i 0#1 2 + 1 * (y 2).val = _; rw [off1_zero]; show 0 + 1 * (y 2).val = _; omega
  have y0 : (y 0).val < 1 := (y 0).isLt
  unfold maskPair View.ld
  canon_tiles z h
  · exfalso; omega
  · have hz : z = y := funext fun a => Fin.ext (by
      match a with
      | ⟨0, _⟩ => show (z 0).val = (y 0).val; omega
      | ⟨1, _⟩ => exact (h1.symm.trans e1)
      | ⟨2, _⟩ => exact (h2.symm.trans e2))
    rw [hz, maskOf, if_neg hj]

theorem maskOf_at (j : Fin 4) (g : Fin 2) (i : Fin 128) (w : Fin 256) :
    (maskOf j (ix3 0 (stack g i) w) : EReal) = if Vis j i w then (0 : EReal) else ⊥ := by
  have hs : (stack g i).val % 128 = i.val := by simp only [stack]; omega
  unfold maskOf
  by_cases hj : j = 0
  · rw [if_pos hj]
    subst hj
    pointwise [k0_pay4, k0_pay2]
    rw [row_word, row_word_add, sge_word _ _ (by omega) (by omega), sle_word _ _ (by omega) (by omega), sge_word _ _ (by omega) (by omega),
      and_word, and_word, ← Bool.decide_and, ← Bool.decide_and, select_word, mask_eq, hs]
    exact if_congr (by simp [Vis]) rfl rfl
  · rw [if_neg hj]
    pointwise [k0_pay3, k0_pay2]
    rw [row_word, row_word_add, sge_word _ _ (by omega) (by omega), sle_word _ _ (by omega) (by omega),
      and_word, ← Bool.decide_and, select_word, mask_eq, hs]
    exact if_congr (by simp only [Vis]; exact ⟨fun h => ⟨h, fun e => absurd (Fin.ext e) hj⟩, fun h => h.1⟩) rfl rfl

/-! ## The blocks of a grid point -/

/-- The operands of a grid point: the four blocks of a stream at a lane pair, whose two heads are `D`, and the block before them
    (some real numbers: the first block's mask covers it). -/
structure InBlock (D : Fin 2 → Slice) (q k v dO y : Four Ideal) (kh vh : Tile Ideal) (l : Vec Ideal S4x1x128x128 .f32)
    (kr vr : Fin 128 → Fin 128 → ℝ) : Prop where
  hq : ∀ b i x, (q (ix4 b 0 i x) : EReal) = (((D (hd x)).q (posOf b i) (ln x) : ℝ) : EReal)
  hk : ∀ b i x, (k (ix4 b 0 i x) : EReal) = (((D (hd x)).k (posOf b i) (ln x) : ℝ) : EReal)
  hv : ∀ b i x, (v (ix4 b 0 i x) : EReal) = (((D (hd x)).v (posOf b i) (ln x) : ℝ) : EReal)
  ho : ∀ b i x, (dO (ix4 b 0 i x) : EReal) = (((D (hd x)).dO (posOf b i) (ln x) : ℝ) : EReal)
  hy : ∀ b i x, (y (ix4 b 0 i x) : EReal) = (((D (hd x)).y (posOf b i) (ln x) : ℝ) : EReal)
  hl : ∀ b i x, (l (ix4 b 0 i x) : EReal) = (((D (hd x)).L (posOf b i) : ℝ) : EReal)
  hkh : ∀ i x, (kh (ix4 0 0 i x) : EReal) = ((kr i x : ℝ) : EReal)
  hvh : ∀ i x, (vh (ix4 0 0 i x) : EReal) = ((vr i x : ℝ) : EReal)

/-- The window of block `j`: the block before the four (`r`), then the stream's positions (`s`). -/
def windowReal (r : Fin 128 → Fin 128 → ℝ) (s : Fin 2 → Fin 512 → Fin 64 → ℝ) (j : Fin 4) (w : Fin 256) (x : Fin 128) : ℝ :=
  if h : j.val * 128 + w.val < 128 then r ⟨j.val * 128 + w.val, h⟩ x else s (hd x) (keyPos j w) (ln x)

theorem winOf_at (k : Four Ideal) (kh : Tile Ideal) (r : Fin 128 → Fin 128 → ℝ) (s : Fin 2 → Fin 512 → Fin 64 → ℝ)
    (hk : ∀ b i x, (k (ix4 b 0 i x) : EReal) = ((s (hd x) (posOf b i) (ln x) : ℝ) : EReal))
    (hh : ∀ i x, (kh (ix4 0 0 i x) : EReal) = ((r i x : ℝ) : EReal)) (j : Fin 4) (w : Fin 256) (x : Fin 128) :
    (winOf (window k kh) j (ix2 w x) : EReal) = ((windowReal r s j w x : ℝ) : EReal) := by
  show (window k kh (ix2 (⟨j.val * 128 + w.val, by omega⟩ : Fin 640) x) : EReal) = _
  rw [window_at, windowReal]
  by_cases h : j.val * 128 + w.val < 128
  · rw [dif_pos h, dif_pos h, hh]
  · rw [dif_neg h, dif_neg h, hk]
    refine congrArg (fun p => ((s (hd x) p (ln x) : ℝ) : EReal)) (Fin.ext ?_)
    simp only [posOf, keyPos]; omega

section
variable {D : Fin 2 → Slice} {q k v dO y : Four Ideal} {kh vh : Tile Ideal} {l : Vec Ideal S4x1x128x128 .f32}
  {kr vr : Fin 128 → Fin 128 → ℝ} (B : InBlock D q k v dO y kh vh l kr vr)

abbrev kReal (D : Fin 2 → Slice) (kr : Fin 128 → Fin 128 → ℝ) := windowReal kr fun g => (D g).k
abbrev vReal (D : Fin 2 → Slice) (vr : Fin 128 → Fin 128 → ℝ) := windowReal vr fun g => (D g).v

include B in
theorem InBlock.tile (j : Fin 4) : InTile D j (blockOf q j) (blockOf dO j) (blockOf y j) (blockOf l j) (winOf (window k kh) j)
    (winOf (window v vh) j) (maskOf j) (kReal D kr j) (vReal D vr j) where
  hq i x := B.hq j i x
  ho i x := B.ho j i x
  hy i x := B.hy j i x
  hl i x := B.hl j i x
  hk w x := winOf_at k kh kr _ B.hk B.hkh j w x
  hv w x := winOf_at v vh vr _ B.hv B.hvh j w x
  hb g i w := maskOf_at j g i w
  hkw w x h := dif_neg (by omega)
  hvw w x h := dif_neg (by omega)

/-- Block `j`'s part of the gradient of the keys, and of the values. -/
def dkPart (q k v dO y : Four Ideal) (kh vh : Tile Ideal) (l : Vec Ideal S4x1x128x128 .f32) (j : Fin 4) : FVec Ideal S128x256 .f32 :=
  dkT (blockOf q j) (blockOf dO j) (blockOf y j) (blockOf l j) (winOf (window k kh) j) (winOf (window v vh) j) (maskOf j)
def dvPart (q k dO : Four Ideal) (kh : Tile Ideal) (l : Vec Ideal S4x1x128x128 .f32) (j : Fin 4) : FVec Ideal S128x256 .f32 :=
  dvT (blockOf q j) (blockOf dO j) (blockOf l j) (winOf (window k kh) j) (maskOf j)
def dqPart (q k v dO y : Four Ideal) (kh vh : Tile Ideal) (l : Vec Ideal S4x1x128x128 .f32) (j : Fin 4) : Tile Ideal :=
  dqTile (blockOf q j) (blockOf dO j) (blockOf y j) (blockOf l j) (winOf (window k kh) j) (winOf (window v vh) j) (maskOf j)

theorem dqOut_eq (i : grid0.Coords) : dqOut i q k v dO y kh vh l maskPair
    = View.canon ([⟨rT3, dqPart q k v dO y kh vh l 3⟩, ⟨rT2, dqPart q k v dO y kh vh l 2⟩, ⟨rT1, dqPart q k v dO y kh vh l 1⟩,
      ⟨rT0, dqPart q k v dO y kh vh l 0⟩] : List (View.Piece (Elt Ideal) S4x1x128x128 .bf16)) := by
  unfold dqOut dqPart
  refine canon_tiles_congr ?_ ?_ ?_ ?_
  · rw [mask_one i]; simp only [ld_rT0, ld_rX0]
  · rw [mask_zero i 1 (by decide)]; simp only [ld_rT1, ld_rX1]
  · rw [mask_zero i 2 (by decide)]; simp only [ld_rT2, ld_rX2]
  · rw [mask_zero i 3 (by decide)]; simp only [ld_rT3, ld_rX3]
theorem dk0_eq (i : grid0.Coords) : dk0 i q k v dO y kh vh l maskPair = dkPart q k v dO y kh vh l 0 := by
  unfold dk0 dkPart; rw [mask_one i]; simp only [ld_rT0, ld_rX0]
theorem dv0_eq (i : grid0.Coords) : dv0 i q k dO kh l maskPair = dvPart q k dO kh l 0 := by
  unfold dv0 dvPart; rw [mask_one i]; simp only [ld_rT0, ld_rX0]
theorem dk1_eq (i : grid0.Coords) : dk1 i q k v dO y kh vh l maskPair = dkPart q k v dO y kh vh l 1 := by
  unfold dk1 dkPart; rw [mask_zero i 1 (by decide)]; simp only [ld_rT1, ld_rX1]
theorem dv1_eq (i : grid0.Coords) : dv1 i q k dO kh l maskPair = dvPart q k dO kh l 1 := by
  unfold dv1 dvPart; rw [mask_zero i 1 (by decide)]; simp only [ld_rT1, ld_rX1]
theorem dk2_eq (i : grid0.Coords) : dk2 i q k v dO y kh vh l maskPair = dkPart q k v dO y kh vh l 2 := by
  unfold dk2 dkPart; rw [mask_zero i 2 (by decide)]; simp only [ld_rT2, ld_rX2]
theorem dv2_eq (i : grid0.Coords) : dv2 i q k dO kh l maskPair = dvPart q k dO kh l 2 := by
  unfold dv2 dvPart; rw [mask_zero i 2 (by decide)]; simp only [ld_rT2, ld_rX2]
theorem dk3_eq (i : grid0.Coords) : dk3 i q k v dO y kh vh l maskPair = dkPart q k v dO y kh vh l 3 := by
  unfold dk3 dkPart; rw [mask_zero i 3 (by decide)]; simp only [ld_rT3, ld_rX3]
theorem dv3_eq (i : grid0.Coords) : dv3 i q k dO kh l maskPair = dvPart q k dO kh l 3 := by
  unfold dv3 dvPart; rw [mask_zero i 3 (by decide)]; simp only [ld_rT3, ld_rX3]

include B

theorem dqOut_at (g : grid0.Coords) (b : Fin 4) (i x : Fin 128) :
    (dqOut g q k v dO y kh vh l maskPair (ix4 b 0 i x) : EReal)
      = ((∑ j, (D (hd x)).ds (posOf b i) j * (1 / 8) * (D (hd x)).k j (ln x) : ℝ) : EReal) := by
  rw [dqOut_eq, tiles_at]
  have key : (dqPart q k v dO y kh vh l b (ix4 0 0 i x) : EReal)
      = ((∑ j, (D (hd x)).ds (posOf b i) j * (1 / 8) * (D (hd x)).k j (ln x) : ℝ) : EReal) := by
    refine (dqTile_at (B.tile b) i x).trans (congrArg (fun z : ℝ => (z : EReal)) ?_)
    rw [← sum_window (fun i j => (D (hd x)).ds i j * (1 / 8) * (D (hd x)).k j (ln x))
      (fun i j h => by rw [(D (hd x)).ds_of_not _ _ h]; ring) b i, Finset.sum_mul]
    refine Finset.sum_congr rfl fun w _ => ?_
    by_cases h : Vis b i w
    · rw [if_pos h, if_pos h, (B.tile b).hkw w x h.le]; ring
    · rw [if_neg h, if_neg h]; ring
  refine Eq.trans ?_ key
  fin_cases b <;> rfl

theorem dkOwn_at (b : Fin 4) (i x : Fin 128) :
    (dkPart q k v dO y kh vh l b (ix2 x (stack 1 i)) : EReal)
      = ((∑ i', (D (hd x)).ds (posOf b i') (posOf b i) * (1 / 8) * (D (hd x)).q (posOf b i') (ln x) : ℝ) : EReal) := by
  refine (dkT_at (B.tile b) x (stack 1 i)).trans (congrArg (fun z : ℝ => (z : EReal)) (Finset.sum_congr rfl fun i' _ => ?_))
  rw [ite_own b i i' _ fun i j h => (D (hd x)).ds_of_not _ _ h]; ring
theorem dkNext_at (b c : Fin 4) (h : b.val = c.val + 1) (i x : Fin 128) :
    (dkPart q k v dO y kh vh l b (ix2 x (stack 0 i)) : EReal)
      = ((∑ i', (D (hd x)).ds (posOf b i') (posOf c i) * (1 / 8) * (D (hd x)).q (posOf b i') (ln x) : ℝ) : EReal) := by
  refine (dkT_at (B.tile b) x (stack 0 i)).trans (congrArg (fun z : ℝ => (z : EReal)) (Finset.sum_congr rfl fun i' _ => ?_))
  rw [ite_before b c h i i' _ fun i j h => (D (hd x)).ds_of_not _ _ h]; ring
theorem dvOwn_at (b : Fin 4) (i x : Fin 128) :
    (dvPart q k dO kh l b (ix2 x (stack 1 i)) : EReal)
      = ((∑ i', (D (hd x)).dO (posOf b i') (ln x) * (D (hd x)).p (posOf b i') (posOf b i) : ℝ) : EReal) := by
  refine (dvT_at (B.tile b) x (stack 1 i)).trans (congrArg (fun z : ℝ => (z : EReal)) (Finset.sum_congr rfl fun i' _ => ?_))
  rw [ite_own b i i' _ fun i j h => (D (hd x)).p_of_not _ _ h]
theorem dvNext_at (b c : Fin 4) (h : b.val = c.val + 1) (i x : Fin 128) :
    (dvPart q k dO kh l b (ix2 x (stack 0 i)) : EReal)
      = ((∑ i', (D (hd x)).dO (posOf b i') (ln x) * (D (hd x)).p (posOf b i') (posOf c i) : ℝ) : EReal) := by
  refine (dvT_at (B.tile b) x (stack 0 i)).trans (congrArg (fun z : ℝ => (z : EReal)) (Finset.sum_congr rfl fun i' _ => ?_))
  rw [ite_before b c h i i' _ fun i j h => (D (hd x)).p_of_not _ _ h]

theorem dkJoin_at (b c : Fin 4) (h : b.val = c.val + 1) (i x : Fin 128) :
    (joinTile (dkPart q k v dO y kh vh l c) (dkPart q k v dO y kh vh l b) (ix4 0 0 i x) : EReal)
      = ((∑ j, (D (hd x)).ds j (posOf c i) * (1 / 8) * (D (hd x)).q j (ln x) : ℝ) : EReal) := by
  rw [joinTile_at, dkOwn_at B, dkNext_at B b c h, ← EReal.coe_add]
  exact congrArg (fun z : ℝ => (z : EReal)) (sum_queries (fun i j => (D (hd x)).ds i j * (1 / 8) * (D (hd x)).q i (ln x))
    (fun i j h => by rw [(D (hd x)).ds_of_not _ _ h]; ring) b c h i).symm
theorem dkLast_at (i x : Fin 128) :
    (lastTile (dkPart q k v dO y kh vh l 3) (ix4 0 0 i x) : EReal)
      = ((∑ j, (D (hd x)).ds j (posOf 3 i) * (1 / 8) * (D (hd x)).q j (ln x) : ℝ) : EReal) := by
  rw [lastTile_at, dkOwn_at B]
  exact congrArg (fun z : ℝ => (z : EReal)) (sum_queries_last (fun i j => (D (hd x)).ds i j * (1 / 8) * (D (hd x)).q i (ln x))
    (fun i j h => by rw [(D (hd x)).ds_of_not _ _ h]; ring) i).symm
theorem dvJoin_at (b c : Fin 4) (h : b.val = c.val + 1) (i x : Fin 128) :
    (joinTile (dvPart q k dO kh l c) (dvPart q k dO kh l b) (ix4 0 0 i x) : EReal)
      = ((∑ j, (D (hd x)).dO j (ln x) * (D (hd x)).p j (posOf c i) : ℝ) : EReal) := by
  rw [joinTile_at, dvOwn_at B, dvNext_at B b c h, ← EReal.coe_add]
  exact congrArg (fun z : ℝ => (z : EReal)) (sum_queries (fun i j => (D (hd x)).dO i (ln x) * (D (hd x)).p i j)
    (fun i j h => by rw [(D (hd x)).p_of_not _ _ h]; ring) b c h i).symm
theorem dvLast_at (i x : Fin 128) :
    (lastTile (dvPart q k dO kh l 3) (ix4 0 0 i x) : EReal)
      = ((∑ j, (D (hd x)).dO j (ln x) * (D (hd x)).p j (posOf 3 i) : ℝ) : EReal) := by
  rw [lastTile_at, dvOwn_at B]
  exact congrArg (fun z : ℝ => (z : EReal)) (sum_queries_last (fun i j => (D (hd x)).dO i (ln x) * (D (hd x)).p i j)
    (fun i j h => by rw [(D (hd x)).p_of_not _ _ h]; ring) i).symm

theorem dkOut_at (g : grid0.Coords) (b : Fin 4) (i x : Fin 128) :
    (dkOut g q k v dO y kh vh l maskPair (ix4 b 0 i x) : EReal)
      = ((∑ j, (D (hd x)).ds j (posOf b i) * (1 / 8) * (D (hd x)).q j (ln x) : ℝ) : EReal) := by
  unfold dkOut
  rw [tiles_at, dk0_eq, dk1_eq, dk2_eq, dk3_eq]
  fin_cases b
  · exact dkJoin_at B 1 0 rfl i x
  · exact dkJoin_at B 2 1 rfl i x
  · exact dkJoin_at B 3 2 rfl i x
  · exact dkLast_at B i x

theorem dvOut_at (g : grid0.Coords) (b : Fin 4) (i x : Fin 128) :
    (dvOut g q k dO kh l maskPair (ix4 b 0 i x) : EReal)
      = ((∑ j, (D (hd x)).dO j (ln x) * (D (hd x)).p j (posOf b i) : ℝ) : EReal) := by
  unfold dvOut
  rw [tiles_at, dv0_eq, dv1_eq, dv2_eq, dv3_eq]
  fin_cases b
  · exact dvJoin_at B 1 0 rfl i x
  · exact dvJoin_at B 2 1 rfl i x
  · exact dvJoin_at B 3 2 rfl i x
  · exact dvLast_at B i x

end

end Cert.Proof.Att
end
-- ==== Proof.Final.lean ====
module

public import proofs.«01_k».proof.Proof.Run
public import proofs.«01_k».proof.Proof.Host3
public import proofs.«01_k».proof.Proof.Block

@[expose] public section

set_option maxRecDepth 16384

noncomputable section

/-! The three result arrays after the launch, at an index. -/

namespace Cert.Proof.Att

open Cert.KernelIdeal Cert.KernelIdeal.Gen
open Idealize.ShloMosaic Idealize.ShloMosaic.TcCoe Idealize.ShloMosaic.Tactic
open Idealize.SL Idealize.SL.Sem

def rowAt (t : Fin cfg0.N) : Fin 16 := ⟨(grid0.coords t 1).val, (grid0.coords t 1).isLt⟩
def pairAt (t : Fin cfg0.N) : Fin 16 := ⟨(grid0.coords t 2).val, (grid0.coords t 2).isLt⟩
theorem index_0 : ∀ t : Fin cfg0.N, win0_0.index t = ![0, (grid0.coords t 1).val, 0, (grid0.coords t 2).val] :=
  (by decide +kernel : ∀ t : Fin grid0.N, win0_0.index t = ![0, (grid0.coords t 1).val, 0, (grid0.coords t 2).val])
theorem index_2 : ∀ t : Fin cfg0.N, win0_2.index t = ![0, (grid0.coords t 1).val, 0, (grid0.coords t 2).val] :=
  (by decide +kernel : ∀ t : Fin grid0.N, win0_2.index t = ![0, (grid0.coords t 1).val, 0, (grid0.coords t 2).val])
theorem index_3 : ∀ t : Fin cfg0.N, win0_3.index t = ![0, (grid0.coords t 1).val, 0, (grid0.coords t 2).val] :=
  (by decide +kernel : ∀ t : Fin grid0.N, win0_3.index t = ![0, (grid0.coords t 1).val, 0, (grid0.coords t 2).val])
theorem index_4 : ∀ t : Fin cfg0.N, win0_4.index t = ![0, (grid0.coords t 1).val, 0, (grid0.coords t 2).val] :=
  (by decide +kernel : ∀ t : Fin grid0.N, win0_4.index t = ![0, (grid0.coords t 1).val, 0, (grid0.coords t 2).val])
theorem index_5 : ∀ t : Fin cfg0.N, win0_5.index t = ![0, (grid0.coords t 1).val, 0, (grid0.coords t 2).val] :=
  (by decide +kernel : ∀ t : Fin grid0.N, win0_5.index t = ![0, (grid0.coords t 1).val, 0, (grid0.coords t 2).val])
theorem index_6 : ∀ t : Fin cfg0.N, win0_6.index t = ![0, (grid0.coords t 1).val, 0, (grid0.coords t 2).val] :=
  (by decide +kernel : ∀ t : Fin grid0.N, win0_6.index t = ![0, (grid0.coords t 1).val, 0, (grid0.coords t 2).val])
theorem index_8 : ∀ t : Fin cfg0.N, win0_8.index t = ![0, (grid0.coords t 1).val, 0, (grid0.coords t 2).val] :=
  (by decide +kernel : ∀ t : Fin grid0.N, win0_8.index t = ![0, (grid0.coords t 1).val, 0, (grid0.coords t 2).val])
theorem index_10 : ∀ t : Fin cfg0.N, win0_10.index t = ![0, (grid0.coords t 1).val, 0, (grid0.coords t 2).val] :=
  (by decide +kernel : ∀ t : Fin grid0.N, win0_10.index t = ![0, (grid0.coords t 1).val, 0, (grid0.coords t 2).val])
theorem index_12 : ∀ t : Fin cfg0.N, win0_12.index t = ![0, (grid0.coords t 1).val, 0, (grid0.coords t 2).val] :=
  (by decide +kernel : ∀ t : Fin grid0.N, win0_12.index t = ![0, (grid0.coords t 1).val, 0, (grid0.coords t 2).val])
theorem index_13 : ∀ t : Fin cfg0.N, win0_13.index t = ![0, (grid0.coords t 1).val, 0, (grid0.coords t 2).val] :=
  (by decide +kernel : ∀ t : Fin grid0.N, win0_13.index t = ![0, (grid0.coords t 1).val, 0, (grid0.coords t 2).val])
theorem index_14 : ∀ t : Fin cfg0.N, win0_14.index t = ![0, (grid0.coords t 1).val, 0, (grid0.coords t 2).val] :=
  (by decide +kernel : ∀ t : Fin grid0.N, win0_14.index t = ![0, (grid0.coords t 1).val, 0, (grid0.coords t 2).val])

def colAt (p : Fin 16) (x : Fin 128) : Fin 2048 := ⟨p.val * 128 + x.val, by omega⟩
def headAt (p : Fin 16) (g : Fin 2) : Fin 32 := ⟨p.val * 2 + g.val, by omega⟩
theorem headOf_colAt (p : Fin 16) (x : Fin 128) : headOf (colAt p x) = headAt p (hd x) :=
  Fin.ext (by simp only [headOf, colAt, headAt, hd]; omega)
theorem laneOf_colAt (p : Fin 16) (x : Fin 128) : laneOf (colAt p x) = ln x :=
  Fin.ext (by simp only [laneOf, colAt, ln]; omega)

theorem read_0 (t : Fin cfg0.N) (X : Vec Ideal S4x16x128x2048 .bf16) (b : Fin 4) (i x : Fin 128) :
    ((win0_0.blk t).view.read (Elt Ideal) X : Vec Ideal S4x1x128x128 .bf16) (ix4 b 0 i x) = X (ix4 b (rowAt t) i (colAt (pairAt t) x)) := by
  blk_simp
  refine congrArg X ?_
  blk_ext [index_0, rowAt, colAt, pairAt]
theorem read_2 (t : Fin cfg0.N) (X : Vec Ideal S4x16x128x2048 .bf16) (b : Fin 4) (i x : Fin 128) :
    ((win0_2.blk t).view.read (Elt Ideal) X : Vec Ideal S4x1x128x128 .bf16) (ix4 b 0 i x) = X (ix4 b (rowAt t) i (colAt (pairAt t) x)) := by
  blk_simp
  refine congrArg X ?_
  blk_ext [index_2, rowAt, colAt, pairAt]
theorem read_4 (t : Fin cfg0.N) (X : Vec Ideal S4x16x128x2048 .bf16) (b : Fin 4) (i x : Fin 128) :
    ((win0_4.blk t).view.read (Elt Ideal) X : Vec Ideal S4x1x128x128 .bf16) (ix4 b 0 i x) = X (ix4 b (rowAt t) i (colAt (pairAt t) x)) := by
  blk_simp
  refine congrArg X ?_
  blk_ext [index_4, rowAt, colAt, pairAt]
theorem read_6 (t : Fin cfg0.N) (X : Vec Ideal S4x16x128x2048 .bf16) (b : Fin 4) (i x : Fin 128) :
    ((win0_6.blk t).view.read (Elt Ideal) X : Vec Ideal S4x1x128x128 .bf16) (ix4 b 0 i x) = X (ix4 b (rowAt t) i (colAt (pairAt t) x)) := by
  blk_simp
  refine congrArg X ?_
  blk_ext [index_6, rowAt, colAt, pairAt]
theorem read_8 (t : Fin cfg0.N) (X : Vec Ideal S4x16x128x2048 .bf16) (b : Fin 4) (i x : Fin 128) :
    ((win0_8.blk t).view.read (Elt Ideal) X : Vec Ideal S4x1x128x128 .bf16) (ix4 b 0 i x) = X (ix4 b (rowAt t) i (colAt (pairAt t) x)) := by
  blk_simp
  refine congrArg X ?_
  blk_ext [index_8, rowAt, colAt, pairAt]
theorem read_10 (t : Fin cfg0.N) (X : Vec Ideal S4x16x128x2048 .f32) (b : Fin 4) (i x : Fin 128) :
    ((win0_10.blk t).view.read (Elt Ideal) X : Vec Ideal S4x1x128x128 .f32) (ix4 b 0 i x) = X (ix4 b (rowAt t) i (colAt (pairAt t) x)) := by
  blk_simp
  refine congrArg X ?_
  blk_ext [index_10, rowAt, colAt, pairAt]
theorem read_3 (t : Fin cfg0.N) (X : Vec Ideal S4x16x128x2048 .bf16) (i x : Fin 128) :
    ((win0_3.blk t).view.read (Elt Ideal) X : Vec Ideal S1x1x128x128 .bf16) (ix4 0 0 i x) = X (ix4 0 (rowAt t) i (colAt (pairAt t) x)) := by
  blk_simp
  refine congrArg X ?_
  blk_ext [index_3, rowAt, colAt, pairAt]
theorem read_5 (t : Fin cfg0.N) (X : Vec Ideal S4x16x128x2048 .bf16) (i x : Fin 128) :
    ((win0_5.blk t).view.read (Elt Ideal) X : Vec Ideal S1x1x128x128 .bf16) (ix4 0 0 i x) = X (ix4 0 (rowAt t) i (colAt (pairAt t) x)) := by
  blk_simp
  refine congrArg X ?_
  blk_ext [index_5, rowAt, colAt, pairAt]
theorem emb_12 (t : Fin cfg0.N) (b : Fin 4) (i x : Fin 128) :
    ((win0_12.blk t).view.emb (ix4 b 0 i x : S4x1x128x128.Idx) : S4x16x128x2048.Idx) = ix4 b (rowAt t) i (colAt (pairAt t) x) := by
  blk_ext [index_12, rowAt, colAt, pairAt]
theorem emb_13 (t : Fin cfg0.N) (b : Fin 4) (i x : Fin 128) :
    ((win0_13.blk t).view.emb (ix4 b 0 i x : S4x1x128x128.Idx) : S4x16x128x2048.Idx) = ix4 b (rowAt t) i (colAt (pairAt t) x) := by
  blk_ext [index_13, rowAt, colAt, pairAt]
theorem emb_14 (t : Fin cfg0.N) (b : Fin 4) (i x : Fin 128) :
    ((win0_14.blk t).view.emb (ix4 b 0 i x : S4x1x128x128.Idx) : S4x16x128x2048.Idx) = ix4 b (rowAt t) i (colAt (pairAt t) x) := by
  blk_ext [index_14, rowAt, colAt, pairAt]

variable {m : (ℓ : Loc nD τ sig) → Buf (Elt Ideal) ℓ} {c : Dev nD}

theorem iblk0_at (t : Fin cfg0.N) (b : Fin 4) (i x : Fin 128) :
    (iblk m c 0 t : Four Ideal) (ix4 b 0 i x) = V m c main_v94 (ix4 b (rowAt t) i (colAt (pairAt t) x)) := read_0 t (V m c main_v94) b i x
theorem iblk2_at (t : Fin cfg0.N) (b : Fin 4) (i x : Fin 128) :
    (iblk m c 2 t : Four Ideal) (ix4 b 0 i x) = V m c main_v95 (ix4 b (rowAt t) i (colAt (pairAt t) x)) := read_2 t (V m c main_v95) b i x
theorem iblk3_at (t : Fin cfg0.N) (i x : Fin 128) :
    (iblk m c 3 t : Tile Ideal) (ix4 0 0 i x) = V m c main_v95 (ix4 0 (rowAt t) i (colAt (pairAt t) x)) := read_3 t (V m c main_v95) i x
theorem iblk4_at (t : Fin cfg0.N) (b : Fin 4) (i x : Fin 128) :
    (iblk m c 4 t : Four Ideal) (ix4 b 0 i x) = V m c main_v96 (ix4 b (rowAt t) i (colAt (pairAt t) x)) := read_4 t (V m c main_v96) b i x
theorem iblk5_at (t : Fin cfg0.N) (i x : Fin 128) :
    (iblk m c 5 t : Tile Ideal) (ix4 0 0 i x) = V m c main_v96 (ix4 0 (rowAt t) i (colAt (pairAt t) x)) := read_5 t (V m c main_v96) i x
theorem iblk6_at (t : Fin cfg0.N) (b : Fin 4) (i x : Fin 128) :
    (iblk m c 6 t : Four Ideal) (ix4 b 0 i x) = V m c main_v97 (ix4 b (rowAt t) i (colAt (pairAt t) x)) := read_6 t (V m c main_v97) b i x
theorem iblk8_at (t : Fin cfg0.N) (b : Fin 4) (i x : Fin 128) :
    (iblk m c 8 t : Four Ideal) (ix4 b 0 i x) = V m c main_v98 (ix4 b (rowAt t) i (colAt (pairAt t) x)) := read_8 t (V m c main_v98) b i x
theorem iblk10_at (t : Fin cfg0.N) (b : Fin 4) (i x : Fin 128) :
    (iblk m c 10 t : Vec Ideal S4x1x128x128 .f32) (ix4 b 0 i x) = V m c main_v99 (ix4 b (rowAt t) i (colAt (pairAt t) x)) :=
  read_10 t (V m c main_v99) b i x

variable {V0 : Valuation Cert.ReferenceIdeal.τ Cert.ReferenceIdeal.sig (Elt Ideal)}

/-- The two heads of point `t`'s lane pair, at its stream. -/
def pairSlices (V0 : Valuation Cert.ReferenceIdeal.τ Cert.ReferenceIdeal.sig (Elt Ideal)) (t : Fin cfg0.N) (g : Fin 2) : Slice :=
  slice V0 (rowAt t) (headAt (pairAt t) g)

theorem slice_colAt (t : Fin cfg0.N) (x : Fin 128) : slice V0 (rowAt t) (headOf (colAt (pairAt t) x)) = pairSlices V0 t (hd x) := by
  rw [headOf_colAt]; rfl

theorem inBlock (hA : Agree m c V0) (hf : FiniteArgs V0) (t : Fin cfg0.N) :
    InBlock (pairSlices V0 t) (iblk m c 0 t) (iblk m c 2 t) (iblk m c 4 t) (iblk m c 6 t) (iblk m c 8 t) (iblk m c 3 t) (iblk m c 5 t) (iblk m c 10 t)
      (fun i x => (pairSlices V0 t (hd x)).k (posOf 0 i) (ln x)) (fun i x => (pairSlices V0 t (hd x)).v (posOf 0 i) (ln x)) where
  hq b i x := by rw [iblk0_at, V94_at hA hf, slice_colAt, laneOf_colAt]
  hk b i x := by rw [iblk2_at, V95_at hA hf, slice_colAt, laneOf_colAt]
  hv b i x := by rw [iblk4_at, V96_at hA hf, slice_colAt, laneOf_colAt]
  ho b i x := by rw [iblk6_at, V97_at hA hf, slice_colAt, laneOf_colAt]
  hy b i x := by rw [iblk8_at, V98_at hA hf, slice_colAt, laneOf_colAt]
  hl b i x := by rw [iblk10_at, V99_at hA hf, slice_colAt]
  hkh i x := by rw [iblk3_at, V95_at hA hf, slice_colAt, laneOf_colAt]
  hvh i x := by rw [iblk5_at, V96_at hA hf, slice_colAt, laneOf_colAt]

theorem point_dq (hA : Agree m c V0) (hf : FiniteArgs V0) (G : Vec Ideal S4x16x128x2048 .bf16)
    (hG : ∀ b r i x, (G (ix4 b r i x) : EReal) = ((∑ j, (slice V0 r (headOf x)).ds (posOf b i) j * (1 / 8) * (slice V0 r (headOf x)).k j (laneOf x) : ℝ) : EReal)) (t : Fin cfg0.N) (b : Fin 4) (i x : Fin 128) :
    ((dats m 0 c).after 12 t : Four Ideal) (ix4 b 0 i x) = G ((win0_12.blk t).view.emb (ix4 b 0 i x : S4x1x128x128.Idx)) := by
  rw [after_12]
  refine (dqOut_at (inBlock hA hf t) _ b i x).trans ?_
  refine Eq.trans ?_ (congrArg G (emb_12 t b i x)).symm
  refine Eq.trans ?_ (hG _ _ _ _).symm
  rw [slice_colAt, laneOf_colAt]

theorem final_dq (hA : Agree m c V0) (hf : FiniteArgs V0) (G : Vec Ideal S4x16x128x2048 .bf16)
    (hG : ∀ b r i x, (G (ix4 b r i x) : EReal) = ((∑ j, (slice V0 r (headOf x)).ds (posOf b i) j * (1 / 8) * (slice V0 r (headOf x)).k j (laneOf x) : ℝ) : EReal)) :
    (dats m 0 c).arrAt 12 cfg0.N = G := by
  refine (dats m 0 c).arrAt_eq_of_covers 12 G (by decide +kernel) fun t ht y => ?_
  have hy := eq_ix4 (y : S4x1x128x128.Idx)
  rw [show (y : S4x1x128x128.Idx) 1 = (0 : Fin 1) from Fin.ext (by have h : ((y : S4x1x128x128.Idx) 1).val < 1 := ((y : S4x1x128x128.Idx) 1).isLt
                                                                   show ((y : S4x1x128x128.Idx) 1).val = 0
                                                                   omega)] at hy
  have h := point_dq hA hf G hG t (y 0) (y 2) (y 3)
  rw [← hy] at h
  exact h

theorem point_dk (hA : Agree m c V0) (hf : FiniteArgs V0) (G : Vec Ideal S4x16x128x2048 .bf16)
    (hG : ∀ b r i x, (G (ix4 b r i x) : EReal) = ((∑ j, (slice V0 r (headOf x)).ds j (posOf b i) * (1 / 8) * (slice V0 r (headOf x)).q j (laneOf x) : ℝ) : EReal)) (t : Fin cfg0.N) (b : Fin 4) (i x : Fin 128) :
    ((dats m 0 c).after 13 t : Four Ideal) (ix4 b 0 i x) = G ((win0_13.blk t).view.emb (ix4 b 0 i x : S4x1x128x128.Idx)) := by
  rw [after_13]
  refine (dkOut_at (inBlock hA hf t) _ b i x).trans ?_
  refine Eq.trans ?_ (congrArg G (emb_13 t b i x)).symm
  refine Eq.trans ?_ (hG _ _ _ _).symm
  rw [slice_colAt, laneOf_colAt]

theorem final_dk (hA : Agree m c V0) (hf : FiniteArgs V0) (G : Vec Ideal S4x16x128x2048 .bf16)
    (hG : ∀ b r i x, (G (ix4 b r i x) : EReal) = ((∑ j, (slice V0 r (headOf x)).ds j (posOf b i) * (1 / 8) * (slice V0 r (headOf x)).q j (laneOf x) : ℝ) : EReal)) :
    (dats m 0 c).arrAt 13 cfg0.N = G := by
  refine (dats m 0 c).arrAt_eq_of_covers 13 G (by decide +kernel) fun t ht y => ?_
  have hy := eq_ix4 (y : S4x1x128x128.Idx)
  rw [show (y : S4x1x128x128.Idx) 1 = (0 : Fin 1) from Fin.ext (by have h : ((y : S4x1x128x128.Idx) 1).val < 1 := ((y : S4x1x128x128.Idx) 1).isLt
                                                                   show ((y : S4x1x128x128.Idx) 1).val = 0
                                                                   omega)] at hy
  have h := point_dk hA hf G hG t (y 0) (y 2) (y 3)
  rw [← hy] at h
  exact h

theorem point_dv (hA : Agree m c V0) (hf : FiniteArgs V0) (G : Vec Ideal S4x16x128x2048 .bf16)
    (hG : ∀ b r i x, (G (ix4 b r i x) : EReal) = ((∑ j, (slice V0 r (headOf x)).dO j (laneOf x) * (slice V0 r (headOf x)).p j (posOf b i) : ℝ) : EReal)) (t : Fin cfg0.N) (b : Fin 4) (i x : Fin 128) :
    ((dats m 0 c).after 14 t : Four Ideal) (ix4 b 0 i x) = G ((win0_14.blk t).view.emb (ix4 b 0 i x : S4x1x128x128.Idx)) := by
  rw [after_14]
  refine (dvOut_at (inBlock hA hf t) _ b i x).trans ?_
  refine Eq.trans ?_ (congrArg G (emb_14 t b i x)).symm
  refine Eq.trans ?_ (hG _ _ _ _).symm
  rw [slice_colAt, laneOf_colAt]

theorem final_dv (hA : Agree m c V0) (hf : FiniteArgs V0) (G : Vec Ideal S4x16x128x2048 .bf16)
    (hG : ∀ b r i x, (G (ix4 b r i x) : EReal) = ((∑ j, (slice V0 r (headOf x)).dO j (laneOf x) * (slice V0 r (headOf x)).p j (posOf b i) : ℝ) : EReal)) :
    (dats m 0 c).arrAt 14 cfg0.N = G := by
  refine (dats m 0 c).arrAt_eq_of_covers 14 G (by decide +kernel) fun t ht y => ?_
  have hy := eq_ix4 (y : S4x1x128x128.Idx)
  rw [show (y : S4x1x128x128.Idx) 1 = (0 : Fin 1) from Fin.ext (by have h : ((y : S4x1x128x128.Idx) 1).val < 1 := ((y : S4x1x128x128.Idx) 1).isLt
                                                                   show ((y : S4x1x128x128.Idx) 1).val = 0
                                                                   omega)] at hy
  have h := point_dv hA hf G hG t (y 0) (y 2) (y 3)
  rw [← hy] at h
  exact h

end Cert.Proof.Att
end
-- ==== Proof.Close.lean ====
module

public import proofs.«01_k».proof.Defs
public import proofs.«01_k».proof.Proof.Run
public import proofs.«01_k».proof.Proof.Ref
public import proofs.«01_k».proof.Proof.Final
public import Idealize.ShloMosaic.Lib.Pointwise

@[expose] public section

set_option maxRecDepth 16384

noncomputable section

/-! The value claim: the launch's arrays are the reference's, for finite arguments. -/

namespace Cert.Proof.Att

open Idealize.ShloMosaic Idealize.ShloMosaic.TcCoe Idealize.ShloMosaic.Tactic Idealize.ShloMosaic.StableHlo
open Idealize.SL Idealize.SL.Sem

instance finiteFacts : Cert.Pre_finite.Facts where
  bcast_S_S8192x2048 := by decide
  bcast_S_S8192x32x64 := by decide
  bcast_S_S8192x32 := by decide

theorem ofBits_posInf : Ideal.ofBits .f32 0x7F800000#32 = ⊤ := by simp [Ideal.ofBits, Ideal.ieee]

theorem real_of_max_lt (x : EReal) (h : max x (-x) < ⊤) : x = (x.toReal : EReal) := by
  have h1 : x ≠ ⊤ := fun e => by rw [e] at h; simp at h
  have h2 : x ≠ ⊥ := fun e => by rw [e] at h; simp at h
  exact (EReal.coe_toReal h1 h2).symm

theorem real_of_lane {s : Shape} (a : FVec Ideal s .f32) (hb : Cert.Pre_finite.S_.BroadcastsInDim s (![] : Fin 0 → Fin s.rank))
    (h : cmpf .olt (Host.absf a) (broadcastInDim s ![] hb (constant Cert.Pre_finite.S_ .f32 0x7F800000#32)) = fun _ => 1#1) (x : s.Idx) :
    (a x : EReal) = ((a x : EReal).toReal : EReal) := by
  have h' : Ideal.cmp .olt (max (a x : EReal) (-(a x : EReal))) (Ideal.ofBits .f32 0x7F800000#32) = 1#1 := congrFun h x
  rw [ofBits_posInf] at h'
  refine real_of_max_lt _ ?_
  by_contra hn
  have h0 : Ideal.cmp .olt (max (a x : EReal) (-(a x : EReal))) ⊤ = 0#1 := by
    show BitVec.ofBool (decide (max (a x : EReal) (-(a x : EReal)) < ⊤)) = 0#1
    rw [decide_eq_false hn]; rfl
  rw [h0] at h'
  exact absurd h' (by decide)

/-- The launch contents of the reference's arguments are finite and are the kernel's. -/
theorem agree_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Agree m c (launchContents m' c) where
  a0 := h.1.symm
  a1 := h.2.1.symm
  a2 := h.2.2.1.symm
  a3 := h.2.2.2.1.symm
  a4 := h.2.2.2.2.1.symm
  a5 := h.2.2.2.2.2.1.symm
  a6 := h.2.2.2.2.2.2.1.symm
  a7 := h.2.2.2.2.2.2.2.symm

theorem finite_of (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hA : Agree m c V0) (hp : Cert.Pre_KernelIdeal_finite m) : FiniteArgs V0 := by
  obtain ⟨h0, h1, h2, h3, h4, h5, h6, h7⟩ := hp c
  refine ⟨?_, ?_, ?_, ?_, ?_, ?_, ?_, ?_⟩
  · rw [← hA.a0]; exact real_of_lane _ _ h0
  · rw [← hA.a1]; exact real_of_lane _ _ h1
  · rw [← hA.a2]; exact real_of_lane _ _ h2
  · rw [← hA.a3]; exact real_of_lane _ _ h3
  · rw [← hA.a4]; exact real_of_lane _ _ h4
  · rw [← hA.a5]; exact real_of_lane _ _ h5
  · rw [← hA.a6]; exact real_of_lane _ _ h6
  · rw [← hA.a7]; exact real_of_lane _ _ h7

section
open Cert.KernelIdeal Cert.KernelIdeal.Gen

theorem run_out (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v100_0) = (dats m 0 c).arrAt 12 cfg0.N
      ∧ r.2.mem ((c.tc : Thread nD τ).loc main_v100_1) = (dats m 0 c).arrAt 13 cfg0.N
      ∧ r.2.mem ((c.tc : Thread nD τ).loc main_v100_2) = (dats m 0 c).arrAt 14 cfg0.N) :=
  (θ_run _ _ _).mono (fun r h c => ⟨(h.1 c).1 12, (h.1 c).1 13, (h.1 c).1 14⟩) (run_all (F := Ideal) m ρ)

def out12 (m : (ℓ : Loc nD τ sig) → Buf (Elt Ideal) ℓ) (c : Dev nD) : Buf (Elt Ideal) ((c.tc : Thread nD τ).loc main_v100_0) := (dats m 0 c).arrAt 12 cfg0.N
def out13 (m : (ℓ : Loc nD τ sig) → Buf (Elt Ideal) ℓ) (c : Dev nD) : Buf (Elt Ideal) ((c.tc : Thread nD τ).loc main_v100_1) := (dats m 0 c).arrAt 13 cfg0.N
def out14 (m : (ℓ : Loc nD τ sig) → Buf (Elt Ideal) ℓ) (c : Dev nD) : Buf (Elt Ideal) ((c.tc : Thread nD τ).loc main_v100_2) := (dats m 0 c).arrAt 14 cfg0.N
end

theorem algebraic : Cert.algebraic_KernelIdeal_ReferenceIdeal_pre_finite
    (hKernelIdeal := Cert.KernelIdeal.Gen.facts) (hReferenceIdeal := Cert.ReferenceIdeal.Gen.facts) (hPre_finite := finiteFacts) := by
  intro m g m' g' hp harg
  have hA := fun c => agree_of m m' c (harg c)
  have hf := fun c => finite_of m (launchContents m' c) c (hA c) hp
  refine ⟨out12 m, out13 m, out14 m, ?_, ?_⟩
  · refine (θ_run _ _ _).mono (fun r h c => ?_) (θ_run_and (run_out m g) (frame (F := Ideal) m g))
    exact ⟨(h.1 c).1, (h.1 c).2.1, (h.1 c).2.2, h.2.1 c⟩
  · refine (θ_run _ _ _).mono (fun r h c => ?_) (Cert.ReferenceIdeal.Value.run (F := Ideal) m' g')
    have hc := h c
    exact ⟨hc.1.trans (final_dq (hA c) (hf c) _ (fun b r i x => ref_dq_at (hf c) r b i x)).symm,
      hc.2.1.trans (final_dk (hA c) (hf c) _ (fun b r i x => ref_dk_at (hf c) r b i x)).symm,
      hc.2.2.1.trans (final_dv (hA c) (hf c) _ (fun b r i x => ref_dv_at (hf c) r b i x)).symm, hc.2.2.2⟩

end Cert.Proof.Att

end
-- ==== Proof.Frames.lean ====
module

public import proofs.«01_k».proof.Defs
public import proofs.«01_k».proof.Proof.Gen.Kernel2Ideal.Frame
public import proofs.«01_k».proof.Proof.Gen.Reference2Ideal.Run
public import proofs.«01_k».proof.Proof.Gen.Kernel3Ideal.Frame
public import proofs.«01_k».proof.Proof.Gen.Reference3Ideal.Run
public import proofs.«01_k».proof.Proof.Gen.Kernel4Ideal.Frame
public import proofs.«01_k».proof.Proof.Gen.Reference4Ideal.Run
public import proofs.«01_k».proof.Proof.Gen.Kernel5Ideal.Frame
public import proofs.«01_k».proof.Proof.Gen.Reference5Ideal.Run
public import proofs.«01_k».proof.Proof.Gen.Kernel6Ideal.Frame
public import proofs.«01_k».proof.Proof.Gen.Reference6Ideal.Run
public import proofs.«01_k».proof.Proof.Gen.Kernel7Ideal.Frame
public import proofs.«01_k».proof.Proof.Gen.Reference7Ideal.Run
public import proofs.«01_k».proof.Proof.Gen.Kernel8Ideal.Frame
public import proofs.«01_k».proof.Proof.Gen.Reference8Ideal.Run
public import proofs.«01_k».proof.Proof.Gen.Kernel9Ideal.Frame
public import proofs.«01_k».proof.Proof.Gen.Reference9Ideal.Run
public import proofs.«01_k».proof.Proof.Gen.Kernel10Ideal.Frame
public import proofs.«01_k».proof.Proof.Gen.Reference10Ideal.Run
public import proofs.«01_k».proof.Proof.Gen.Kernel11Ideal.Frame
public import proofs.«01_k».proof.Proof.Gen.Reference11Ideal.Run
public import proofs.«01_k».proof.Proof.Gen.Kernel12Ideal.Frame
public import proofs.«01_k».proof.Proof.Gen.Reference12Ideal.Run
public import proofs.«01_k».proof.Proof.Gen.Kernel13Ideal.Frame
public import proofs.«01_k».proof.Proof.Gen.Reference13Ideal.Run
public import proofs.«01_k».proof.Proof.Gen.Kernel14Ideal.Frame
public import proofs.«01_k».proof.Proof.Gen.Reference14Ideal.Run
public import proofs.«01_k».proof.Proof.Gen.Kernel15Ideal.Frame
public import proofs.«01_k».proof.Proof.Gen.Reference15Ideal.Run
public import proofs.«01_k».proof.Proof.Gen.Kernel16Ideal.Frame
public import proofs.«01_k».proof.Proof.Gen.Reference16Ideal.Run
public import proofs.«01_k».proof.Proof.Gen.Kernel17Ideal.Frame
public import proofs.«01_k».proof.Proof.Gen.Reference17Ideal.Run
public import proofs.«01_k».proof.Proof.Gen.Kernel18Ideal.Frame
public import proofs.«01_k».proof.Proof.Gen.Reference18Ideal.Run
public import Idealize.ShloMosaic.Lib.Quiescent

@[expose] public section

noncomputable section

/-! The other calls leave their arguments and every counter as they found them. Each is printed twice with one text, so the
    run at the idealized module's names, taken at the bit-exact floats, is the other module's run: the two body tables are
    equal label by label. -/

namespace Cert.Proof

open Idealize.ShloMosaic Idealize.SL.Sem

theorem facts2 : Cert.Kernel2.Facts := { Cert.Kernel2Ideal.Gen.facts₀ with }

theorem frame2 : Cert.quiescent_Kernel2 (hKernel2 := facts2) := by
  intro m ρ _
  have := facts2
  rw [show Cert.Kernel2.defs (F := Bits) = Cert.Kernel2Ideal.defs (F := Bits) from
    congrArg (Pipeline.defs Cert.Kernel2.pcfgs) (congrArg Defs.onTc (funext fun l => match l with | ⟨0, _⟩ => rfl))]
  exact Cert.Kernel2Ideal.Gen.frame (F := Bits) m ρ

theorem reference2 : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem facts3 : Cert.Kernel3.Facts := { Cert.Kernel3Ideal.Gen.facts₀ with }

theorem frame3 : Cert.quiescent_Kernel3 (hKernel3 := facts3) := by
  intro m ρ _
  have := facts3
  rw [show Cert.Kernel3.defs (F := Bits) = Cert.Kernel3Ideal.defs (F := Bits) from
    congrArg (Pipeline.defs Cert.Kernel3.pcfgs) (congrArg Defs.onTc (funext fun l => match l with | ⟨0, _⟩ => rfl))]
  exact Cert.Kernel3Ideal.Gen.frame (F := Bits) m ρ

theorem reference3 : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem facts4 : Cert.Kernel4.Facts := { Cert.Kernel4Ideal.Gen.facts₀ with }

theorem frame4 : Cert.quiescent_Kernel4 (hKernel4 := facts4) := by
  intro m ρ _
  have := facts4
  rw [show Cert.Kernel4.defs (F := Bits) = Cert.Kernel4Ideal.defs (F := Bits) from
    congrArg (Pipeline.defs Cert.Kernel4.pcfgs) (congrArg Defs.onTc (funext fun l => match l with | ⟨0, _⟩ => rfl))]
  exact Cert.Kernel4Ideal.Gen.frame (F := Bits) m ρ

theorem reference4 : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem facts5 : Cert.Kernel5.Facts := { Cert.Kernel5Ideal.Gen.facts₀ with }

theorem frame5 : Cert.quiescent_Kernel5 (hKernel5 := facts5) := by
  intro m ρ _
  have := facts5
  rw [show Cert.Kernel5.defs (F := Bits) = Cert.Kernel5Ideal.defs (F := Bits) from
    congrArg (Pipeline.defs Cert.Kernel5.pcfgs) (congrArg Defs.onTc (funext fun l => match l with | ⟨0, _⟩ => rfl))]
  exact Cert.Kernel5Ideal.Gen.frame (F := Bits) m ρ

theorem reference5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem facts6 : Cert.Kernel6.Facts := { Cert.Kernel6Ideal.Gen.facts₀ with }

theorem frame6 : Cert.quiescent_Kernel6 (hKernel6 := facts6) := by
  intro m ρ _
  have := facts6
  rw [show Cert.Kernel6.defs (F := Bits) = Cert.Kernel6Ideal.defs (F := Bits) from
    congrArg (Pipeline.defs Cert.Kernel6.pcfgs) (congrArg Defs.onTc (funext fun l => match l with | ⟨0, _⟩ => rfl))]
  exact Cert.Kernel6Ideal.Gen.frame (F := Bits) m ρ

theorem reference6 : Cert.quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem facts7 : Cert.Kernel7.Facts := { Cert.Kernel7Ideal.Gen.facts₀ with }

theorem frame7 : Cert.quiescent_Kernel7 (hKernel7 := facts7) := by
  intro m ρ _
  have := facts7
  rw [show Cert.Kernel7.defs (F := Bits) = Cert.Kernel7Ideal.defs (F := Bits) from
    congrArg (Pipeline.defs Cert.Kernel7.pcfgs) (congrArg Defs.onTc (funext fun l => match l with | ⟨0, _⟩ => rfl))]
  exact Cert.Kernel7Ideal.Gen.frame (F := Bits) m ρ

theorem reference7 : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem facts8 : Cert.Kernel8.Facts := { Cert.Kernel8Ideal.Gen.facts₀ with }

theorem frame8 : Cert.quiescent_Kernel8 (hKernel8 := facts8) := by
  intro m ρ _
  have := facts8
  rw [show Cert.Kernel8.defs (F := Bits) = Cert.Kernel8Ideal.defs (F := Bits) from
    congrArg (Pipeline.defs Cert.Kernel8.pcfgs) (congrArg Defs.onTc (funext fun l => match l with | ⟨0, _⟩ => rfl))]
  exact Cert.Kernel8Ideal.Gen.frame (F := Bits) m ρ

theorem reference8 : Cert.quiescent_Reference8Ideal (hReference8Ideal := Cert.Reference8Ideal.Gen.facts) :=
  fun m ρ _ => (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

theorem facts9 : Cert.Kernel9.Facts := { Cert.Kernel9Ideal.Gen.facts₀ with }

theorem frame9 : Cert.quiescent_Kernel9 (hKernel9 := facts9) := by
  intro m ρ _
  have := facts9
  rw [show Cert.Kernel9.defs (F := Bits) = Cert.Kernel9Ideal.defs (F := Bits) from
    congrArg (Pipeline.defs Cert.Kernel9.pcfgs) (congrArg Defs.onTc (funext fun l => match l with | ⟨0, _⟩ => rfl))]
  exact Cert.Kernel9Ideal.Gen.frame (F := Bits) m ρ

theorem reference9 : Cert.quiescent_Reference9Ideal (hReference9Ideal := Cert.Reference9Ideal.Gen.facts) :=
  fun m ρ _ => (θ_run Cert.Reference9Ideal.defs _ _).mono
    (fun r h => ⟨fun c => (h c).2.2, Idealize.ShloMosaic.sem_eq_zero_of_no_sems (by decide) r.2⟩)
    (Cert.Reference9Ideal.Value.run (F := Ideal) m ρ)

theorem facts10 : Cert.Kernel10.Facts := { Cert.Kernel10Ideal.Gen.facts₀ with }

theorem frame10 : Cert.quiescent_Kernel10 (hKernel10 := facts10) := by
  intro m ρ _
  have := facts10
  rw [show Cert.Kernel10.defs (F := Bits) = Cert.Kernel10Ideal.defs (F := Bits) from
    congrArg (Pipeline.defs Cert.Kernel10.pcfgs) (congrArg Defs.onTc (funext fun l => match l with | ⟨0, _⟩ => rfl))]
  exact Cert.Kernel10Ideal.Gen.frame (F := Bits) m ρ

theorem reference10 : Cert.quiescent_Reference10Ideal (hReference10Ideal := Cert.Reference10Ideal.Gen.facts) :=
  fun m ρ _ => (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem facts11 : Cert.Kernel11.Facts := { Cert.Kernel11Ideal.Gen.facts₀ with }

theorem frame11 : Cert.quiescent_Kernel11 (hKernel11 := facts11) := by
  intro m ρ _
  have := facts11
  rw [show Cert.Kernel11.defs (F := Bits) = Cert.Kernel11Ideal.defs (F := Bits) from
    congrArg (Pipeline.defs Cert.Kernel11.pcfgs) (congrArg Defs.onTc (funext fun l => match l with | ⟨0, _⟩ => rfl))]
  exact Cert.Kernel11Ideal.Gen.frame (F := Bits) m ρ

theorem reference11 : Cert.quiescent_Reference11Ideal (hReference11Ideal := Cert.Reference11Ideal.Gen.facts) :=
  fun m ρ _ => (θ_run Cert.Reference11Ideal.defs _ _).mono
    (fun r h => ⟨fun c => (h c).2.2, Idealize.ShloMosaic.sem_eq_zero_of_no_sems (by decide) r.2⟩)
    (Cert.Reference11Ideal.Value.run (F := Ideal) m ρ)

theorem facts12 : Cert.Kernel12.Facts := { Cert.Kernel12Ideal.Gen.facts₀ with }

theorem frame12 : Cert.quiescent_Kernel12 (hKernel12 := facts12) := by
  intro m ρ _
  have := facts12
  rw [show Cert.Kernel12.defs (F := Bits) = Cert.Kernel12Ideal.defs (F := Bits) from
    congrArg (Pipeline.defs Cert.Kernel12.pcfgs) (congrArg Defs.onTc (funext fun l => match l with | ⟨0, _⟩ => rfl))]
  exact Cert.Kernel12Ideal.Gen.frame (F := Bits) m ρ

theorem reference12 : Cert.quiescent_Reference12Ideal (hReference12Ideal := Cert.Reference12Ideal.Gen.facts) :=
  fun m ρ _ => (θ_run Cert.Reference12Ideal.defs _ _).mono
    (fun r h => ⟨fun c => (h c).2, Idealize.ShloMosaic.sem_eq_zero_of_no_sems (by decide) r.2⟩)
    (Cert.Reference12Ideal.Value.run (F := Ideal) m ρ)

theorem facts13 : Cert.Kernel13.Facts := { Cert.Kernel13Ideal.Gen.facts₀ with }

theorem frame13 : Cert.quiescent_Kernel13 (hKernel13 := facts13) := by
  intro m ρ _
  have := facts13
  rw [show Cert.Kernel13.defs (F := Bits) = Cert.Kernel13Ideal.defs (F := Bits) from
    congrArg (Pipeline.defs Cert.Kernel13.pcfgs) (congrArg Defs.onTc (funext fun l => match l with | ⟨0, _⟩ => rfl))]
  exact Cert.Kernel13Ideal.Gen.frame (F := Bits) m ρ

theorem reference13 : Cert.quiescent_Reference13Ideal (hReference13Ideal := Cert.Reference13Ideal.Gen.facts) :=
  fun m ρ _ => (θ_run Cert.Reference13Ideal.defs _ _).mono
    (fun r h => ⟨fun c => (h c).2, Idealize.ShloMosaic.sem_eq_zero_of_no_sems (by decide) r.2⟩)
    (Cert.Reference13Ideal.Value.run (F := Ideal) m ρ)

theorem facts14 : Cert.Kernel14.Facts := { Cert.Kernel14Ideal.Gen.facts₀ with }

theorem frame14 : Cert.quiescent_Kernel14 (hKernel14 := facts14) := by
  intro m ρ _
  have := facts14
  rw [show Cert.Kernel14.defs (F := Bits) = Cert.Kernel14Ideal.defs (F := Bits) from
    congrArg (Pipeline.defs Cert.Kernel14.pcfgs) (congrArg Defs.onTc (funext fun l => match l with | ⟨0, _⟩ => rfl))]
  exact Cert.Kernel14Ideal.Gen.frame (F := Bits) m ρ

theorem reference14 : Cert.quiescent_Reference14Ideal (hReference14Ideal := Cert.Reference14Ideal.Gen.facts) :=
  fun m ρ _ => (θ_run Cert.Reference14Ideal.defs _ _).mono
    (fun r h => ⟨fun c => (h c).2, Idealize.ShloMosaic.sem_eq_zero_of_no_sems (by decide) r.2⟩)
    (Cert.Reference14Ideal.Value.run (F := Ideal) m ρ)

theorem facts15 : Cert.Kernel15.Facts := { Cert.Kernel15Ideal.Gen.facts₀ with }

theorem frame15 : Cert.quiescent_Kernel15 (hKernel15 := facts15) := by
  intro m ρ _
  have := facts15
  rw [show Cert.Kernel15.defs (F := Bits) = Cert.Kernel15Ideal.defs (F := Bits) from
    congrArg (Pipeline.defs Cert.Kernel15.pcfgs) (congrArg Defs.onTc (funext fun l => match l with | ⟨0, _⟩ => rfl))]
  exact Cert.Kernel15Ideal.Gen.frame (F := Bits) m ρ

theorem reference15 : Cert.quiescent_Reference15Ideal (hReference15Ideal := Cert.Reference15Ideal.Gen.facts) :=
  fun m ρ _ => (θ_run Cert.Reference15Ideal.defs _ _).mono
    (fun r h => ⟨fun c => (h c).2.2, Idealize.ShloMosaic.sem_eq_zero_of_no_sems (by decide) r.2⟩)
    (Cert.Reference15Ideal.Value.run (F := Ideal) m ρ)

theorem facts16 : Cert.Kernel16.Facts := { Cert.Kernel16Ideal.Gen.facts₀ with }

theorem frame16 : Cert.quiescent_Kernel16 (hKernel16 := facts16) := by
  intro m ρ _
  have := facts16
  rw [show Cert.Kernel16.defs (F := Bits) = Cert.Kernel16Ideal.defs (F := Bits) from
    congrArg (Pipeline.defs Cert.Kernel16.pcfgs) (congrArg Defs.onTc (funext fun l => match l with | ⟨0, _⟩ => rfl))]
  exact Cert.Kernel16Ideal.Gen.frame (F := Bits) m ρ

theorem reference16 : Cert.quiescent_Reference16Ideal (hReference16Ideal := Cert.Reference16Ideal.Gen.facts) :=
  fun m ρ _ => (θ_run Cert.Reference16Ideal.defs _ _).mono
    (fun r h => ⟨fun c => (h c).2, Idealize.ShloMosaic.sem_eq_zero_of_no_sems (by decide) r.2⟩)
    (Cert.Reference16Ideal.Value.run (F := Ideal) m ρ)

theorem facts17 : Cert.Kernel17.Facts := { Cert.Kernel17Ideal.Gen.facts₀ with }

theorem frame17 : Cert.quiescent_Kernel17 (hKernel17 := facts17) := by
  intro m ρ _
  have := facts17
  rw [show Cert.Kernel17.defs (F := Bits) = Cert.Kernel17Ideal.defs (F := Bits) from
    congrArg (Pipeline.defs Cert.Kernel17.pcfgs) (congrArg Defs.onTc (funext fun l => match l with | ⟨0, _⟩ => rfl))]
  exact Cert.Kernel17Ideal.Gen.frame (F := Bits) m ρ

theorem reference17 : Cert.quiescent_Reference17Ideal (hReference17Ideal := Cert.Reference17Ideal.Gen.facts) :=
  fun m ρ _ => (θ_run Cert.Reference17Ideal.defs _ _).mono
    (fun r h => ⟨fun c => (h c).2, Idealize.ShloMosaic.sem_eq_zero_of_no_sems (by decide) r.2⟩)
    (Cert.Reference17Ideal.Value.run (F := Ideal) m ρ)

theorem facts18 : Cert.Kernel18.Facts := { Cert.Kernel18Ideal.Gen.facts₀ with }

theorem frame18 : Cert.quiescent_Kernel18 (hKernel18 := facts18) := by
  intro m ρ _
  have := facts18
  rw [show Cert.Kernel18.defs (F := Bits) = Cert.Kernel18Ideal.defs (F := Bits) from
    congrArg (Pipeline.defs Cert.Kernel18.pcfgs) (congrArg Defs.onTc (funext fun l => match l with | ⟨0, _⟩ => rfl))]
  exact Cert.Kernel18Ideal.Gen.frame (F := Bits) m ρ

theorem reference18 : Cert.quiescent_Reference18Ideal (hReference18Ideal := Cert.Reference18Ideal.Gen.facts) :=
  fun m ρ _ => (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

end Cert.Proof

end
-- ==== Proof.Product.lean ====
module

public import Idealize.ShloMosaic.Lib.Pipeline.ValueKit
public import Idealize.ShloMosaic.Lib.Pipeline.ReadBack
public import Idealize.ShloMosaic.Lib.Pointwise
public import Idealize.ShloMosaic.Lib.Tactic

@[expose] public section

noncomputable section

/-! A product accumulated block by block along the contracted axis is the whole product: over the extended reals a sum may
    be taken in any grouping. -/

namespace Cert.Proof.Prod

open Idealize.ShloMosaic Idealize.ShloMosaic.Tactic

abbrev Mat (a b : ℕ) := (⟨2, ![a, b]⟩ : Shape).Idx → EReal

/-- The `k`-th position of the `s`-th of `J` tiles. -/
def tile {J T n : ℕ} (h : J * T = n) (s : Fin J) (k : Fin T) : Fin n := ⟨s.val * T + k.val, by
  have h1 : s.val * T + T ≤ J * T := by have := Nat.mul_le_mul_right T s.isLt; rwa [Nat.succ_mul] at this
  have := k.isLt; omega⟩

/-- A sum over `J * T` positions, taken `T` at a time. -/
theorem sum_tiles {M : Type*} [AddCommMonoid M] {n J T : ℕ} (h : J * T = n) (f : Fin n → M) :
    ∑ κ, f κ = ∑ s : Fin J, ∑ k : Fin T, f (tile h s k) := by
  subst h
  rw [← Fintype.sum_prod_type' (f := fun (s : Fin J) (k : Fin T) => f (tile rfl s k))]
  refine (Fintype.sum_equiv (finProdFinEquiv (m := J) (n := T)) _ _ fun x => ?_).symm
  exact congrArg f (Fin.ext (by rw [finProdFinEquiv_apply_val]; show x.1.val * T + x.2.val = _; rw [Nat.mul_comm]; omega))

/-- `A · B`. -/
def mm {a n b : ℕ} (A : Mat a n) (B : Mat n b) : Mat a b := fun i => ∑ κ, A (ix2 (i 0) κ) * B (ix2 κ (i 1))
/-- `Aᵀ · B`. -/
def mmT {a n b : ℕ} (A : Mat n a) (B : Mat n b) : Mat a b := fun i => ∑ κ, A (ix2 κ (i 0)) * B (ix2 κ (i 1))
/-- `Aᵀ`. -/
def flip {a b : ℕ} (A : Mat a b) : Mat b a := fun i => A (ix2 (i 1) (i 0))

theorem mm_of_blocks {J T n a b a' b' : ℕ} (h : J * T = n) (A : Mat a n) (B : Mat n b) (X : Fin J → Mat a' T) (Y : Fin J → Mat T b')
    (y : (⟨2, ![a', b']⟩ : Shape).Idx) (p : Fin a) (q : Fin b) (hX : ∀ s k, X s (ix2 (y 0) k) = A (ix2 p (tile h s k)))
    (hY : ∀ s k, Y s (ix2 k (y 1)) = B (ix2 (tile h s k) q)) : ∑ s, mm (X s) (Y s) y = mm A B (ix2 p q) := by
  refine Eq.trans ?_ (sum_tiles h _).symm
  exact Finset.sum_congr rfl fun s _ => Finset.sum_congr rfl fun k _ => congrArg₂ (· * ·) (hX s k) (hY s k)

theorem mmT_of_blocks {J T n a b a' b' : ℕ} (h : J * T = n) (A : Mat n a) (B : Mat n b) (X : Fin J → Mat T a') (Y : Fin J → Mat T b')
    (y : (⟨2, ![a', b']⟩ : Shape).Idx) (p : Fin a) (q : Fin b) (hX : ∀ s k, X s (ix2 k (y 0)) = A (ix2 (tile h s k) p))
    (hY : ∀ s k, Y s (ix2 k (y 1)) = B (ix2 (tile h s k) q)) : ∑ s, mmT (X s) (Y s) y = mmT A B (ix2 p q) := by
  refine Eq.trans ?_ (sum_tiles h _).symm
  exact Finset.sum_congr rfl fun s _ => Finset.sum_congr rfl fun k _ => congrArg₂ (· * ·) (hX s k) (hY s k)

/-- Arrays of one shape side by side. -/
def cat {J T n a : ℕ} (h : J * T = n) (hT : 0 < T) (P : Fin J → Mat a T) : Mat a n := fun i =>
  P ⟨(i 1).val / T, by rw [Nat.div_lt_iff_lt_mul hT, h]; exact (i 1).isLt⟩ (ix2 (i 0) ⟨(i 1).val % T, Nat.mod_lt _ hT⟩)

theorem cat_tile {J T n a : ℕ} (h : J * T = n) (hT : 0 < T) (P : Fin J → Mat a T) (p : Fin a) (s : Fin J) (k : Fin T) :
    cat h hT P (ix2 p (tile h s k)) = P s (ix2 p k) := by
  have h1 : (s.val * T + k.val) / T = s.val := by rw [Nat.mul_comm, Nat.mul_add_div hT, Nat.div_eq_of_lt k.isLt, Nat.add_zero]
  have h2 : (s.val * T + k.val) % T = k.val := by rw [Nat.mul_comm, Nat.mul_add_mod, Nat.mod_eq_of_lt k.isLt]
  have e1 : (⟨(s.val * T + k.val) / T, by rw [h1]; exact s.isLt⟩ : Fin J) = s := Fin.ext h1
  have e2 : (⟨(s.val * T + k.val) % T, Nat.mod_lt _ hT⟩ : Fin T) = k := Fin.ext h2
  show P ⟨(s.val * T + k.val) / T, _⟩ (ix2 p ⟨(s.val * T + k.val) % T, _⟩) = _
  rw [e1, e2]

/-- The product of arrays side by side is the sum of the products with the matching rows. -/
theorem mm_cat {J T n a b : ℕ} (h : J * T = n) (hT : 0 < T) (P : Fin J → Mat a T) (B : Mat n b) (i : (⟨2, ![a, b]⟩ : Shape).Idx) :
    mm (cat h hT P) B i = ∑ s, ∑ k, P s (ix2 (i 0) k) * B (ix2 (tile h s k) (i 1)) :=
  (sum_tiles h _).trans (Finset.sum_congr rfl fun s _ => Finset.sum_congr rfl fun k _ =>
    congrArg (· * _) (cat_tile h hT P (i 0) s k))

end Cert.Proof.Prod

end
-- ==== Proof.Dwin.lean ====
module

public import proofs.«01_k».proof.Defs
public import proofs.«01_k».proof.Proof.Product
public import proofs.«01_k».proof.Proof.Gen.Kernel2Ideal.Value
public import proofs.«01_k».proof.Proof.Gen.Reference2Ideal.Run

@[expose] public section

set_option maxRecDepth 16384

noncomputable section

/-! The weight gradient of an input projection: `hᵀ · ct`, accumulated over four blocks of rows. -/

namespace Cert.Proof.Dwin

open Cert.Kernel2Ideal Cert.Kernel2Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S1024x1024.Idx) : (k0_pay1 : FVec Ideal S1024x1024 .f32) y = (0 : EReal) := by pointwise [k0_pay1]
theorem step_at (a : Vec Ideal S1024x1024 .f32) (x0 x1 : Vec Ideal S2048x1024 .bf16) (y : S1024x1024.Idx) :
    k0_pay2 a x0 x1 y = (a y + mmT x0 x1 y : EReal) := by unfold mmT; pointwise [k0_pay2]
theorem cast_at (a : Vec Ideal S1024x1024 .f32) (y : S1024x1024.Idx) : k0_pay3 a y = (a y : EReal) := by pointwise [k0_pay3]

/-- The `s`-th point of the run that ends at `t`. -/
def pt (t : Fin cfg0.N) (s : Fin 4) : Fin cfg0.N := ⟨4 * (t.val / 4) + s.val, by
  have h1 := t.isLt; have h2 := s.isLt; have hN : cfg0.N = 8 := N_0; omega⟩

theorem scratch_sum (c : Dev nD) (t : Fin cfg0.N) (ht : t.val % 4 = 3) (y : S1024x1024.Idx) :
    ((outsAt0 m c t.val t.isLt).2 y : EReal) = ∑ s : Fin 4, mmT (iblk m c 0 (pt t s)) (iblk m c 1 (pt t s)) y := by
  rw [Pipeline.eq_sum_fin_of_reset_step_apply_of_flush (M := EReal) (fun n h => (outsAt0 m c n h).2) 4 (fun _ => 0)
    (fun t => mmT (iblk m c 0 t) (iblk m c 1 t)) (fun t h y => ?_) (fun t h y => ?_) t ht y, zero_add]
  · rfl
  · rw [outsAt0_A m c t h (by omega)]; frame_out
    rw [step_at, zero_at]
  · by_cases h3 : t.val % 4 = 3
    · rw [outsAt0_C m c t h h3]; frame_out
      rw [step_at]; simp only [read_unread_whole]
    · rw [outsAt0_B m c t h h3]; frame_out
      rw [step_at]; simp only [read_unread_whole]

theorem out_at (c : Dev nD) (t : Fin cfg0.N) (ht : t.val % 4 = 3) (y : S1024x1024.Idx) :
    ((outsAt0 m c t.val t.isLt).1 y : EReal) = (outsAt0 m c t.val t.isLt).2 y := by
  rw [outsAt0_C m c t (by omega) ht]; frame_out
  rw [cast_at]

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

theorem v0_at (c : Dev nD) (i : S8192x1024.Idx) : (V m c main_v0 i : EReal) = m ((c : Thread nD τ).loc main_arg0) i := by
  unfold_abbrev_sides; after_results; rfl
theorem v1_at (c : Dev nD) (i : S8192x2048.Idx) : (V m c main_v1 i : EReal) = m ((c : Thread nD τ).loc main_arg1) i := by
  unfold_abbrev_sides; after_results; rfl

def rowAt (s : Fin 4) (k : Fin 2048) : Fin 8192 := tile (J := 4) (T := 2048) rfl s k
def colAt (t : Fin cfg0.N) (y : Fin 1024) : Fin 2048 := ⟨t.val / 4 * 1024 + y.val, by have := t.isLt; have hN : cfg0.N = 8 := N_0; omega⟩

theorem emb0 (t : Fin cfg0.N) (s : Fin 4) (k : Fin 2048) (x : Fin 1024) :
    ((cfg0.win 0).blk (pt t s)).view.emb (ix2 k x) = ix2 (rowAt s k) x := by
  blk_ext [index0, pt, rowAt, tile]
theorem emb1 (t : Fin cfg0.N) (s : Fin 4) (k : Fin 2048) (x : Fin 1024) :
    ((cfg0.win 1).blk (pt t s)).view.emb (ix2 k x) = ix2 (rowAt s k) (colAt t x) := by
  blk_ext [index1, pt, rowAt, colAt, tile]

theorem blk0_at (c : Dev nD) (t : Fin cfg0.N) (s : Fin 4) (k : Fin 2048) (x : Fin 1024) :
    ((iblk m c 0 (pt t s) : Vec Ideal S2048x1024 .bf16) (ix2 k x) : EReal) = m ((c : Thread nD τ).loc main_arg0) (ix2 (rowAt s k) x) := by
  blk_simp [iblk]; rw [emb0]; exact v0_at m c _
theorem blk1_at (c : Dev nD) (t : Fin cfg0.N) (s : Fin 4) (k : Fin 2048) (x : Fin 1024) :
    ((iblk m c 1 (pt t s) : Vec Ideal S2048x1024 .bf16) (ix2 k x) : EReal) = m ((c : Thread nD τ).loc main_arg1) (ix2 (rowAt s k) (colAt t x)) := by
  blk_simp [iblk]; rw [emb1]; exact v1_at m c _

/-- The result. -/
def grad (c : Dev nD) : Buf (Elt Ideal) ((c : Thread nD τ).loc main_v2) :=
  mmT (m ((c : Thread nD τ).loc main_arg0)) (m ((c : Thread nD τ).loc main_arg1))

theorem final (c : Dev nD) : (dats m 0 c).arrAt 2 cfg0.N = grad m c := by
  refine (dats m 0 c).arrAt_eq_of_covers 2 _ (by decide +kernel) fun t hf y => ?_
  blk_simp
  rw [after0_2]
  have ht := (flush0_2 t).mp hf
  refine (out_at m c t ht y).trans ((scratch_sum m c t ht y).trans ?_)
  rw [show ((cfg0.win 2).blk t).view.emb y = ix2 (y 0) (colAt t (y 1)) from by blk_ext [index2, colAt]]
  exact mmT_of_blocks (J := 4) (T := 2048) rfl _ _ _ _ y _ _ (fun s k => blk0_at m c t s k (y 0)) (fun s k => blk1_at m c t s k (y 1))

/-- The reference's term. -/
theorem ref_eq (A : Vec Ideal S8192x1024 .f32) (B : Vec Ideal S8192x2048 .f32) :
    truncf .bf16 (transpose S1024x2048 [1, 0] (Host.dotGeneral (F := Ideal) (φ₁ := .f32) (φ₂ := .f32) Cert.Reference2Ideal.dot_S8192x2048_S8192x1024_S2048x1024_0_0_1_1_n_n none B A)
      Cert.Reference2Ideal.Gen.facts.transposes_S2048x1024_S1024x2048_1_0) Cert.Reference2Ideal.Gen.facts.bitsLt_bf16_f32 = (mmT A B : Vec Ideal S1024x2048 .bf16) := by
  funext i
  unfold mmT
  pointwise []
  exact Finset.sum_congr rfl fun κ _ => mul_comm _ _

theorem algebraic : Cert.algebraic_Kernel2Ideal_Reference2Ideal
    (hKernel2Ideal := Cert.Kernel2Ideal.Gen.facts) (hReference2Ideal := Cert.Reference2Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference2Ideal.Value.run (F := Ideal) m' g')
    rw [(harg c).1, (harg c).2]
    exact ref_eq _ _

end Cert.Proof.Dwin

end
-- ==== Proof.In.lean ====
module

public import proofs.«01_k».proof.Defs
public import proofs.«01_k».proof.Proof.Product
public import proofs.«01_k».proof.Proof.Gen.Kernel3Ideal.Value
public import proofs.«01_k».proof.Proof.Gen.Reference3Ideal.Run

@[expose] public section

set_option maxRecDepth 16384

noncomputable section

/-! An input projection: `h · w`, one product per block of the result. -/

namespace Cert.Proof.In

open Cert.Kernel3Ideal Cert.Kernel3Ideal.Gen Cert.Proof.Prod
open Idealize.SL.Sem Idealize.ShloMosaic Idealize.ShloMosaic.TcCoe Idealize.ShloMosaic.Tactic

variable (m : (ℓ : Loc nD τ sig) → Buf (Elt Ideal) ℓ)

theorem pay_at (x0 : Vec Ideal S2048x1024 .bf16) (x1 : Vec Ideal S1024x1024 .bf16) (y : S2048x1024.Idx) :
    k0_pay1 x0 x1 y = (mm x0 x1 y : EReal) := by unfold mm; pointwise [k0_pay1]

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

theorem v0_at (c : Dev nD) (i : S8192x1024.Idx) : (V m c main_v0 i : EReal) = m ((c : Thread nD τ).loc main_arg0) i := by
  unfold_abbrev_sides; after_results; rfl
theorem v1_at (c : Dev nD) (i : S1024x2048.Idx) : (V m c main_v1 i : EReal) = m ((c : Thread nD τ).loc main_arg1) i := by
  unfold_abbrev_sides; after_results; rfl

def rowAt (t : Fin cfg0.N) (y : Fin 2048) : Fin 8192 := ⟨t.val / 2 * 2048 + y.val, by have := t.isLt; have hN : cfg0.N = 8 := N_0; omega⟩
def colAt (t : Fin cfg0.N) (y : Fin 1024) : Fin 2048 := ⟨t.val % 2 * 1024 + y.val, by omega⟩

theorem emb0 (t : Fin cfg0.N) (y : Fin 2048) (k : Fin 1024) : ((cfg0.win 0).blk t).view.emb (ix2 y k) = ix2 (rowAt t y) k := by
  blk_ext [index0, rowAt]
theorem emb1 (t : Fin cfg0.N) (k x : Fin 1024) : ((cfg0.win 1).blk t).view.emb (ix2 k x) = ix2 k (colAt t x) := by
  blk_ext [index1, colAt]

theorem blk0_at (c : Dev nD) (t : Fin cfg0.N) (y : Fin 2048) (k : Fin 1024) :
    ((iblk m c 0 t : Vec Ideal S2048x1024 .bf16) (ix2 y k) : EReal) = m ((c : Thread nD τ).loc main_arg0) (ix2 (rowAt t y) k) := by
  blk_simp [iblk]; rw [emb0]; exact v0_at m c _
theorem blk1_at (c : Dev nD) (t : Fin cfg0.N) (k x : Fin 1024) :
    ((iblk m c 1 t : Vec Ideal S1024x1024 .bf16) (ix2 k x) : EReal) = m ((c : Thread nD τ).loc main_arg1) (ix2 k (colAt t x)) := by
  blk_simp [iblk]; rw [emb1]; exact v1_at m c _

/-- The result. -/
def proj (c : Dev nD) : Buf (Elt Ideal) ((c : Thread nD τ).loc main_v2) :=
  mm (m ((c : Thread nD τ).loc main_arg0)) (m ((c : Thread nD τ).loc main_arg1))

theorem final (c : Dev nD) : (dats m 0 c).arrAt 2 cfg0.N = proj m c := by
  refine (dats m 0 c).arrAt_eq_of_covers 2 _ (by decide +kernel) fun t hf y => ?_
  blk_simp
  rw [after0_2]; frame_out
  rw [show ((cfg0.win 2).blk t).view.emb y = ix2 (rowAt t (y 0)) (colAt t (y 1)) from by blk_ext [index2, rowAt, colAt]]
  refine (pay_at _ _ y).trans ?_
  exact Finset.sum_congr rfl fun k _ => congrArg₂ (fun a b : EReal => a * b) (blk0_at m c t (y 0) k) (blk1_at m c t k (y 1))

/-- The reference's term. -/
theorem ref_eq (A : Vec Ideal S8192x1024 .f32) (B : Vec Ideal S1024x2048 .f32) :
    truncf .bf16 (Host.dotGeneral (F := Ideal) (φ₁ := .f32) (φ₂ := .f32) Cert.Reference3Ideal.dot_S8192x1024_S1024x2048_S8192x2048_1_0_0_1_n_n none A B)
      Cert.Reference3Ideal.Gen.facts.bitsLt_bf16_f32 = (mm A B : Vec Ideal S8192x2048 .bf16) := by
  funext i
  unfold mm
  pointwise []

theorem algebraic : Cert.algebraic_Kernel3Ideal_Reference3Ideal
    (hKernel3Ideal := Cert.Kernel3Ideal.Gen.facts) (hReference3Ideal := Cert.Reference3Ideal.Gen.facts) := by
  intro m g m' g' _ harg
  refine ⟨proj m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference3Ideal.Value.run (F := Ideal) m' g')
    rw [(harg c).1, (harg c).2]
    exact ref_eq _ _

end Cert.Proof.In

end
-- ==== Proof.Cat3.lean ====
module

public import proofs.«01_k».proof.Defs
public import proofs.«01_k».proof.Proof.Product
public import proofs.«01_k».proof.Proof.Gen.Kernel4Ideal.Value
public import proofs.«01_k».proof.Proof.Gen.Reference4Ideal.Run

@[expose] public section

set_option maxRecDepth 16384

noncomputable section

/-! The input gradient of a projection whose output is split in three: the parts side by side times `wᵀ`, over six blocks of columns. -/

namespace Cert.Proof.Cat3

open Cert.Kernel4Ideal Cert.Kernel4Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S1024x1024.Idx) : (k0_pay1 : FVec Ideal S1024x1024 .f32) y = (0 : EReal) := by pointwise [k0_pay1]
theorem step0_at (a : Vec Ideal S1024x1024 .f32) (x0 x1 : Vec Ideal S1024x1024 .bf16) (y : S1024x1024.Idx) :
    k0_pay2 a x0 x1 y = (a y + mm x0 x1 y : EReal) := by unfold mm; pointwise [k0_pay2]
theorem step1_at (a : Vec Ideal S1024x1024 .f32) (x0 x1 : Vec Ideal S1024x1024 .bf16) (y : S1024x1024.Idx) :
    k0_pay3 a x0 x1 y = (a y + mm x0 x1 y : EReal) := by unfold mm; pointwise [k0_pay3]
theorem step2_at (a : Vec Ideal S1024x1024 .f32) (x0 x1 : Vec Ideal S1024x1024 .bf16) (y : S1024x1024.Idx) :
    k0_pay4 a x0 x1 y = (a y + mm x0 x1 y : EReal) := by unfold mm; pointwise [k0_pay4]

/-- The `s`-th point of the run that ends at `t`. -/
def pt (t : Fin cfg0.N) (s : Fin 6) : Fin cfg0.N := ⟨6 * (t.val / 6) + s.val, by
  have h1 := t.isLt; have h2 := s.isLt; have hN : cfg0.N = 48 := N_0; omega⟩

/-- The block of columns that a point multiplies. -/
def part (c : Dev nD) (t : Fin cfg0.N) : Mat 1024 1024 :=
  if t.val % 6 ≤ 1 then (iblk m c 0 t : Vec Ideal S1024x1024 .bf16) else if t.val % 6 ≤ 3 then (iblk m c 1 t : Vec Ideal S1024x1024 .bf16) else (iblk m c 2 t : Vec Ideal S1024x1024 .bf16)

theorem scratch_sum (c : Dev nD) (t : Fin cfg0.N) (ht : t.val % 6 = 5) (y : S1024x1024.Idx) :
    ((outsAt0 m c t.val t.isLt).2 y : EReal) = ∑ s : Fin 6, mm (part m c (pt t s)) (iblk m c 3 (pt t s)) y := by
  rw [Pipeline.eq_sum_fin_of_reset_step_apply_of_flush (M := EReal) (fun n h => (outsAt0 m c n h).2) 6 (fun _ => 0)
    (fun t => mm (part m c t) (iblk m c 3 t)) (fun t h y => ?_) (fun t h y => ?_) t ht y, zero_add]
  · rfl
  · rw [outsAt0_A m c t h (by omega) (by omega) (by omega) (by omega)]; frame_out
    rw [step0_at, zero_at, part, if_pos (by omega)]
  · by_cases h1 : t.val % 6 ≤ 1
    · rw [outsAt0_B m c t h h1 (by omega) (by omega) (by omega)]; frame_out
      rw [step0_at, part, if_pos h1]; simp only [read_unread_whole]
    · by_cases h2 : t.val % 6 ≤ 3
      · rw [outsAt0_C m c t h h1 (by omega) (by omega) (by omega)]; frame_out
        rw [step1_at, part, if_neg h1, if_pos h2]; simp only [read_unread_whole]
      · by_cases h3 : t.val % 6 = 5
        · rw [outsAt0_E m c t h h1 (by omega) (by omega) h3]; frame_out
          rw [step2_at, part, if_neg h1, if_neg h2]; simp only [read_unread_whole]
        · rw [outsAt0_D m c t h h1 (by omega) (by omega) h3]; frame_out
          rw [step2_at, part, if_neg h1, if_neg h2]; simp only [read_unread_whole]

theorem out_at (c : Dev nD) (t : Fin cfg0.N) (ht : t.val % 6 = 5) (y : S1024x1024.Idx) :
    ((outsAt0 m c t.val t.isLt).1 y : EReal) = (outsAt0 m c t.val t.isLt).2 y := by
  rw [outsAt0_E m c t (by omega) (by omega) (by omega) (by omega) ht]; frame_out

theorem index0 : ∀ t : Fin cfg0.N, win0_0.index t = ![t.val / 6, min (t.val % 6) 1] := (by decide +kernel : ∀ t : Fin grid0.N, _)
theorem index1 : ∀ t : Fin cfg0.N, win0_1.index t = ![t.val / 6, min (t.val % 6 - 2) 1] := (by decide +kernel : ∀ t : Fin grid0.N, _)
theorem index2 : ∀ t : Fin cfg0.N, win0_2.index t = ![t.val / 6, t.val % 6 - 4] := (by decide +kernel : ∀ t : Fin grid0.N, _)
theorem index3 : ∀ t : Fin cfg0.N, win0_3.index t = ![t.val % 6, 0] := (by decide +kernel : ∀ t : Fin grid0.N, _)
theorem index4 : ∀ t : Fin cfg0.N, win0_4.index t = ![t.val / 6, 0] := (by decide +kernel : ∀ t : Fin grid0.N, _)

theorem v0_at (c : Dev nD) (i : S8192x2048.Idx) : (V m c main_v0 i : EReal) = m ((c : Thread nD τ).loc main_arg0) i := by
  unfold_abbrev_sides; after_results; rfl
theorem v1_at (c : Dev nD) (i : S8192x2048.Idx) : (V m c main_v1 i : EReal) = m ((c : Thread nD τ).loc main_arg1) i := by
  unfold_abbrev_sides; after_results; rfl
theorem v2_at (c : Dev nD) (i : S8192x2048.Idx) : (V m c main_v2 i : EReal) = m ((c : Thread nD τ).loc main_arg2) i := by
  unfold_abbrev_sides; after_results; rfl
theorem v4_at (c : Dev nD) (i : S6144x1024.Idx) : (V m c main_v4 i : EReal) = flip (m ((c : Thread nD τ).loc main_arg3)) i := by
  unfold_abbrev_sides; after_results; unfold Prod.flip; pointwise []

def rowAt (t : Fin cfg0.N) (y : Fin 1024) : Fin 8192 := ⟨t.val / 6 * 1024 + y.val, by have := t.isLt; have hN : cfg0.N = 48 := N_0; omega⟩
/-- A block's columns, in the part that holds them and in all parts side by side. -/
def inPart (s : Fin 6) (k : Fin 1024) : Fin 2048 := ⟨s.val % 2 * 1024 + k.val, by omega⟩
def colAt (s : Fin 6) (k : Fin 1024) : Fin 6144 := tile (J := 6) (T := 1024) rfl s k

theorem colAt_eq (j : Fin 3) (s : Fin 6) (hs : s.val / 2 = j.val) (k : Fin 1024) :
    colAt s k = tile (J := 3) (T := 2048) rfl j (inPart s k) := by
  apply Fin.ext; show s.val * 1024 + k.val = j.val * 2048 + (s.val % 2 * 1024 + k.val); omega

theorem emb0 (t : Fin cfg0.N) (s : Fin 6) (h : s.val / 2 = 0) (y k : Fin 1024) :
    ((cfg0.win 0).blk (pt t s)).view.emb (ix2 y k) = ix2 (rowAt t y) (inPart s k) := by
  blk_ext [index0, pt, rowAt, inPart]
theorem emb1 (t : Fin cfg0.N) (s : Fin 6) (h : s.val / 2 = 1) (y k : Fin 1024) :
    ((cfg0.win 1).blk (pt t s)).view.emb (ix2 y k) = ix2 (rowAt t y) (inPart s k) := by
  blk_ext [index1, pt, rowAt, inPart]
theorem emb2 (t : Fin cfg0.N) (s : Fin 6) (h : s.val / 2 = 2) (y k : Fin 1024) :
    ((cfg0.win 2).blk (pt t s)).view.emb (ix2 y k) = ix2 (rowAt t y) (inPart s k) := by
  blk_ext [index2, pt, rowAt, inPart]
theorem emb3 (t : Fin cfg0.N) (s : Fin 6) (k x : Fin 1024) :
    ((cfg0.win 3).blk (pt t s)).view.emb (ix2 k x) = ix2 (colAt s k) x := by
  blk_ext [index3, pt, colAt, tile]

theorem blk0_at (c : Dev nD) (t : Fin cfg0.N) (s : Fin 6) (h : s.val / 2 = 0) (y k : Fin 1024) :
    ((iblk m c 0 (pt t s) : Vec Ideal S1024x1024 .bf16) (ix2 y k) : EReal) = m ((c : Thread nD τ).loc main_arg0) (ix2 (rowAt t y) (inPart s k)) := by
  blk_simp [iblk]; rw [emb0 t s h]; exact v0_at m c _
theorem blk1_at (c : Dev nD) (t : Fin cfg0.N) (s : Fin 6) (h : s.val / 2 = 1) (y k : Fin 1024) :
    ((iblk m c 1 (pt t s) : Vec Ideal S1024x1024 .bf16) (ix2 y k) : EReal) = m ((c : Thread nD τ).loc main_arg1) (ix2 (rowAt t y) (inPart s k)) := by
  blk_simp [iblk]; rw [emb1 t s h]; exact v1_at m c _
theorem blk2_at (c : Dev nD) (t : Fin cfg0.N) (s : Fin 6) (h : s.val / 2 = 2) (y k : Fin 1024) :
    ((iblk m c 2 (pt t s) : Vec Ideal S1024x1024 .bf16) (ix2 y k) : EReal) = m ((c : Thread nD τ).loc main_arg2) (ix2 (rowAt t y) (inPart s k)) := by
  blk_simp [iblk]; rw [emb2 t s h]; exact v2_at m c _
theorem blk3_at (c : Dev nD) (t : Fin cfg0.N) (s : Fin 6) (k x : Fin 1024) :
    ((iblk m c 3 (pt t s) : Vec Ideal S1024x1024 .bf16) (ix2 k x) : EReal) = flip (m ((c : Thread nD τ).loc main_arg3)) (ix2 (colAt s k) x) := by
  blk_simp [iblk]; rw [emb3]; exact v4_at m c _

/-- The parts side by side. -/
def parts (c : Dev nD) : Fin 3 → Mat 8192 2048 := ![m ((c : Thread nD τ).loc main_arg0), m ((c : Thread nD τ).loc main_arg1), m ((c : Thread nD τ).loc main_arg2)]
def whole (c : Dev nD) : Mat 8192 6144 := cat (J := 3) (T := 2048) rfl (by decide) (parts m c)

theorem part_at (c : Dev nD) (t : Fin cfg0.N) (s : Fin 6) (y k : Fin 1024) :
    part m c (pt t s) (ix2 y k) = whole m c (ix2 (rowAt t y) (colAt s k)) := by
  have hs := s.isLt
  have hp : (pt t s).val % 6 = s.val := by show (6 * (t.val / 6) + s.val) % 6 = s.val; omega
  unfold part whole
  by_cases h1 : s.val ≤ 1
  · rw [if_pos (by omega)]; rw [colAt_eq 0 s (by show _ = 0; omega), cat_tile]; exact blk0_at m c t s (by omega) y k
  · by_cases h2 : s.val ≤ 3
    · rw [if_neg (by omega), if_pos (by omega)]; rw [colAt_eq 1 s (by show _ = 1; omega), cat_tile]; exact blk1_at m c t s (by omega) y k
    · rw [if_neg (by omega), if_neg (by omega)]; rw [colAt_eq 2 s (by show _ = 2; omega), cat_tile]; exact blk2_at m c t s (by omega) y k

/-- The result. -/
def grad (c : Dev nD) : Buf (Elt Ideal) ((c : Thread nD τ).loc main_v5) :=
  mm (whole m c) (flip (m ((c : Thread nD τ).loc main_arg3)))

theorem final (c : Dev nD) : (dats m 0 c).arrAt 4 cfg0.N = grad m c := by
  refine (dats m 0 c).arrAt_eq_of_covers 4 _ (by decide +kernel) fun t hf y => ?_
  blk_simp
  rw [after0_4]
  have ht := (flush0_4 t).mp hf
  refine (out_at m c t ht y).trans ((scratch_sum m c t ht y).trans ?_)
  rw [show ((cfg0.win 4).blk t).view.emb y = ix2 (rowAt t (y 0)) (y 1) from by blk_ext [index4, rowAt]]
  exact mm_of_blocks (J := 6) (T := 1024) rfl _ _ _ _ y _ _ (fun s k => part_at m c t s (y 0) k) (fun s k => blk3_at m c t s k (y 1))

/-- The reference's term. -/
theorem ref_eq (A B C : Vec Ideal S8192x2048 .f32) (D : Vec Ideal S1024x6144 .f32) :
    addf (addf (Host.dotGeneral (F := Ideal) (φ₁ := .f32) (φ₂ := .f32) Cert.Reference4Ideal.dot_S8192x2048_S1024x2048_S8192x1024_1_1_0_0_n_n none C (extractStridedSlice Cert.Reference4Ideal.S1024x2048 ![0, 4096] D Cert.Reference4Ideal.Gen.facts.slices_S1024x6144_S1024x2048_0_4096))
        (Host.dotGeneral (F := Ideal) (φ₁ := .f32) (φ₂ := .f32) Cert.Reference4Ideal.dot_S8192x2048_S1024x2048_S8192x1024_1_1_0_0_n_n none B (extractStridedSlice Cert.Reference4Ideal.S1024x2048 ![0, 2048] D Cert.Reference4Ideal.Gen.facts.slices_S1024x6144_S1024x2048_0_2048)))
      (Host.dotGeneral (F := Ideal) (φ₁ := .f32) (φ₂ := .f32) Cert.Reference4Ideal.dot_S8192x2048_S1024x2048_S8192x1024_1_1_0_0_n_n none A (extractStridedSlice Cert.Reference4Ideal.S1024x2048 ![0, 0] D Cert.Reference4Ideal.Gen.facts.slices_S1024x6144_S1024x2048_0_0))
      = (mm (cat (J := 3) (T := 2048) rfl (by decide) ![A, B, C]) (flip D) : Vec Ideal S8192x1024 .f32) := by
  funext i
  rw [mm_cat, Fin.sum_univ_three]
  unfold Prod.flip
  pointwise [tile]
  exact (add_comm _ _).trans ((congrArg (_ + ·) (add_comm _ _)).trans (add_assoc _ _ _).symm)

theorem algebraic : Cert.algebraic_Kernel4Ideal_Reference4Ideal
    (hKernel4Ideal := Cert.Kernel4Ideal.Gen.facts) (hReference4Ideal := Cert.Reference4Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference4Ideal.Value.run (F := Ideal) m' g')
    rw [(harg c).1, (harg c).2.1, (harg c).2.2.1, (harg c).2.2.2]
    exact ref_eq _ _ _ _

end Cert.Proof.Cat3

end
-- ==== Proof.Cat2.lean ====
module

public import proofs.«01_k».proof.Defs
public import proofs.«01_k».proof.Proof.Product
public import proofs.«01_k».proof.Proof.Gen.Kernel5Ideal.Value
public import proofs.«01_k».proof.Proof.Gen.Reference5Ideal.Run

@[expose] public section

set_option maxRecDepth 16384

noncomputable section

/-! The input gradient of a projection whose output is split in two: the parts side by side times `wᵀ`, over four blocks of columns. -/

namespace Cert.Proof.Cat2

open Cert.Kernel5Ideal Cert.Kernel5Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S1024x1024.Idx) : (k0_pay1 : FVec Ideal S1024x1024 .f32) y = (0 : EReal) := by pointwise [k0_pay1]
theorem step0_at (a : Vec Ideal S1024x1024 .f32) (x0 x1 : Vec Ideal S1024x1024 .bf16) (y : S1024x1024.Idx) :
    k0_pay2 a x0 x1 y = (a y + mm x0 x1 y : EReal) := by unfold mm; pointwise [k0_pay2]
theorem step1_at (a : Vec Ideal S1024x1024 .f32) (x0 x1 : Vec Ideal S1024x1024 .bf16) (y : S1024x1024.Idx) :
    k0_pay3 a x0 x1 y = (a y + mm x0 x1 y : EReal) := by unfold mm; pointwise [k0_pay3]

/-- The `s`-th point of the run that ends at `t`. -/
def pt (t : Fin cfg0.N) (s : Fin 4) : Fin cfg0.N := ⟨4 * (t.val / 4) + s.val, by
  have h1 := t.isLt; have h2 := s.isLt; have hN : cfg0.N = 32 := N_0; omega⟩

/-- The block of columns that a point multiplies. -/
def part (c : Dev nD) (t : Fin cfg0.N) : Mat 1024 1024 :=
  if t.val % 4 ≤ 1 then (iblk m c 0 t : Vec Ideal S1024x1024 .bf16) else (iblk m c 1 t : Vec Ideal S1024x1024 .bf16)

theorem scratch_sum (c : Dev nD) (t : Fin cfg0.N) (ht : t.val % 4 = 3) (y : S1024x1024.Idx) :
    ((outsAt0 m c t.val t.isLt).2 y : EReal) = ∑ s : Fin 4, mm (part m c (pt t s)) (iblk m c 2 (pt t s)) y := by
  rw [Pipeline.eq_sum_fin_of_reset_step_apply_of_flush (M := EReal) (fun n h => (outsAt0 m c n h).2) 4 (fun _ => 0)
    (fun t => mm (part m c t) (iblk m c 2 t)) (fun t h y => ?_) (fun t h y => ?_) t ht y, zero_add]
  · rfl
  · rw [outsAt0_A m c t h (by omega) (by omega) (by omega)]; frame_out
    rw [step0_at, zero_at, part, if_pos (by omega)]
  · by_cases h1 : t.val % 4 ≤ 1
    · rw [outsAt0_B m c t h h1 (by omega) (by omega)]; frame_out
      rw [step0_at, part, if_pos h1]; simp only [read_unread_whole]
    · by_cases h3 : t.val % 4 = 3
      · rw [outsAt0_D m c t h h1 (by omega) h3]; frame_out
        rw [step1_at, part, if_neg h1]; simp only [read_unread_whole]
      · rw [outsAt0_C m c t h h1 (by omega) h3]; frame_out
        rw [step1_at, part, if_neg h1]; simp only [read_unread_whole]

theorem out_at (c : Dev nD) (t : Fin cfg0.N) (ht : t.val % 4 = 3) (y : S1024x1024.Idx) :
    ((outsAt0 m c t.val t.isLt).1 y : EReal) = (outsAt0 m c t.val t.isLt).2 y := by
  rw [outsAt0_D m c t (by omega) (by omega) (by omega) ht]; frame_out

theorem index0 : ∀ t : Fin cfg0.N, win0_0.index t = ![t.val / 4, min (t.val % 4) 1] := (by decide +kernel : ∀ t : Fin grid0.N, _)
theorem index1 : ∀ t : Fin cfg0.N, win0_1.index t = ![t.val / 4, t.val % 4 - 2] := (by decide +kernel : ∀ t : Fin grid0.N, _)
theorem index2 : ∀ t : Fin cfg0.N, win0_2.index t = ![t.val % 4, 0] := (by decide +kernel : ∀ t : Fin grid0.N, _)
theorem index3 : ∀ t : Fin cfg0.N, win0_3.index t = ![t.val / 4, 0] := (by decide +kernel : ∀ t : Fin grid0.N, _)

theorem v0_at (c : Dev nD) (i : S8192x2048.Idx) : (V m c main_v0 i : EReal) = m ((c : Thread nD τ).loc main_arg0) i := by
  unfold_abbrev_sides; after_results; rfl
theorem v1_at (c : Dev nD) (i : S8192x2048.Idx) : (V m c main_v1 i : EReal) = m ((c : Thread nD τ).loc main_arg1) i := by
  unfold_abbrev_sides; after_results; rfl
theorem v3_at (c : Dev nD) (i : S4096x1024.Idx) : (V m c main_v3 i : EReal) = flip (m ((c : Thread nD τ).loc main_arg2)) i := by
  unfold_abbrev_sides; after_results; unfold Prod.flip; pointwise []

def rowAt (t : Fin cfg0.N) (y : Fin 1024) : Fin 8192 := ⟨t.val / 4 * 1024 + y.val, by have := t.isLt; have hN : cfg0.N = 32 := N_0; omega⟩
/-- A block's columns, in the part that holds them and in all parts side by side. -/
def inPart (s : Fin 4) (k : Fin 1024) : Fin 2048 := ⟨s.val % 2 * 1024 + k.val, by omega⟩
def colAt (s : Fin 4) (k : Fin 1024) : Fin 4096 := tile (J := 4) (T := 1024) rfl s k

theorem colAt_eq (j : Fin 2) (s : Fin 4) (hs : s.val / 2 = j.val) (k : Fin 1024) :
    colAt s k = tile (J := 2) (T := 2048) rfl j (inPart s k) := by
  apply Fin.ext; show s.val * 1024 + k.val = j.val * 2048 + (s.val % 2 * 1024 + k.val); omega

theorem emb0 (t : Fin cfg0.N) (s : Fin 4) (h : s.val / 2 = 0) (y k : Fin 1024) :
    ((cfg0.win 0).blk (pt t s)).view.emb (ix2 y k) = ix2 (rowAt t y) (inPart s k) := by
  blk_ext [index0, pt, rowAt, inPart]
theorem emb1 (t : Fin cfg0.N) (s : Fin 4) (h : s.val / 2 = 1) (y k : Fin 1024) :
    ((cfg0.win 1).blk (pt t s)).view.emb (ix2 y k) = ix2 (rowAt t y) (inPart s k) := by
  blk_ext [index1, pt, rowAt, inPart]
theorem emb2 (t : Fin cfg0.N) (s : Fin 4) (k x : Fin 1024) :
    ((cfg0.win 2).blk (pt t s)).view.emb (ix2 k x) = ix2 (colAt s k) x := by
  blk_ext [index2, pt, colAt, tile]

theorem blk0_at (c : Dev nD) (t : Fin cfg0.N) (s : Fin 4) (h : s.val / 2 = 0) (y k : Fin 1024) :
    ((iblk m c 0 (pt t s) : Vec Ideal S1024x1024 .bf16) (ix2 y k) : EReal) = m ((c : Thread nD τ).loc main_arg0) (ix2 (rowAt t y) (inPart s k)) := by
  blk_simp [iblk]; rw [emb0 t s h]; exact v0_at m c _
theorem blk1_at (c : Dev nD) (t : Fin cfg0.N) (s : Fin 4) (h : s.val / 2 = 1) (y k : Fin 1024) :
    ((iblk m c 1 (pt t s) : Vec Ideal S1024x1024 .bf16) (ix2 y k) : EReal) = m ((c : Thread nD τ).loc main_arg1) (ix2 (rowAt t y) (inPart s k)) := by
  blk_simp [iblk]; rw [emb1 t s h]; exact v1_at m c _
theorem blk2_at (c : Dev nD) (t : Fin cfg0.N) (s : Fin 4) (k x : Fin 1024) :
    ((iblk m c 2 (pt t s) : Vec Ideal S1024x1024 .bf16) (ix2 k x) : EReal) = flip (m ((c : Thread nD τ).loc main_arg2)) (ix2 (colAt s k) x) := by
  blk_simp [iblk]; rw [emb2]; exact v3_at m c _

/-- The parts side by side. -/
def parts (c : Dev nD) : Fin 2 → Mat 8192 2048 := ![m ((c : Thread nD τ).loc main_arg0), m ((c : Thread nD τ).loc main_arg1)]
def whole (c : Dev nD) : Mat 8192 4096 := cat (J := 2) (T := 2048) rfl (by decide) (parts m c)

theorem part_at (c : Dev nD) (t : Fin cfg0.N) (s : Fin 4) (y k : Fin 1024) :
    part m c (pt t s) (ix2 y k) = whole m c (ix2 (rowAt t y) (colAt s k)) := by
  have hs := s.isLt
  have hp : (pt t s).val % 4 = s.val := by show (4 * (t.val / 4) + s.val) % 4 = s.val; omega
  unfold part whole
  by_cases h1 : s.val ≤ 1
  · rw [if_pos (by omega)]; rw [colAt_eq 0 s (by show _ = 0; omega), cat_tile]; exact blk0_at m c t s (by omega) y k
  · rw [if_neg (by omega)]; rw [colAt_eq 1 s (by show _ = 1; omega), cat_tile]; exact blk1_at m c t s (by omega) y k

/-- The result. -/
def grad (c : Dev nD) : Buf (Elt Ideal) ((c : Thread nD τ).loc main_v4) :=
  mm (whole m c) (flip (m ((c : Thread nD τ).loc main_arg2)))

theorem final (c : Dev nD) : (dats m 0 c).arrAt 3 cfg0.N = grad m c := by
  refine (dats m 0 c).arrAt_eq_of_covers 3 _ (by decide +kernel) fun t hf y => ?_
  blk_simp
  rw [after0_3]
  have ht := (flush0_3 t).mp hf
  refine (out_at m c t ht y).trans ((scratch_sum m c t ht y).trans ?_)
  rw [show ((cfg0.win 3).blk t).view.emb y = ix2 (rowAt t (y 0)) (y 1) from by blk_ext [index3, rowAt]]
  exact mm_of_blocks (J := 4) (T := 1024) rfl _ _ _ _ y _ _ (fun s k => part_at m c t s (y 0) k) (fun s k => blk2_at m c t s k (y 1))

/-- The reference's term. -/
theorem ref_eq (A B : Vec Ideal S8192x2048 .f32) (C : Vec Ideal S1024x4096 .f32) :
    Host.dotGeneral (F := Ideal) (φ₁ := .f32) (φ₂ := .f32) Cert.Reference5Ideal.dot_S8192x4096_S1024x4096_S8192x1024_1_1_0_0_n_n none
      (concatenate Cert.Reference5Ideal.S8192x4096 1 [⟨S8192x2048, A⟩, ⟨S8192x2048, B⟩] Cert.Reference5Ideal.Gen.facts.concatenates_S8192x2048_S8192x2048_S8192x4096_d1) C
      = (mm (cat (J := 2) (T := 2048) rfl (by decide) ![A, B]) (flip C) : Vec Ideal S8192x1024 .f32) := by
  funext i
  rw [mm_cat, Fin.sum_univ_two]
  unfold Prod.flip
  pointwise [tile]

theorem algebraic : Cert.algebraic_Kernel5Ideal_Reference5Ideal
    (hKernel5Ideal := Cert.Kernel5Ideal.Gen.facts) (hReference5Ideal := Cert.Reference5Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference5Ideal.Value.run (F := Ideal) m' g')
    rw [(harg c).1, (harg c).2.1, (harg c).2.2]
    exact ref_eq _ _ _

end Cert.Proof.Cat2

end
-- ==== Proof.Dwout.lean ====
module

public import proofs.«01_k».proof.Defs
public import proofs.«01_k».proof.Proof.Product
public import proofs.«01_k».proof.Proof.Gen.Kernel6Ideal.Value
public import proofs.«01_k».proof.Proof.Gen.Reference6Ideal.Run

@[expose] public section

set_option maxRecDepth 16384

noncomputable section

/-! The weight gradient of an output projection: `zᵀ · dx`, accumulated over four blocks of rows. -/

namespace Cert.Proof.Dwout

open Cert.Kernel6Ideal Cert.Kernel6Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S1024x1024.Idx) : (k0_pay1 : FVec Ideal S1024x1024 .f32) y = (0 : EReal) := by pointwise [k0_pay1]
theorem step_at (a : Vec Ideal S1024x1024 .f32) (x0 x1 : Vec Ideal S2048x1024 .bf16) (y : S1024x1024.Idx) :
    k0_pay2 a x0 x1 y = (a y + mmT x0 x1 y : EReal) := by unfold mmT; pointwise [k0_pay2]
theorem cast_at (a : Vec Ideal S1024x1024 .f32) (y : S1024x1024.Idx) : k0_pay3 a y = (a y : EReal) := by pointwise [k0_pay3]

/-- The `s`-th point of the run that ends at `t`. -/
def pt (t : Fin cfg0.N) (s : Fin 4) : Fin cfg0.N := ⟨4 * (t.val / 4) + s.val, by
  have h1 := t.isLt; have h2 := s.isLt; have hN : cfg0.N = 8 := N_0; omega⟩

theorem scratch_sum (c : Dev nD) (t : Fin cfg0.N) (ht : t.val % 4 = 3) (y : S1024x1024.Idx) :
    ((outsAt0 m c t.val t.isLt).2 y : EReal) = ∑ s : Fin 4, mmT (iblk m c 0 (pt t s)) (iblk m c 1 (pt t s)) y := by
  rw [Pipeline.eq_sum_fin_of_reset_step_apply_of_flush (M := EReal) (fun n h => (outsAt0 m c n h).2) 4 (fun _ => 0)
    (fun t => mmT (iblk m c 0 t) (iblk m c 1 t)) (fun t h y => ?_) (fun t h y => ?_) t ht y, zero_add]
  · rfl
  · rw [outsAt0_A m c t h (by omega)]; frame_out
    rw [step_at, zero_at]
  · by_cases h3 : t.val % 4 = 3
    · rw [outsAt0_C m c t h h3]; frame_out
      rw [step_at]; simp only [read_unread_whole]
    · rw [outsAt0_B m c t h h3]; frame_out
      rw [step_at]; simp only [read_unread_whole]

theorem out_at (c : Dev nD) (t : Fin cfg0.N) (ht : t.val % 4 = 3) (y : S1024x1024.Idx) :
    ((outsAt0 m c t.val t.isLt).1 y : EReal) = (outsAt0 m c t.val t.isLt).2 y := by
  rw [outsAt0_C m c t (by omega) ht]; frame_out
  rw [cast_at]

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem v0_at (c : Dev nD) (i : S8192x2048.Idx) : (V m c main_v0 i : EReal) = m ((c : Thread nD τ).loc main_arg0) i := by
  unfold_abbrev_sides; after_results; rfl
theorem v1_at (c : Dev nD) (i : S8192x1024.Idx) : (V m c main_v1 i : EReal) = m ((c : Thread nD τ).loc main_arg1) i := by
  unfold_abbrev_sides; after_results; rfl

def rowAt (s : Fin 4) (k : Fin 2048) : Fin 8192 := tile (J := 4) (T := 2048) rfl s k
def colAt (t : Fin cfg0.N) (y : Fin 1024) : Fin 2048 := ⟨t.val / 4 * 1024 + y.val, by have := t.isLt; have hN : cfg0.N = 8 := N_0; omega⟩

theorem emb0 (t : Fin cfg0.N) (s : Fin 4) (k : Fin 2048) (x : Fin 1024) :
    ((cfg0.win 0).blk (pt t s)).view.emb (ix2 k x) = ix2 (rowAt s k) (colAt t x) := by
  blk_ext [index0, pt, rowAt, colAt, tile]
theorem emb1 (t : Fin cfg0.N) (s : Fin 4) (k : Fin 2048) (x : Fin 1024) :
    ((cfg0.win 1).blk (pt t s)).view.emb (ix2 k x) = ix2 (rowAt s k) x := by
  blk_ext [index1, pt, rowAt, tile]

theorem blk0_at (c : Dev nD) (t : Fin cfg0.N) (s : Fin 4) (k : Fin 2048) (x : Fin 1024) :
    ((iblk m c 0 (pt t s) : Vec Ideal S2048x1024 .bf16) (ix2 k x) : EReal) = m ((c : Thread nD τ).loc main_arg0) (ix2 (rowAt s k) (colAt t x)) := by
  blk_simp [iblk]; rw [emb0]; exact v0_at m c _
theorem blk1_at (c : Dev nD) (t : Fin cfg0.N) (s : Fin 4) (k : Fin 2048) (x : Fin 1024) :
    ((iblk m c 1 (pt t s) : Vec Ideal S2048x1024 .bf16) (ix2 k x) : EReal) = m ((c : Thread nD τ).loc main_arg1) (ix2 (rowAt s k) x) := by
  blk_simp [iblk]; rw [emb1]; exact v1_at m c _

/-- The result. -/
def grad (c : Dev nD) : Buf (Elt Ideal) ((c : Thread nD τ).loc main_v2) :=
  mmT (m ((c : Thread nD τ).loc main_arg0)) (m ((c : Thread nD τ).loc main_arg1))

theorem final (c : Dev nD) : (dats m 0 c).arrAt 2 cfg0.N = grad m c := by
  refine (dats m 0 c).arrAt_eq_of_covers 2 _ (by decide +kernel) fun t hf y => ?_
  blk_simp
  rw [after0_2]
  have ht := (flush0_2 t).mp hf
  refine (out_at m c t ht y).trans ((scratch_sum m c t ht y).trans ?_)
  rw [show ((cfg0.win 2).blk t).view.emb y = ix2 (colAt t (y 0)) (y 1) from by blk_ext [index2, colAt]]
  exact mmT_of_blocks (J := 4) (T := 2048) rfl _ _ _ _ y _ _ (fun s k => blk0_at m c t s k (y 0)) (fun s k => blk1_at m c t s k (y 1))

/-- The reference's term. -/
theorem ref_eq (A : Vec Ideal S8192x2048 .f32) (B : Vec Ideal S8192x1024 .f32) :
    truncf .bf16 (transpose S2048x1024 [1, 0] (Host.dotGeneral (F := Ideal) (φ₁ := .f32) (φ₂ := .f32) Cert.Reference6Ideal.dot_S8192x1024_S8192x2048_S1024x2048_0_0_1_1_n_n none B A)
      Cert.Reference6Ideal.Gen.facts.transposes_S1024x2048_S2048x1024_1_0) Cert.Reference6Ideal.Gen.facts.bitsLt_bf16_f32 = (mmT A B : Vec Ideal S2048x1024 .bf16) := by
  funext i
  unfold mmT
  pointwise []
  exact Finset.sum_congr rfl fun κ _ => mul_comm _ _

theorem algebraic : Cert.algebraic_Kernel6Ideal_Reference6Ideal
    (hKernel6Ideal := Cert.Kernel6Ideal.Gen.facts) (hReference6Ideal := Cert.Reference6Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference6Ideal.Value.run (F := Ideal) m' g')
    rw [(harg c).1, (harg c).2]
    exact ref_eq _ _

end Cert.Proof.Dwout

end
-- ==== Proof.Gate.lean ====
module

public import proofs.«01_k».proof.Defs
public import proofs.«01_k».proof.Proof.Product
public import proofs.«01_k».proof.Proof.Gen.Kernel7Ideal.Value
public import proofs.«01_k».proof.Proof.Gen.Reference7Ideal.Run

@[expose] public section

set_option maxRecDepth 16384

noncomputable section

/-! The gate's share of the input gradient: `dgate · wᵀ`, accumulated over two blocks of columns. -/

namespace Cert.Proof.Gate

open Cert.Kernel7Ideal Cert.Kernel7Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S2048x1024.Idx) : (k0_pay1 : FVec Ideal S2048x1024 .f32) y = (0 : EReal) := by pointwise [k0_pay1]
theorem step_at (a : Vec Ideal S2048x1024 .f32) (x0 : Vec Ideal S2048x1024 .bf16) (x1 : Vec Ideal S1024x1024 .bf16) (y : S2048x1024.Idx) :
    k0_pay2 a x0 x1 y = (a y + mm x0 x1 y : EReal) := by unfold mm; pointwise [k0_pay2]

/-- The `s`-th point of the run that ends at `t`. -/
def pt (t : Fin cfg0.N) (s : Fin 2) : Fin cfg0.N := ⟨2 * (t.val / 2) + s.val, by
  have h1 := t.isLt; have h2 := s.isLt; have hN : cfg0.N = 8 := N_0; omega⟩

theorem scratch_sum (c : Dev nD) (t : Fin cfg0.N) (ht : t.val % 2 = 1) (y : S2048x1024.Idx) :
    ((outsAt0 m c t.val t.isLt).2 y : EReal) = ∑ s : Fin 2, mm (iblk m c 0 (pt t s)) (iblk m c 1 (pt t s)) y := by
  rw [Pipeline.eq_sum_fin_of_reset_step_apply_of_flush (M := EReal) (fun n h => (outsAt0 m c n h).2) 2 (fun _ => 0)
    (fun t => mm (iblk m c 0 t) (iblk m c 1 t)) (fun t h y => ?_) (fun t h y => ?_) t ht y, zero_add]
  · rfl
  · rw [outsAt0_A m c t h (by omega)]; frame_out
    rw [step_at, zero_at]
  · rw [outsAt0_B m c t h (by omega)]; frame_out
    rw [step_at]; simp only [read_unread_whole]

theorem out_at (c : Dev nD) (t : Fin cfg0.N) (ht : t.val % 2 = 1) (y : S2048x1024.Idx) :
    ((outsAt0 m c t.val t.isLt).1 y : EReal) = (outsAt0 m c t.val t.isLt).2 y := by
  rw [outsAt0_B m c t (by omega) ht]; frame_out

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)

theorem v0_at (c : Dev nD) (i : S8192x2048.Idx) : (V m c main_v0 i : EReal) = m ((c : Thread nD τ).loc main_arg0) i := by
  unfold_abbrev_sides; after_results; rfl
theorem v2_at (c : Dev nD) (i : S2048x1024.Idx) : (V m c main_v2 i : EReal) = flip (m ((c : Thread nD τ).loc main_arg1)) i := by
  unfold_abbrev_sides; after_results; unfold Prod.flip; pointwise []

def rowAt (t : Fin cfg0.N) (y : Fin 2048) : Fin 8192 := ⟨t.val / 2 * 2048 + y.val, by have := t.isLt; have hN : cfg0.N = 8 := N_0; omega⟩
def colAt (s : Fin 2) (k : Fin 1024) : Fin 2048 := tile (J := 2) (T := 1024) rfl s k

theorem emb0 (t : Fin cfg0.N) (s : Fin 2) (y : Fin 2048) (k : Fin 1024) :
    ((cfg0.win 0).blk (pt t s)).view.emb (ix2 y k) = ix2 (rowAt t y) (colAt s k) := by
  blk_ext [index0, pt, rowAt, colAt, tile]
theorem emb1 (t : Fin cfg0.N) (s : Fin 2) (k x : Fin 1024) :
    ((cfg0.win 1).blk (pt t s)).view.emb (ix2 k x) = ix2 (colAt s k) x := by
  blk_ext [index1, pt, colAt, tile]

theorem blk0_at (c : Dev nD) (t : Fin cfg0.N) (s : Fin 2) (y : Fin 2048) (k : Fin 1024) :
    ((iblk m c 0 (pt t s) : Vec Ideal S2048x1024 .bf16) (ix2 y k) : EReal) = m ((c : Thread nD τ).loc main_arg0) (ix2 (rowAt t y) (colAt s k)) := by
  blk_simp [iblk]; rw [emb0]; exact v0_at m c _
theorem blk1_at (c : Dev nD) (t : Fin cfg0.N) (s : Fin 2) (k x : Fin 1024) :
    ((iblk m c 1 (pt t s) : Vec Ideal S1024x1024 .bf16) (ix2 k x) : EReal) = flip (m ((c : Thread nD τ).loc main_arg1)) (ix2 (colAt s k) x) := by
  blk_simp [iblk]; rw [emb1]; exact v2_at m c _

/-- The result. -/
def grad (c : Dev nD) : Buf (Elt Ideal) ((c : Thread nD τ).loc main_v3) :=
  mm (m ((c : Thread nD τ).loc main_arg0)) (flip (m ((c : Thread nD τ).loc main_arg1)))

theorem final (c : Dev nD) : (dats m 0 c).arrAt 2 cfg0.N = grad m c := by
  refine (dats m 0 c).arrAt_eq_of_covers 2 _ (by decide +kernel) fun t hf y => ?_
  blk_simp
  rw [after0_2]
  have ht := (flush0_2 t).mp hf
  refine (out_at m c t ht y).trans ((scratch_sum m c t ht y).trans ?_)
  rw [show ((cfg0.win 2).blk t).view.emb y = ix2 (rowAt t (y 0)) (y 1) from by blk_ext [index2, rowAt]]
  exact mm_of_blocks (J := 2) (T := 1024) rfl _ _ _ _ y _ _ (fun s k => blk0_at m c t s (y 0) k) (fun s k => blk1_at m c t s k (y 1))

/-- The reference's term. -/
theorem ref_eq (A : Vec Ideal S8192x2048 .f32) (B : Vec Ideal S1024x2048 .f32) :
    Host.dotGeneral (F := Ideal) (φ₁ := .f32) (φ₂ := .f32) Cert.Reference7Ideal.dot_S8192x2048_S1024x2048_S8192x1024_1_1_0_0_n_n none A B
      = (mm A (flip B) : Vec Ideal S8192x1024 .f32) := by
  funext i
  unfold mm Prod.flip
  pointwise []

theorem algebraic : Cert.algebraic_Kernel7Ideal_Reference7Ideal
    (hKernel7Ideal := Cert.Kernel7Ideal.Gen.facts) (hReference7Ideal := Cert.Reference7Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference7Ideal.Value.run (F := Ideal) m' g')
    rw [(harg c).1, (harg c).2]
    exact ref_eq _ _

end Cert.Proof.Gate

end
-- ==== Proof.DzGate.lean ====
module

public import proofs.«01_k».proof.Defs
public import proofs.«01_k».proof.Proof.Close
public import proofs.«01_k».proof.Proof.Product
public import proofs.«01_k».proof.Proof.Gen.Kernel8Ideal.Value
public import proofs.«01_k».proof.Proof.Gen.Reference8Ideal.Run

@[expose] public section

set_option maxRecDepth 16384

noncomputable section

/-! The gradients of a mixer's gate: `dz = dx · wᵀ`, block by block, and from it the gradients of the gate, of the gated rows
    and, summed over the rows, of the scale. -/

namespace Cert.Proof.DzGate

open Cert.Proof.Prod
open Idealize.SL.Sem Idealize.ShloMosaic Idealize.ShloMosaic.Tactic

/-! ## One element -/

/-- The logistic function. -/
def sg (g : EReal) : EReal := Ideal.div 1 (1 + Ideal.exp (-g))
/-- The gate's gradient, the gated row's and one row's share of the scale's. -/
def gateAt (z y s g : EReal) : EReal := z * (y * s) * (sg g * (1 + g * (1 - sg g)))
def rowsAt (z s g : EReal) : EReal := z * (g * sg g) * s
def scaleAt (z y g : EReal) : EReal := z * (g * sg g) * y

theorem sg_top : sg ⊤ = 1 := by
  have h : Ideal.exp (⊥ : EReal) = 0 := rfl
  unfold sg; rw [EReal.neg_top, h]; simp [Ideal.div]
theorem sg_bot : sg ⊥ = 0 := by
  have h : Ideal.exp (⊤ : EReal) = ⊤ := rfl
  have h1 : (1 + ⊤ : EReal) = ⊤ := rfl
  unfold sg; rw [EReal.neg_bot, h, h1]; simp [Ideal.div]
theorem sg_real (x : ℝ) : sg (x : EReal) = ((1 + Real.exp (-x))⁻¹ : ℝ) := by
  have hx : (1 + Real.exp (-x)) ≠ 0 := by positivity
  have h : Ideal.exp (((-x : ℝ)) : EReal) = (Real.exp (-x) : EReal) := rfl
  have h1 : ((1 + Real.exp (-x) : ℝ) : EReal) ≠ 0 := by exact_mod_cast hx
  unfold sg
  rw [← EReal.coe_neg, h, ← EReal.coe_one, ← EReal.coe_add, Ideal.div, if_neg h1, EReal.coe_one, one_mul, EReal.coe_inv]

/-- The two forms of the slope agree for a finite cotangent, whatever the gate. -/
theorem slope (u : ℝ) (g : EReal) :
    (u : EReal) * (sg g * (1 + g * (1 - sg g))) = u * sg g + g * u * (sg g * (1 - sg g)) := by
  induction g using EReal.rec with
  | bot => rw [sg_bot]; simp
  | top =>
    have h : (1 - 1 : EReal) = 0 := by rw [← EReal.coe_one, ← EReal.coe_sub, sub_self, EReal.coe_zero]
    rw [sg_top, h]; simp
  | coe x =>
    rw [sg_real]
    generalize (1 + Real.exp (-x))⁻¹ = s
    have h : (1 : EReal) = ((1 : ℝ) : EReal) := rfl
    rw [h]
    simp only [← EReal.coe_sub, ← EReal.coe_mul, ← EReal.coe_add]
    congr 1
    ring

theorem gate_eq (z y s g : EReal) (hz : z = (z.toReal : EReal)) (hy : y = (y.toReal : EReal)) (hs : s = (s.toReal : EReal)) :
    y * s * z * sg g + g * (y * s * z) * (sg g * (1 - sg g)) = gateAt z y s g := by
  unfold gateAt
  rw [mul_comm z (y * s), hz, hy, hs, ← EReal.coe_mul, ← EReal.coe_mul]
  exact (slope _ g).symm

theorem mm_real {a n b : ℕ} (A : Mat a n) (B : Mat n b) (hA : ∀ i, A i = ((A i).toReal : EReal)) (hB : ∀ i, B i = ((B i).toReal : EReal))
    (i : (⟨2, ![a, b]⟩ : Shape).Idx) : mm A B i = ((mm A B i).toReal : EReal) := by
  have h : ∃ r : ℝ, mm A B i = (r : EReal) := by
    refine Finset.sum_induction _ (fun x : EReal => ∃ r : ℝ, x = r) ?_ ⟨0, rfl⟩ fun k _ => ⟨(A (ix2 (i 0) k)).toReal * (B (ix2 k (i 1))).toReal, ?_⟩
    · rintro _ _ ⟨p, rfl⟩ ⟨q, rfl⟩; exact ⟨p + q, (EReal.coe_add p q).symm⟩
    · rw [hA, hB]; exact (EReal.coe_mul _ _).symm
  obtain ⟨r, hr⟩ := h
  rw [hr, EReal.toReal_coe]

/-! ## The reference -/

section

open Cert.Reference8Ideal

theorem ref_dot (A : FVec Ideal S8192x1024 .f32) (B : FVec Ideal S2048x1024 .f32) :
    Host.dotGeneral (F := Ideal) (φ₁ := .f32) (φ₂ := .f32) dot_S8192x1024_S2048x1024_S8192x2048_1_1_0_0_n_n none A B
      = (mm A (flip B) : FVec Ideal S8192x2048 .f32) := by
  funext i
  unfold mm Prod.flip
  pointwise []

theorem ref_sg (g : FVec Ideal S8192x2048 .f32) :
    Host.divf (broadcastInDim S8192x2048 ![] Gen.facts.bcast_S_S8192x2048 (constant S_ .f32 0x3F800000#32))
      (addf (broadcastInDim S8192x2048 ![] Gen.facts.bcast_S_S8192x2048 (constant S_ .f32 0x3F800000#32)) (Host.exp (Host.negf g)))
      = ((fun i => sg (g i)) : FVec Ideal S8192x2048 .f32) := by
  funext i
  unfold sg
  pointwise []

theorem ref_scale (s : FVec Ideal S2048 .f32) :
    broadcastInDim S8192x2048 ![0, 1] Gen.facts.bcast_S1x2048_S8192x2048_0_1 (broadcastInDim S1x2048 ![1] Gen.facts.bcast_S2048_S1x2048_1 s)
      = ((fun i => s (ix1 (i 1))) : FVec Ideal S8192x2048 .f32) := by
  funext i
  pointwise []

theorem ref_sum (v : FVec Ideal S8192x2048 .f32) :
    broadcastInDim S1x2048 ![1] Gen.facts.bcast_S2048_S1x2048_1 (Host.reduceAdd (shapeCast S1x2048
      (Host.reduceAdd v (constant S_ .f32 0x00000000#32) Gen.facts.reducesTo_S8192x2048_S2048_d0 Gen.facts.h_S_) Gen.facts.shapeCasts_S2048_S1x2048)
      (constant S_ .f32 0x00000000#32) Gen.facts.reducesTo_S1x2048_S2048_d0 Gen.facts.h_S_)
      = ((fun i => ∑ r : Fin 8192, (v (ix2 r (i 1)) : EReal)) : FVec Ideal S1x2048 .f32) := by
  funext i
  pointwise []
  exact Finset.sum_const _ |>.trans (one_nsmul _)

theorem ref_gate (Z Y s g G : FVec Ideal S8192x2048 .f32) (hZ : ∀ i, (Z i : EReal) = ((Z i : EReal).toReal : EReal))
    (hY : ∀ i, (Y i : EReal) = ((Y i : EReal).toReal : EReal)) (hs : ∀ i, (s i : EReal) = ((s i : EReal).toReal : EReal)) (hG : G = fun i => sg (g i)) :
    truncf .bf16 (addf (mulf (mulf (mulf Y s) Z) G) (mulf (mulf g (mulf (mulf Y s) Z)) (mulf G
      (subf (broadcastInDim S8192x2048 ![] Gen.facts.bcast_S_S8192x2048 (constant S_ .f32 0x3F800000#32)) G)))) Gen.facts.bitsLt_bf16_f32
      = ((fun i => gateAt (Z i) (Y i) (s i) (g i)) : FVec Ideal S8192x2048 .bf16) := by
  funext i
  rw [← gate_eq _ _ _ _ (hZ i) (hY i) (hs i), hG]
  pointwise []

theorem ref_rows (Z s g G : FVec Ideal S8192x2048 .f32) (hG : G = fun i => sg (g i)) :
    truncf .bf16 (mulf (mulf Z (mulf g G)) s) Gen.facts.bitsLt_bf16_f32
      = ((fun i => rowsAt (Z i) (s i) (g i)) : FVec Ideal S8192x2048 .bf16) := by
  subst hG
  funext i
  unfold rowsAt
  pointwise []

end

/-! ## The kernel -/

open Cert.Kernel8Ideal Cert.Kernel8Ideal.Gen Idealize.ShloMosaic.TcCoe

variable (m : (ℓ : Loc nD τ sig) → Buf (Elt Ideal) ℓ)

theorem pay10_at (x w yr g : Vec Ideal S1024x1024 .bf16) (s : Vec Ideal S1x1024 .f32) (y : S1024x1024.Idx) :
    k0_pay10 x w yr g s y = (gateAt (mm x w y) (yr y) (s (ix2 0 (y 1))) (g y) : EReal) := by
  unfold gateAt sg mm
  pointwise [k0_pay10, k0_pay3, k0_pay4, k0_pay5, k0_pay6, k0_pay7]
  rw [zero_sub]
theorem pay11_at (x w g : Vec Ideal S1024x1024 .bf16) (s : Vec Ideal S1x1024 .f32) (y : S1024x1024.Idx) :
    k0_pay11 x w g s y = (rowsAt (mm x w y) (s (ix2 0 (y 1))) (g y) : EReal) := by
  unfold rowsAt sg mm
  pointwise [k0_pay11, k0_pay8, k0_pay3, k0_pay4, k0_pay6, k0_pay7]
  rw [zero_sub]
theorem pay9_at (x w yr g : Vec Ideal S1024x1024 .bf16) (y : S1024x1024.Idx) :
    k0_pay9 x w yr g y = (scaleAt (mm x w y) (yr y) (g y) : EReal) := by
  unfold scaleAt sg mm
  pointwise [k0_pay9, k0_pay8, k0_pay3, k0_pay5, k0_pay6, k0_pay7]
  rw [zero_sub]
theorem pay1_at (y : S1x1024.Idx) : (k0_pay1 : FVec Ideal S1x1024 .f32) y = (0 : EReal) := by pointwise [k0_pay1]
theorem pay2_at (v : FVec Ideal S1024x1024 .f32) (a : Vec Ideal S1x1024 .f32) (y : S1x1024.Idx) :
    k0_pay2 v a y = (a y + ∑ r, v (ix2 r (y 1)) : EReal) := by pointwise [k0_pay2]

/-- A block's column sums. -/
def colSum (c : Dev nD) (t : Fin cfg0.N) (y : S1x1024.Idx) : EReal :=
  ∑ r, (k0_pay9 (iblk m c 0 t) (iblk m c 1 t) (iblk m c 2 t) (iblk m c 3 t) (ix2 r (y 1)) : EReal)

/-- The `i`-th point of the run that ends at `t`. -/
def pt (t : Fin cfg0.N) (i : Fin 8) : Fin cfg0.N := ⟨8 * (t.val / 8) + i.val, by
  have h1 := t.isLt; have h2 := i.isLt; have hN : cfg0.N = 16 := N_0; omega⟩

theorem scale_sum (c : Dev nD) (t : Fin cfg0.N) (ht : t.val % 8 = 7) (y : S1x1024.Idx) :
    ((outsAt0 m c t.val t.isLt).2.2 y : EReal) = ∑ i : Fin 8, colSum m c (pt t i) y := by
  rw [Pipeline.eq_sum_fin_of_reset_step_apply_of_flush (M := EReal) (fun n h => (outsAt0 m c n h).2.2) 8 (fun _ => 0)
    (fun t => colSum m c t) (fun t h y => ?_) (fun t h y => ?_) t ht y, zero_add]
  · rfl
  · rw [outsAt0_A m c t h]; frame_out
    rw [pay2_at, pay1_at]; rfl
  · rw [outsAt0_B m c t h]; frame_out
    rw [pay2_at]; rfl

theorem gate_out (c : Dev nD) (t : Fin cfg0.N) :
    (outsAt0 m c t.val t.isLt).1 = k0_pay10 (iblk m c 0 t) (iblk m c 1 t) (iblk m c 2 t) (iblk m c 3 t) (iblk m c 4 t) := by
  by_cases h : t.val % 8 = 0
  · rw [outsAt0_A m c t h]; frame_out
  · rw [outsAt0_B m c t h]; frame_out
theorem rows_out (c : Dev nD) (t : Fin cfg0.N) :
    (outsAt0 m c t.val t.isLt).2.1 = k0_pay11 (iblk m c 0 t) (iblk m c 1 t) (iblk m c 3 t) (iblk m c 4 t) := by
  by_cases h : t.val % 8 = 0
  · rw [outsAt0_A m c t h]; frame_out
  · rw [outsAt0_B m c t h]; frame_out

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)
theorem index3 : ∀ t : Fin cfg0.N, win0_3.index t = ![t.val % 8, t.val / 8] := (by decide +kernel : ∀ t : Fin grid0.N, _)
theorem index4 : ∀ t : Fin cfg0.N, win0_4.index t = ![0, t.val / 8] := (by decide +kernel : ∀ t : Fin grid0.N, _)
theorem index5 : ∀ t : Fin cfg0.N, win0_5.index t = ![t.val % 8, t.val / 8] := (by decide +kernel : ∀ t : Fin grid0.N, _)
theorem index6 : ∀ t : Fin cfg0.N, win0_6.index t = ![t.val % 8, t.val / 8] := (by decide +kernel : ∀ t : Fin grid0.N, _)
theorem index7 : ∀ t : Fin cfg0.N, win0_7.index t = ![0, t.val / 8] := (by decide +kernel : ∀ t : Fin grid0.N, _)

theorem v0_at (c : Dev nD) (i : S8192x1024.Idx) : (V m c main_v0 i : EReal) = m ((c : Thread nD τ).loc main_arg0) i := by
  unfold_abbrev_sides; after_results; rfl
theorem v2_at (c : Dev nD) (i : S1024x2048.Idx) : (V m c main_v2 i : EReal) = flip (m ((c : Thread nD τ).loc main_arg1)) i := by
  unfold_abbrev_sides; after_results; unfold Prod.flip; pointwise []
theorem v3_at (c : Dev nD) (i : S8192x2048.Idx) : (V m c main_v3 i : EReal) = m ((c : Thread nD τ).loc main_arg2) i := by
  unfold_abbrev_sides; after_results; rfl
theorem v4_at (c : Dev nD) (i : S8192x2048.Idx) : (V m c main_v4 i : EReal) = m ((c : Thread nD τ).loc main_arg3) i := by
  unfold_abbrev_sides; after_results; rfl
/-- The scale, by column. -/
def scale (c : Dev nD) (k : Fin 2048) : EReal := m ((c : Thread nD τ).loc main_arg4) (ix1 k)
theorem v5_at (c : Dev nD) (k : Fin 2048) : (V m c main_v5 (ix2 0 k) : EReal) = scale m c k := by
  unfold_abbrev_sides; after_results; unfold scale; pointwise []

def rowAt (t : Fin cfg0.N) (y : Fin 1024) : Fin 8192 := ⟨t.val % 8 * 1024 + y.val, by omega⟩
def colAt (t : Fin cfg0.N) (x : Fin 1024) : Fin 2048 := ⟨t.val / 8 * 1024 + x.val, by have := t.isLt; have hN : cfg0.N = 16 := N_0; omega⟩

theorem emb0 (t : Fin cfg0.N) (y k : Fin 1024) : ((cfg0.win 0).blk t).view.emb (ix2 y k) = ix2 (rowAt t y) k := by
  blk_ext [index0, rowAt]
theorem emb1 (t : Fin cfg0.N) (k x : Fin 1024) : ((cfg0.win 1).blk t).view.emb (ix2 k x) = ix2 k (colAt t x) := by
  blk_ext [index1, colAt]
theorem emb2 (t : Fin cfg0.N) (y x : Fin 1024) : ((cfg0.win 2).blk t).view.emb (ix2 y x) = ix2 (rowAt t y) (colAt t x) := by
  blk_ext [index2, rowAt, colAt]
theorem emb3 (t : Fin cfg0.N) (y x : Fin 1024) : ((cfg0.win 3).blk t).view.emb (ix2 y x) = ix2 (rowAt t y) (colAt t x) := by
  blk_ext [index3, rowAt, colAt]
theorem emb4 (t : Fin cfg0.N) (x : Fin 1024) : ((cfg0.win 4).blk t).view.emb (ix2 0 x) = ix2 0 (colAt t x) := by
  blk_ext [index4, colAt]

theorem blk0_at (c : Dev nD) (t : Fin cfg0.N) (y k : Fin 1024) :
    ((iblk m c 0 t : Vec Ideal S1024x1024 .bf16) (ix2 y k) : EReal) = m ((c : Thread nD τ).loc main_arg0) (ix2 (rowAt t y) k) := by
  blk_simp [iblk]; rw [emb0]; exact v0_at m c _
theorem blk1_at (c : Dev nD) (t : Fin cfg0.N) (k x : Fin 1024) :
    ((iblk m c 1 t : Vec Ideal S1024x1024 .bf16) (ix2 k x) : EReal) = flip (m ((c : Thread nD τ).loc main_arg1)) (ix2 k (colAt t x)) := by
  blk_simp [iblk]; rw [emb1]; exact v2_at m c _
theorem blk2_at (c : Dev nD) (t : Fin cfg0.N) (y x : Fin 1024) :
    ((iblk m c 2 t : Vec Ideal S1024x1024 .bf16) (ix2 y x) : EReal) = m ((c : Thread nD τ).loc main_arg2) (ix2 (rowAt t y) (colAt t x)) := by
  blk_simp [iblk]; rw [emb2]; exact v3_at m c _
theorem blk3_at (c : Dev nD) (t : Fin cfg0.N) (y x : Fin 1024) :
    ((iblk m c 3 t : Vec Ideal S1024x1024 .bf16) (ix2 y x) : EReal) = m ((c : Thread nD τ).loc main_arg3) (ix2 (rowAt t y) (colAt t x)) := by
  blk_simp [iblk]; rw [emb3]; exact v4_at m c _
theorem blk4_at (c : Dev nD) (t : Fin cfg0.N) (x : Fin 1024) :
    ((iblk m c 4 t : Vec Ideal S1x1024 .f32) (ix2 0 x) : EReal) = scale m c (colAt t x) := by
  blk_simp [iblk]; rw [emb4]; exact v5_at m c _

/-- The product, and its blocks. -/
def dz (c : Dev nD) : Mat 8192 2048 := mm (m ((c : Thread nD τ).loc main_arg0)) (flip (m ((c : Thread nD τ).loc main_arg1)))

theorem dz_blk (c : Dev nD) (t : Fin cfg0.N) (y x : Fin 1024) :
    mm (iblk m c 0 t : Vec Ideal S1024x1024 .bf16) (iblk m c 1 t : Vec Ideal S1024x1024 .bf16) (ix2 y x) = dz m c (ix2 (rowAt t y) (colAt t x)) :=
  Finset.sum_congr rfl fun k _ => congrArg₂ (fun a b : EReal => a * b) (blk0_at m c t y k) (blk1_at m c t k x)

/-- The three results. -/
def dgate (c : Dev nD) : Buf (Elt Ideal) ((c : Thread nD τ).loc main_v6_0) := fun i : S8192x2048.Idx =>
  gateAt (dz m c i) (m ((c : Thread nD τ).loc main_arg2) i) (scale m c (i 1)) (m ((c : Thread nD τ).loc main_arg3) i)
def drows (c : Dev nD) : Buf (Elt Ideal) ((c : Thread nD τ).loc main_v6_1) := fun i : S8192x2048.Idx =>
  rowsAt (dz m c i) (scale m c (i 1)) (m ((c : Thread nD τ).loc main_arg3) i)
def share (c : Dev nD) : Mat 8192 2048 := fun i =>
  scaleAt (dz m c i) (m ((c : Thread nD τ).loc main_arg2) i) (m ((c : Thread nD τ).loc main_arg3) i)
def dscale (c : Dev nD) : Buf (Elt Ideal) ((c : Thread nD τ).loc main_v6_2) := fun i : S1x2048.Idx =>
  (∑ r : Fin 8192, share m c (ix2 r (i 1)) : EReal)

theorem gate_blk (c : Dev nD) (t : Fin cfg0.N) (y x : Fin 1024) :
    ((outsAt0 m c t.val t.isLt).1 (ix2 y x) : EReal) = dgate m c (ix2 (rowAt t y) (colAt t x)) := by
  rw [gate_out]
  refine (pay10_at _ _ _ _ _ _).trans ?_
  rw [dz_blk]
  exact congr (congr (congrArg _ (blk2_at m c t y x)) (blk4_at m c t x)) (blk3_at m c t y x)

theorem rows_blk (c : Dev nD) (t : Fin cfg0.N) (y x : Fin 1024) :
    ((outsAt0 m c t.val t.isLt).2.1 (ix2 y x) : EReal) = drows m c (ix2 (rowAt t y) (colAt t x)) := by
  rw [rows_out]
  refine (pay11_at _ _ _ _ _).trans ?_
  rw [dz_blk]
  exact congrArg₂ _ (blk4_at m c t x) (blk3_at m c t y x)

theorem colSum_blk (c : Dev nD) (t : Fin cfg0.N) (i : Fin 8) (y : S1x1024.Idx) :
    colSum m c (pt t i) y = ∑ r : Fin 1024, share m c (ix2 (tile (J := 8) (T := 1024) rfl i r) (colAt t (y 1))) := by
  refine Finset.sum_congr rfl fun r _ => ?_
  have hi := i.isLt
  have e0 : rowAt (pt t i) r = tile (J := 8) (T := 1024) rfl i r := by
    apply Fin.ext; show (8 * (t.val / 8) + i.val) % 8 * 1024 + r.val = i.val * 1024 + r.val; omega
  have e1 : colAt (pt t i) (y 1) = colAt t (y 1) := by
    apply Fin.ext; show (8 * (t.val / 8) + i.val) / 8 * 1024 + (y 1).val = t.val / 8 * 1024 + (y 1).val; omega
  refine (pay9_at _ _ _ _ _).trans ?_
  rw [← e0, ← e1]
  refine congr (congrArg₂ scaleAt (dz_blk m c (pt t i) r (y 1)) (blk2_at m c _ r _)) (blk3_at m c _ r _)

theorem final5 (c : Dev nD) : (dats m 0 c).arrAt 5 cfg0.N = dgate m c := by
  refine (dats m 0 c).arrAt_eq_of_covers 5 _ (by decide +kernel) fun t hf y => ?_
  blk_simp
  rw [after0_5, show ((cfg0.win 5).blk t).view.emb y = ix2 (rowAt t (y 0)) (colAt t (y 1)) from by blk_ext [index5, rowAt, colAt]]
  have hy : ix2 (y 0) (y 1) = y := by ext a; fin_cases a <;> rfl
  exact (congrArg _ hy.symm).trans (gate_blk m c t (y 0) (y 1))

theorem final6 (c : Dev nD) : (dats m 0 c).arrAt 6 cfg0.N = drows m c := by
  refine (dats m 0 c).arrAt_eq_of_covers 6 _ (by decide +kernel) fun t hf y => ?_
  blk_simp
  rw [after0_6, show ((cfg0.win 6).blk t).view.emb y = ix2 (rowAt t (y 0)) (colAt t (y 1)) from by blk_ext [index6, rowAt, colAt]]
  have hy : ix2 (y 0) (y 1) = y := by ext a; fin_cases a <;> rfl
  exact (congrArg _ hy.symm).trans (rows_blk m c t (y 0) (y 1))

theorem final7 (c : Dev nD) : (dats m 0 c).arrAt 7 cfg0.N = dscale m c := by
  refine (dats m 0 c).arrAt_eq_of_covers 7 _ (by decide +kernel) fun t hf y => ?_
  blk_simp
  rw [after0_7, show ((cfg0.win 7).blk t).view.emb y = ix2 (y 0) (colAt t (y 1)) from by blk_ext [index7, colAt]]
  refine (scale_sum m c t ((flush0_7 t).mp hf) y).trans ?_
  refine (Finset.sum_congr rfl fun i _ => colSum_blk m c t i y).trans ?_
  exact (sum_tiles (J := 8) (T := 1024) rfl fun r => share m c (ix2 r (colAt t (y 1)))).symm

/-! ## The claim -/

instance finiteFacts : Cert.Pre_finite8.Facts where
  bcast_S_S8192x1024 := by decide
  bcast_S_S2048x1024 := by decide
  bcast_S_S8192x2048 := by decide
  bcast_S_S2048 := by decide

theorem algebraic : Cert.algebraic_Kernel8Ideal_Reference8Ideal_pre_finite8
    (hKernel8Ideal := Cert.Kernel8Ideal.Gen.facts) (hReference8Ideal := Cert.Reference8Ideal.Gen.facts) (hPre_finite8 := finiteFacts) := by
  intro m g m' g' hp harg
  refine ⟨dgate m, drows m, dscale m, ?_, ?_⟩
  · exact (θ_run _ _ _).mono (fun r h c => ⟨(h c).1.trans (final5 m c), (h c).2.1.trans (final6 m c), (h c).2.2.1.trans (final7 m c), (h c).2.2.2⟩)
      (Value.run_blocks (F := Ideal) m g)
  · refine (θ_run _ _ _).mono (fun r h c => ?_) (Cert.Reference8Ideal.Value.run (F := Ideal) m' g')
    obtain ⟨p0, p1, p2, p4⟩ := hp c
    have f0 := Att.real_of_lane _ _ p0
    have f1 := Att.real_of_lane _ _ p1
    have f2 := Att.real_of_lane _ _ p2
    have f4 := Att.real_of_lane _ _ p4
    obtain ⟨h0, h1, h2, h⟩ := h c
    obtain ⟨a0, a1, a2, a3, a4⟩ := harg c
    refine ⟨h0.trans ?_, h1.trans ?_, h2.trans ?_, h⟩
    · rw [a0, a1, a2, a3, a4, ref_dot, ref_scale]
      exact ref_gate _ _ _ _ _ (mm_real _ _ f0 fun i => f1 _) f2 (fun i => f4 _) (ref_sg _)
    · rw [a0, a1, a3, a4, ref_dot, ref_scale]
      exact ref_rows _ _ _ _ (ref_sg _)
    · rw [a0, a1, a2, a3, ref_dot, ref_sum, ref_sg]
      funext i
      refine Finset.sum_congr rfl fun r _ => ?_
      show (_ : EReal) * _ = _
      rw [mul_comm]
      rfl

end Cert.Proof.DzGate

end
-- ==== Proof.OutNorm.lean ====
module

public import proofs.«01_k».proof.Defs
public import proofs.«01_k».proof.Proof.Product
public import proofs.«01_k».proof.Proof.Gen.Kernel9Ideal.Value
public import proofs.«01_k».proof.Proof.Gen.Reference9Ideal.Run

@[expose] public section

set_option maxRecDepth 16384

noncomputable section

/-! A mixer's output projection with the residual added, and the rms norm of the sum, one product per block of rows. -/

namespace Cert.Proof.OutNorm

open Cert.Proof.Prod
open Idealize.SL.Sem Idealize.ShloMosaic Idealize.ShloMosaic.Tactic

/-- One over the root of the mean of 1024 squares whose sum is `s`. -/
def inv (s : EReal) : EReal :=
  Ideal.rsqrt (Ideal.div s (Ideal.ofBits FTy.f32 1149239296#32) + Ideal.ofBits FTy.f32 925353388#32)
/-- Each row over its root mean square, times the gain. -/
def nrm {a : ℕ} (v : Mat a 1024) (g : Fin 1024 → EReal) : Mat a 1024 := fun i =>
  v i * inv (∑ x, v (ix2 (i 0) x) * v (ix2 (i 0) x)) * g (i 1)
/-- `x + z · w`. -/
def plus {a b n : ℕ} (x : Mat a b) (z : Mat a n) (w : Mat n b) : Mat a b := fun i => x i + mm z w i

section

open Cert.Reference9Ideal

/-- The reference's terms. -/
theorem ref_sum (x : FVec Ideal S8192x1024 .f32) (z : FVec Ideal S8192x2048 .f32) (w : FVec Ideal S2048x1024 .f32) :
    addf x (Host.dotGeneral (F := Ideal) (φ₁ := .f32) (φ₂ := .f32) dot_S8192x2048_S2048x1024_S8192x1024_1_0_0_1_n_n none z w)
      = (plus x z w : FVec Ideal S8192x1024 .f32) := by
  funext i
  unfold plus mm
  pointwise []

theorem ref_norm (v : FVec Ideal S8192x1024 .f32) (g : FVec Ideal S1024 .f32) :
    truncf .bf16 (mulf (mulf v (broadcastInDim S8192x1024 ![0, 1] Gen.facts.bcast_S8192x1_S8192x1024_0_1
      (Host.rsqrt (addf (Host.divf (broadcastInDim S8192x1 ![0] Gen.facts.bcast_S8192_S8192x1_0
          (Host.reduceAdd (mulf v v) (constant S_ .f32 0x00000000#32) Gen.facts.reducesTo_S8192x1024_S8192_d1 Gen.facts.h_S_))
        (broadcastInDim S8192x1 ![] Gen.facts.bcast_S_S8192x1 (constant S_ .f32 0x44800000#32)))
        (broadcastInDim S8192x1 ![] Gen.facts.bcast_S_S8192x1 (constant S_ .f32 0x3727C5AC#32))))))
      (broadcastInDim S8192x1024 ![0, 1] Gen.facts.bcast_S1x1024_S8192x1024_0_1
        (broadcastInDim S1x1024 ![1] Gen.facts.bcast_S1024_S1x1024_1 g))) Gen.facts.bitsLt_bf16_f32
      = (nrm v (fun k => g (ix1 k)) : FVec Ideal S8192x1024 .bf16) := by
  funext i
  unfold nrm inv
  pointwise []

end

open Cert.Kernel9Ideal Cert.Kernel9Ideal.Gen Idealize.ShloMosaic.TcCoe

variable (m : (ℓ : Loc nD τ sig) → Buf (Elt Ideal) ℓ)

theorem pay1_at (x : Vec Ideal S512x1024 .f32) (z : Vec Ideal S512x2048 .bf16) (w : Vec Ideal S2048x1024 .bf16) (y : S512x1024.Idx) :
    k0_pay1 x z w y = (plus x z w y : EReal) := by unfold plus mm; pointwise [k0_pay1]

theorem pay2_at (x : Vec Ideal S512x1024 .f32) (z : Vec Ideal S512x2048 .bf16) (w : Vec Ideal S2048x1024 .bf16)
    (g : Vec Ideal S1x1024 .f32) (y : S512x1024.Idx) :
    k0_pay2 x z w g y = (nrm (plus x z w) (fun k => g (ix2 0 k)) y : EReal) := by
  rw [← show (k0_pay1 x z w : Mat 512 1024) = plus x z w from funext (pay1_at x z w)]
  generalize hv : k0_pay1 x z w = v
  unfold nrm inv
  pointwise [k0_pay2, hv]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem v0_at (c : Dev nD) (i : S8192x2048.Idx) : (V m c main_v0 i : EReal) = m ((c : Thread nD τ).loc main_arg0) i := by
  unfold_abbrev_sides; after_results; rfl
theorem v1_at (c : Dev nD) (i : S2048x1024.Idx) : (V m c main_v1 i : EReal) = m ((c : Thread nD τ).loc main_arg1) i := by
  unfold_abbrev_sides; after_results; rfl
theorem arg2_at (c : Dev nD) (i : S8192x1024.Idx) : (V m c main_arg2 i : EReal) = m ((c : Thread nD τ).loc main_arg2) i := by
  unfold_abbrev_sides; after_results
/-- The gain, by column. -/
def gain (c : Dev nD) (k : Fin 1024) : EReal := m ((c : Thread nD τ).loc main_arg3) (ix1 k)
theorem v2_at (c : Dev nD) (k : Fin 1024) : (V m c main_v2 (ix2 0 k) : EReal) = gain m c k := by
  unfold_abbrev_sides; after_results; unfold gain; pointwise []

def rowAt (t : Fin cfg0.N) (y : Fin 512) : Fin 8192 := ⟨t.val * 512 + y.val, by have := t.isLt; have hN : cfg0.N = 16 := N_0; omega⟩

theorem emb0 (t : Fin cfg0.N) (y : Fin 512) (k : Fin 2048) : ((cfg0.win 0).blk t).view.emb (ix2 y k) = ix2 (rowAt t y) k := by
  blk_ext [index0, rowAt]
theorem emb1 (t : Fin cfg0.N) (k : Fin 2048) (x : Fin 1024) : ((cfg0.win 1).blk t).view.emb (ix2 k x) = ix2 k x := by
  blk_ext [index1]
theorem emb2 (t : Fin cfg0.N) (y : Fin 512) (x : Fin 1024) : ((cfg0.win 2).blk t).view.emb (ix2 y x) = ix2 (rowAt t y) x := by
  blk_ext [index2, rowAt]
theorem emb3 (t : Fin cfg0.N) (x : Fin 1024) : ((cfg0.win 3).blk t).view.emb (ix2 0 x) = ix2 0 x := by
  blk_ext [index3]

theorem blk0_at (c : Dev nD) (t : Fin cfg0.N) (y : Fin 512) (k : Fin 2048) :
    ((iblk m c 0 t : Vec Ideal S512x2048 .bf16) (ix2 y k) : EReal) = m ((c : Thread nD τ).loc main_arg0) (ix2 (rowAt t y) k) := by
  blk_simp [iblk]; rw [emb0]; exact v0_at m c _
theorem blk1_at (c : Dev nD) (t : Fin cfg0.N) (k : Fin 2048) (x : Fin 1024) :
    ((iblk m c 1 t : Vec Ideal S2048x1024 .bf16) (ix2 k x) : EReal) = m ((c : Thread nD τ).loc main_arg1) (ix2 k x) := by
  blk_simp [iblk]; rw [emb1]; exact v1_at m c _
theorem blk2_at (c : Dev nD) (t : Fin cfg0.N) (y : Fin 512) (x : Fin 1024) :
    ((iblk m c 2 t : Vec Ideal S512x1024 .f32) (ix2 y x) : EReal) = m ((c : Thread nD τ).loc main_arg2) (ix2 (rowAt t y) x) := by
  blk_simp [iblk]; rw [emb2]; exact arg2_at m c _
theorem blk3_at (c : Dev nD) (t : Fin cfg0.N) (x : Fin 1024) :
    ((iblk m c 3 t : Vec Ideal S1x1024 .f32) (ix2 0 x) : EReal) = gain m c x := by
  blk_simp [iblk]; rw [emb3]; exact v2_at m c _

/-- The two results: the sum, and its norm. -/
def sum (c : Dev nD) : Buf (Elt Ideal) ((c : Thread nD τ).loc main_v3_0) :=
  plus (m ((c : Thread nD τ).loc main_arg2)) (m ((c : Thread nD τ).loc main_arg0)) (m ((c : Thread nD τ).loc main_arg1))
def normed (c : Dev nD) : Buf (Elt Ideal) ((c : Thread nD τ).loc main_v3_1) := nrm (sum m c) (gain m c)

theorem plus_blk (c : Dev nD) (t : Fin cfg0.N) (y : Fin 512) (x : Fin 1024) :
    plus (iblk m c 2 t : Vec Ideal S512x1024 .f32) (iblk m c 0 t : Vec Ideal S512x2048 .bf16) (iblk m c 1 t : Vec Ideal S2048x1024 .bf16) (ix2 y x)
      = (sum m c (ix2 (rowAt t y) x) : EReal) :=
  congrArg₂ (fun a b : EReal => a + b) (blk2_at m c t y x) <|
    Finset.sum_congr rfl fun k _ => congrArg₂ (fun a b : EReal => a * b) (blk0_at m c t y k) (blk1_at m c t k x)

theorem final4 (c : Dev nD) : (dats m 0 c).arrAt 4 cfg0.N = sum m c := by
  refine (dats m 0 c).arrAt_eq_of_covers 4 _ (by decide +kernel) fun t hf y => ?_
  blk_simp
  rw [after0_4]; frame_out
  rw [show ((cfg0.win 4).blk t).view.emb y = ix2 (rowAt t (y 0)) (y 1) from by blk_ext [index4, rowAt]]
  have hy : ix2 (y 0) (y 1) = y := by ext a; fin_cases a <;> rfl
  refine (pay1_at _ _ _ y).trans ((congrArg _ hy.symm).trans (plus_blk m c t (y 0) (y 1)))

theorem final5 (c : Dev nD) : (dats m 0 c).arrAt 5 cfg0.N = normed m c := by
  refine (dats m 0 c).arrAt_eq_of_covers 5 _ (by decide +kernel) fun t hf y => ?_
  blk_simp
  rw [after0_5]; frame_out
  rw [show ((cfg0.win 5).blk t).view.emb y = ix2 (rowAt t (y 0)) (y 1) from by blk_ext [index5, rowAt]]
  refine (pay2_at _ _ _ _ y).trans ?_
  have hy : ix2 (y 0) (y 1) = y := by ext a; fin_cases a <;> rfl
  have h := plus_blk m c t
  unfold normed nrm
  refine congrArg₂ (fun a b : EReal => a * b) (congrArg₂ (fun a b : EReal => a * b) ?_ (congrArg inv ?_)) (blk3_at m c t (y 1))
  · rw [← hy]; exact h (y 0) (y 1)
  · exact Finset.sum_congr rfl fun x _ => congrArg₂ (fun a b : EReal => a * b) (h (y 0) x) (h (y 0) x)

theorem algebraic : Cert.algebraic_Kernel9Ideal_Reference9Ideal
    (hKernel9Ideal := Cert.Kernel9Ideal.Gen.facts) (hReference9Ideal := Cert.Reference9Ideal.Gen.facts) := by
  intro m g m' g' _ harg
  refine ⟨sum m, normed m, ?_, ?_⟩
  · exact (θ_run _ _ _).mono (fun r h c => ⟨(h c).1.trans (final4 m c), (h c).2.1.trans (final5 m c), (h c).2.2⟩) (Value.run_blocks (F := Ideal) m g)
  · refine (θ_run _ _ _).mono (fun r h c => ⟨(h c).1.trans ?_, (h c).2.1.trans ?_, (h c).2.2⟩) (Cert.Reference9Ideal.Value.run (F := Ideal) m' g')
    · rw [(harg c).1, (harg c).2.1, (harg c).2.2.1]
      exact ref_sum _ _ _
    · rw [(harg c).1, (harg c).2.1, (harg c).2.2.1, (harg c).2.2.2, ref_sum]
      exact ref_norm _ _

end Cert.Proof.OutNorm

end
-- ==== Proof.Cat4.lean ====
module

public import proofs.«01_k».proof.Defs
public import proofs.«01_k».proof.Proof.Product
public import proofs.«01_k».proof.Proof.Gen.Kernel10Ideal.Value
public import proofs.«01_k».proof.Proof.Gen.Reference10Ideal.Run
public import Idealize.ShloMosaic.Lib.KernelVsHost

@[expose] public section

set_option maxRecDepth 16384

noncomputable section

/-! The input gradient of a projection whose output is split in four parts of different widths: the parts, each in its own
    columns, times `wᵀ`, over ten blocks of columns. -/

namespace Cert.Proof.Cat4

open Cert.Proof.Prod
open Idealize.SL.Sem Idealize.ShloMosaic Idealize.ShloMosaic.Tactic

/-- An array in the columns from `lo` on, nothing elsewhere. -/
def cols {a w : ℕ} (n lo : ℕ) (P : Mat a w) : Mat a n := fun i =>
  if h : lo ≤ (i 1).val ∧ (i 1).val - lo < w then P (ix2 (i 0) ⟨(i 1).val - lo, h.2⟩) else 0

theorem cols_in {a w n lo : ℕ} (P : Mat a w) (p : Fin a) (q : Fin n) (k : Fin w) (h : q.val = lo + k.val) :
    cols n lo P (ix2 p q) = P (ix2 p k) := by
  have hk : q.val - lo = k.val := by omega
  have hc : lo ≤ q.val ∧ q.val - lo < w := ⟨by omega, by rw [hk]; exact k.isLt⟩
  refine (dif_pos hc).trans (congrArg P (congrArg (ix2 p) (Fin.ext hk)))

theorem cols_out {a w n lo : ℕ} (P : Mat a w) (p : Fin a) (q : Fin n) (h : q.val < lo ∨ lo + w ≤ q.val) :
    cols n lo P (ix2 p q) = 0 := by
  have hc : ¬(lo ≤ q.val ∧ q.val - lo < w) := by omega
  exact dif_neg hc

/-- The reference's padding by zeros. -/
theorem pad_cols {a w n lo hi : ℕ} (P : FVec Ideal ⟨2, ![a, w]⟩ .f32) (h : Shape.Pads ⟨2, ![a, w]⟩ ![0, lo] ![0, hi] ![0, 0] ⟨2, ![a, n]⟩)
    (hu : 0 < (⟨0, ![]⟩ : Shape).numel) :
    pad ⟨2, ![a, n]⟩ ![0, lo] ![0, hi] ![0, 0] P (constant (F := Ideal) ⟨0, ![]⟩ .f32 0x00000000#32) h hu = (cols n lo P : FVec Ideal ⟨2, ![a, n]⟩ .f32) := by
  funext i
  by_cases hc : lo ≤ (i 1).val ∧ (i 1).val - lo < w
  · have e : cols n lo P i = P (ix2 (i 0) ⟨(i 1).val - lo, hc.2⟩) := dif_pos hc
    refine (pad_apply_of_inside _ _ _ _ _ h hu i (ix2 (i 0) ⟨(i 1).val - lo, hc.2⟩) (fun b => ?_)).trans e.symm
    fin_cases b
    · show (i 0).val = 0 + (i 0).val * 1; omega
    · show (i 1).val = lo + ((i 1).val - lo) * 1; omega
  · refine (pad_apply_of_not_inside _ _ _ _ _ h hu i 1 ?_).trans (Eq.trans ?_ (dif_neg hc).symm)
    · show ¬(lo ≤ (i 1).val ∧ ((i 1).val - lo) % 1 = 0 ∧ ((i 1).val - lo) / 1 < w)
      rw [Nat.div_one]; exact fun hh => hc ⟨hh.1, hh.2.2⟩
    · pointwise []

/-- The four parts. -/
def joined {a : ℕ} (A : Mat a 2048) (B C : Mat a 512) (D : Mat a 2048) : Mat a 5120 := fun i =>
  cols 5120 3072 D i + cols 5120 2560 C i + cols 5120 2048 B i + cols 5120 0 A i

section

open Cert.Reference10Ideal

/-- The reference's term. -/
theorem ref_eq (A : FVec Ideal S8192x2048 .f32) (B C : FVec Ideal S8192x512 .f32) (D : FVec Ideal S8192x2048 .f32)
    (W : FVec Ideal S1024x5120 .f32) :
    Host.dotGeneral (F := Ideal) (φ₁ := .f32) (φ₂ := .f32) dot_S8192x5120_S1024x5120_S8192x1024_1_1_0_0_n_n none
      (addf (addf (addf
        (pad S8192x5120 ![0, 3072] ![0, 0] ![0, 0] D (constant S_ .f32 0x00000000#32) Gen.facts.pads_S8192x2048_S8192x5120_000_307200 Gen.facts.h_S_)
        (pad S8192x5120 ![0, 2560] ![0, 2048] ![0, 0] C (constant S_ .f32 0x00000000#32) Gen.facts.pads_S8192x512_S8192x5120_000_256020480 Gen.facts.h_S_))
        (pad S8192x5120 ![0, 2048] ![0, 2560] ![0, 0] B (constant S_ .f32 0x00000000#32) Gen.facts.pads_S8192x512_S8192x5120_000_204825600 Gen.facts.h_S_))
        (pad S8192x5120 ![0, 0] ![0, 3072] ![0, 0] A (constant S_ .f32 0x00000000#32) Gen.facts.pads_S8192x2048_S8192x5120_000_030720 Gen.facts.h_S_)) W
      = (mm (joined A B C D) (flip W) : FVec Ideal S8192x1024 .f32) := by
  rw [pad_cols D, pad_cols C, pad_cols B, pad_cols A]
  funext i
  unfold mm Prod.flip joined
  pointwise []

end

open Cert.Kernel10Ideal Cert.Kernel10Ideal.Gen Idealize.ShloMosaic.TcCoe

variable (m : (ℓ : Loc nD τ sig) → Buf (Elt Ideal) ℓ)

theorem zero_at (y : S1024x1024.Idx) : (k0_pay1 : FVec Ideal S1024x1024 .f32) y = (0 : EReal) := by pointwise [k0_pay1]
/-- The four branches store one expression. -/
theorem step_at (a : Vec Ideal S1024x1024 .f32) (x0 : Vec Ideal S1024x512 .bf16) (x1 : Vec Ideal S512x1024 .bf16) (y : S1024x1024.Idx) :
    k0_pay2 a x0 x1 y = (a y + mm x0 x1 y : EReal) := by unfold mm; pointwise [k0_pay2]

/-- The `s`-th point of the run that ends at `t`. -/
def pt (t : Fin cfg0.N) (s : Fin 10) : Fin cfg0.N := ⟨10 * (t.val / 10) + s.val, by
  have h1 := t.isLt; have h2 := s.isLt; have hN : cfg0.N = 80 := N_0; omega⟩

/-- The block of columns that a point multiplies. -/
def part (c : Dev nD) (t : Fin cfg0.N) : Mat 1024 512 :=
  if t.val % 10 ≤ 3 then (iblk m c 0 t : Vec Ideal S1024x512 .bf16) else
  if t.val % 10 = 4 then (iblk m c 1 t : Vec Ideal S1024x512 .bf16) else
  if t.val % 10 = 5 then (iblk m c 2 t : Vec Ideal S1024x512 .bf16) else (iblk m c 3 t : Vec Ideal S1024x512 .bf16)

theorem scratch_sum (c : Dev nD) (t : Fin cfg0.N) (ht : t.val % 10 = 9) (y : S1024x1024.Idx) :
    ((outsAt0 m c t.val t.isLt).2 y : EReal) = ∑ s : Fin 10, mm (part m c (pt t s)) (iblk m c 4 (pt t s)) y := by
  rw [Pipeline.eq_sum_fin_of_reset_step_apply_of_flush (M := EReal) (fun n h => (outsAt0 m c n h).2) 10 (fun _ => 0)
    (fun t => mm (part m c t) (iblk m c 4 t)) (fun t h y => ?_) (fun t h y => ?_) t ht y, zero_add]
  · rfl
  · rw [outsAt0_A m c t h (by omega) (by omega) (by omega) (by omega) (by omega)]; frame_out
    rw [step_at, zero_at, part, if_pos (by omega)]
  · unfold part
    by_cases h1 : t.val % 10 ≤ 3
    · rw [outsAt0_B m c t h h1 (by omega) (by omega) (by omega) (by omega)]; frame_out
      rw [step_at, if_pos h1]; simp only [read_unread_whole]
    · by_cases h2 : t.val % 10 = 4
      · rw [outsAt0_C m c t h h1 h2 (by omega) (by omega) (by omega)]; frame_out
        refine (step_at _ _ _ _).trans ?_
        rw [if_neg h1, if_pos h2]; simp only [read_unread_whole]
      · by_cases h3 : t.val % 10 = 5
        · rw [outsAt0_D m c t h h1 h2 h3 (by omega) (by omega)]; frame_out
          refine (step_at _ _ _ _).trans ?_
          rw [if_neg h1, if_neg h2, if_pos h3]; simp only [read_unread_whole]
        · by_cases h5 : t.val % 10 = 9
          · rw [outsAt0_F m c t h h1 h2 h3 (by omega) h5]; frame_out
            refine (step_at _ _ _ _).trans ?_
            rw [if_neg h1, if_neg h2, if_neg h3]; simp only [read_unread_whole]
          · rw [outsAt0_E m c t h h1 h2 h3 (by omega) h5]; frame_out
            refine (step_at _ _ _ _).trans ?_
            rw [if_neg h1, if_neg h2, if_neg h3]; simp only [read_unread_whole]

theorem out_at (c : Dev nD) (t : Fin cfg0.N) (ht : t.val % 10 = 9) (y : S1024x1024.Idx) :
    ((outsAt0 m c t.val t.isLt).1 y : EReal) = (outsAt0 m c t.val t.isLt).2 y := by
  rw [outsAt0_F m c t (by omega) (by omega) (by omega) (by omega) (by omega) ht]; frame_out

theorem index0 : ∀ t : Fin cfg0.N, win0_0.index t = ![t.val / 10, min (t.val % 10) 3] := (by decide +kernel : ∀ t : Fin grid0.N, _)
theorem index1 : ∀ t : Fin cfg0.N, win0_1.index t = ![t.val / 10, 0] := (by decide +kernel : ∀ t : Fin grid0.N, _)
theorem index2 : ∀ t : Fin cfg0.N, win0_2.index t = ![t.val / 10, 0] := (by decide +kernel : ∀ t : Fin grid0.N, _)
theorem index3 : ∀ t : Fin cfg0.N, win0_3.index t = ![t.val / 10, t.val % 10 - 6] := (by decide +kernel : ∀ t : Fin grid0.N, _)
theorem index4 : ∀ t : Fin cfg0.N, win0_4.index t = ![t.val % 10, 0] := (by decide +kernel : ∀ t : Fin grid0.N, _)
theorem index5 : ∀ t : Fin cfg0.N, win0_5.index t = ![t.val / 10, 0] := (by decide +kernel : ∀ t : Fin grid0.N, _)

theorem v0_at (c : Dev nD) (i : S8192x2048.Idx) : (V m c main_v0 i : EReal) = m ((c : Thread nD τ).loc main_arg0) i := by
  unfold_abbrev_sides; after_results; rfl
theorem v1_at (c : Dev nD) (i : S8192x512.Idx) : (V m c main_v1 i : EReal) = m ((c : Thread nD τ).loc main_arg1) i := by
  unfold_abbrev_sides; after_results; rfl
theorem v2_at (c : Dev nD) (i : S8192x512.Idx) : (V m c main_v2 i : EReal) = m ((c : Thread nD τ).loc main_arg2) i := by
  unfold_abbrev_sides; after_results; rfl
theorem v3_at (c : Dev nD) (i : S8192x2048.Idx) : (V m c main_v3 i : EReal) = m ((c : Thread nD τ).loc main_arg3) i := by
  unfold_abbrev_sides; after_results; rfl
theorem v5_at (c : Dev nD) (i : S5120x1024.Idx) : (V m c main_v5 i : EReal) = flip (m ((c : Thread nD τ).loc main_arg4)) i := by
  unfold_abbrev_sides; after_results; unfold Prod.flip; pointwise []

def rowAt (t : Fin cfg0.N) (y : Fin 1024) : Fin 8192 := ⟨t.val / 10 * 1024 + y.val, by have := t.isLt; have hN : cfg0.N = 80 := N_0; omega⟩
/-- A block's columns, in all parts side by side, in the first part and in the last. -/
def colAt (s : Fin 10) (k : Fin 512) : Fin 5120 := tile (J := 10) (T := 512) rfl s k
def inFirst (s : Fin 10) (h : s.val ≤ 3) (k : Fin 512) : Fin 2048 := ⟨s.val * 512 + k.val, by omega⟩
def inLast (s : Fin 10) (h : 6 ≤ s.val) (k : Fin 512) : Fin 2048 := ⟨(s.val - 6) * 512 + k.val, by omega⟩

theorem emb0 (t : Fin cfg0.N) (s : Fin 10) (h : s.val ≤ 3) (y : Fin 1024) (k : Fin 512) :
    ((cfg0.win 0).blk (pt t s)).view.emb (ix2 y k) = ix2 (rowAt t y) (inFirst s h k) := by
  blk_ext [index0, pt, rowAt, inFirst]
theorem emb1 (t : Fin cfg0.N) (s : Fin 10) (y : Fin 1024) (k : Fin 512) :
    ((cfg0.win 1).blk (pt t s)).view.emb (ix2 y k) = ix2 (rowAt t y) k := by
  blk_ext [index1, pt, rowAt]
theorem emb2 (t : Fin cfg0.N) (s : Fin 10) (y : Fin 1024) (k : Fin 512) :
    ((cfg0.win 2).blk (pt t s)).view.emb (ix2 y k) = ix2 (rowAt t y) k := by
  blk_ext [index2, pt, rowAt]
theorem emb3 (t : Fin cfg0.N) (s : Fin 10) (h : 6 ≤ s.val) (y : Fin 1024) (k : Fin 512) :
    ((cfg0.win 3).blk (pt t s)).view.emb (ix2 y k) = ix2 (rowAt t y) (inLast s h k) := by
  blk_ext [index3, pt, rowAt, inLast]
theorem emb4 (t : Fin cfg0.N) (s : Fin 10) (k : Fin 512) (x : Fin 1024) :
    ((cfg0.win 4).blk (pt t s)).view.emb (ix2 k x) = ix2 (colAt s k) x := by
  blk_ext [index4, pt, colAt, tile]

theorem blk0_at (c : Dev nD) (t : Fin cfg0.N) (s : Fin 10) (h : s.val ≤ 3) (y : Fin 1024) (k : Fin 512) :
    ((iblk m c 0 (pt t s) : Vec Ideal S1024x512 .bf16) (ix2 y k) : EReal) = m ((c : Thread nD τ).loc main_arg0) (ix2 (rowAt t y) (inFirst s h k)) := by
  blk_simp [iblk]; rw [emb0 t s h]; exact v0_at m c _
theorem blk1_at (c : Dev nD) (t : Fin cfg0.N) (s : Fin 10) (y : Fin 1024) (k : Fin 512) :
    ((iblk m c 1 (pt t s) : Vec Ideal S1024x512 .bf16) (ix2 y k) : EReal) = m ((c : Thread nD τ).loc main_arg1) (ix2 (rowAt t y) k) := by
  blk_simp [iblk]; rw [emb1 t s]; exact v1_at m c _
theorem blk2_at (c : Dev nD) (t : Fin cfg0.N) (s : Fin 10) (y : Fin 1024) (k : Fin 512) :
    ((iblk m c 2 (pt t s) : Vec Ideal S1024x512 .bf16) (ix2 y k) : EReal) = m ((c : Thread nD τ).loc main_arg2) (ix2 (rowAt t y) k) := by
  blk_simp [iblk]; rw [emb2 t s]; exact v2_at m c _
theorem blk3_at (c : Dev nD) (t : Fin cfg0.N) (s : Fin 10) (h : 6 ≤ s.val) (y : Fin 1024) (k : Fin 512) :
    ((iblk m c 3 (pt t s) : Vec Ideal S1024x512 .bf16) (ix2 y k) : EReal) = m ((c : Thread nD τ).loc main_arg3) (ix2 (rowAt t y) (inLast s h k)) := by
  blk_simp [iblk]; rw [emb3 t s h]; exact v3_at m c _
theorem blk4_at (c : Dev nD) (t : Fin cfg0.N) (s : Fin 10) (k : Fin 512) (x : Fin 1024) :
    ((iblk m c 4 (pt t s) : Vec Ideal S512x1024 .bf16) (ix2 k x) : EReal) = flip (m ((c : Thread nD τ).loc main_arg4)) (ix2 (colAt s k) x) := by
  blk_simp [iblk]; rw [emb4]; exact v5_at m c _

def whole (c : Dev nD) : Mat 8192 5120 := joined (m ((c : Thread nD τ).loc main_arg0)) (m ((c : Thread nD τ).loc main_arg1))
  (m ((c : Thread nD τ).loc main_arg2)) (m ((c : Thread nD τ).loc main_arg3))

theorem part_at (c : Dev nD) (t : Fin cfg0.N) (s : Fin 10) (y : Fin 1024) (k : Fin 512) :
    part m c (pt t s) (ix2 y k) = whole m c (ix2 (rowAt t y) (colAt s k)) := by
  have hs := s.isLt
  have hk := k.isLt
  have hp : (pt t s).val % 10 = s.val := by show (10 * (t.val / 10) + s.val) % 10 = s.val; omega
  have hq : (colAt s k).val = s.val * 512 + k.val := rfl
  unfold part whole joined
  by_cases h1 : s.val ≤ 3
  · rw [if_pos (by omega), cols_out _ _ _ (by omega), cols_out _ _ _ (by omega), cols_out _ _ _ (by omega),
      cols_in _ _ _ (inFirst s h1 k) (by show _ = 0 + (s.val * 512 + k.val); omega), zero_add, zero_add, zero_add]
    exact blk0_at m c t s h1 y k
  · rw [if_neg (by omega)]
    by_cases h2 : s.val = 4
    · rw [if_pos (by omega), cols_out _ _ _ (by omega), cols_out _ _ _ (by omega), cols_in _ _ _ k (by omega),
        cols_out _ _ _ (by omega), zero_add, zero_add, add_zero]
      exact blk1_at m c t s y k
    · rw [if_neg (by omega)]
      by_cases h3 : s.val = 5
      · rw [if_pos (by omega), cols_out _ _ _ (by omega), cols_in _ _ _ k (by omega), cols_out _ _ _ (by omega),
          cols_out _ _ _ (by omega), zero_add, add_zero, add_zero]
        exact blk2_at m c t s y k
      · rw [if_neg (by omega), cols_in _ _ _ (inLast s (by omega) k) (by show _ = 3072 + ((s.val - 6) * 512 + k.val); omega),
          cols_out _ _ _ (by omega), cols_out _ _ _ (by omega), cols_out _ _ _ (by omega), add_zero, add_zero, add_zero]
        exact blk3_at m c t s (by omega) y k

/-- The result. -/
def grad (c : Dev nD) : Buf (Elt Ideal) ((c : Thread nD τ).loc main_v6) :=
  mm (whole m c) (flip (m ((c : Thread nD τ).loc main_arg4)))

theorem final (c : Dev nD) : (dats m 0 c).arrAt 5 cfg0.N = grad m c := by
  refine (dats m 0 c).arrAt_eq_of_covers 5 _ (by decide +kernel) fun t hf y => ?_
  blk_simp
  rw [after0_5]
  have ht := (flush0_5 t).mp hf
  refine (out_at m c t ht y).trans ((scratch_sum m c t ht y).trans ?_)
  rw [show ((cfg0.win 5).blk t).view.emb y = ix2 (rowAt t (y 0)) (y 1) from by blk_ext [index5, rowAt]]
  exact mm_of_blocks (J := 10) (T := 512) rfl _ _ _ _ y _ _ (fun s k => part_at m c t s (y 0) k) (fun s k => blk4_at m c t s k (y 1))

theorem algebraic : Cert.algebraic_Kernel10Ideal_Reference10Ideal
    (hKernel10Ideal := Cert.Kernel10Ideal.Gen.facts) (hReference10Ideal := Cert.Reference10Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference10Ideal.Value.run (F := Ideal) m' g')
    rw [(harg c).1, (harg c).2.1, (harg c).2.2.1, (harg c).2.2.2.1, (harg c).2.2.2.2]
    exact ref_eq _ _ _ _ _

end Cert.Proof.Cat4

end
-- ==== Proof.DyGate.lean ====
module

public import proofs.«01_k».proof.Defs
public import proofs.«01_k».proof.Proof.DzGate
public import proofs.«01_k».proof.Proof.Product
public import proofs.«01_k».proof.Proof.Gen.Kernel11Ideal.Value
public import proofs.«01_k».proof.Proof.Gen.Reference11Ideal.Run

@[expose] public section

set_option maxRecDepth 16384

noncomputable section

/-! The gradients of mixer B's gate: `dz = dx · wᵀ`, block by block, and from it the gradients of the gate and of the attention's rows. -/

namespace Cert.Proof.DyGate

open Cert.Proof.Prod Cert.Proof.DzGate
open Idealize.SL.Sem Idealize.ShloMosaic Idealize.ShloMosaic.Tactic

/-- One element of the gate's gradient and of the row's. -/
def gradAt (z y g : EReal) : EReal := z * y * (sg g * (1 + g * (1 - sg g)))
def rowAt (z g : EReal) : EReal := z * (g * sg g)

theorem grad_eq (z y g : EReal) (hz : z = (z.toReal : EReal)) (hy : y = (y.toReal : EReal)) :
    y * z * sg g + g * (y * z) * (sg g * (1 - sg g)) = gradAt z y g := by
  unfold gradAt
  rw [mul_comm z y, hz, hy, ← EReal.coe_mul]
  exact (slope _ g).symm

/-! ## The reference -/

section

open Cert.Reference11Ideal

theorem ref_dot (A : FVec Ideal S8192x1024 .f32) (B : FVec Ideal S2048x1024 .f32) :
    Host.dotGeneral (F := Ideal) (φ₁ := .f32) (φ₂ := .f32) dot_S8192x1024_S2048x1024_S8192x2048_1_1_0_0_n_n none A B
      = (mm A (flip B) : FVec Ideal S8192x2048 .f32) := by
  funext i
  unfold mm Prod.flip
  pointwise []

theorem ref_sg (g : FVec Ideal S8192x2048 .f32) :
    Host.divf (broadcastInDim S8192x2048 ![] Gen.facts.bcast_S_S8192x2048 (constant S_ .f32 0x3F800000#32))
      (addf (broadcastInDim S8192x2048 ![] Gen.facts.bcast_S_S8192x2048 (constant S_ .f32 0x3F800000#32)) (Host.exp (Host.negf g)))
      = ((fun i => sg (g i)) : FVec Ideal S8192x2048 .f32) := by
  funext i
  unfold sg
  pointwise []

theorem ref_gate (Z Y g G : FVec Ideal S8192x2048 .f32) (hZ : ∀ i, (Z i : EReal) = ((Z i : EReal).toReal : EReal))
    (hY : ∀ i, (Y i : EReal) = ((Y i : EReal).toReal : EReal)) (hG : G = fun i => sg (g i)) :
    truncf .bf16 (addf (mulf (mulf Y Z) G) (mulf (mulf g (mulf Y Z)) (mulf G
      (subf (broadcastInDim S8192x2048 ![] Gen.facts.bcast_S_S8192x2048 (constant S_ .f32 0x3F800000#32)) G)))) Gen.facts.bitsLt_bf16_f32
      = ((fun i => gradAt (Z i) (Y i) (g i)) : FVec Ideal S8192x2048 .bf16) := by
  funext i
  rw [← grad_eq _ _ _ (hZ i) (hY i), hG]
  pointwise []

theorem ref_rows (Z g G : FVec Ideal S8192x2048 .f32) (hG : G = fun i => sg (g i)) :
    truncf .bf16 (mulf Z (mulf g G)) Gen.facts.bitsLt_bf16_f32 = ((fun i => rowAt (Z i) (g i)) : FVec Ideal S8192x2048 .bf16) := by
  subst hG
  funext i
  unfold rowAt
  pointwise []

end

/-! ## The kernel -/

open Cert.Kernel11Ideal Cert.Kernel11Ideal.Gen Idealize.ShloMosaic.TcCoe

variable (m : (ℓ : Loc nD τ sig) → Buf (Elt Ideal) ℓ)

theorem pay4_at (x w yr g : Vec Ideal S1024x1024 .bf16) (y : S1024x1024.Idx) :
    k0_pay4 x w yr g y = (gradAt (mm x w y) (yr y) (g y) : EReal) := by
  unfold gradAt sg mm
  pointwise [k0_pay4, k0_pay1, k0_pay2, k0_pay3]
  rw [zero_sub]
theorem pay5_at (x w g : Vec Ideal S1024x1024 .bf16) (y : S1024x1024.Idx) :
    k0_pay5 x w g y = (rowAt (mm x w y) (g y) : EReal) := by
  unfold rowAt sg mm
  pointwise [k0_pay5, k0_pay1, k0_pay2, k0_pay3]
  rw [zero_sub]

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)
theorem index3 : ∀ t : Fin cfg0.N, win0_3.index t = ![t.val % 8, t.val / 8] := (by decide +kernel : ∀ t : Fin grid0.N, _)
theorem index4 : ∀ t : Fin cfg0.N, win0_4.index t = ![t.val % 8, t.val / 8] := (by decide +kernel : ∀ t : Fin grid0.N, _)
theorem index5 : ∀ t : Fin cfg0.N, win0_5.index t = ![t.val % 8, t.val / 8] := (by decide +kernel : ∀ t : Fin grid0.N, _)

/-- A block's place in the results: its rows and its columns. -/
def row (t : Fin cfg0.N) (y : Fin 1024) : Fin 8192 := ⟨t.val % 8 * 1024 + y.val, by omega⟩
def col (t : Fin cfg0.N) (x : Fin 1024) : Fin 2048 := ⟨t.val / 8 * 1024 + x.val, by have := t.isLt; have hN : cfg0.N = 16 := N_0; omega⟩

theorem blk0_at (c : Dev nD) (t : Fin cfg0.N) (y k : Fin 1024) :
    ((iblk m c 0 t : Vec Ideal S1024x1024 .bf16) (ix2 y k) : EReal) = m ((c : Thread nD τ).loc main_arg0) (ix2 (row t y) k) := by
  blk_simp [iblk]
  rw [show ((cfg0.win 0).blk t).view.emb (ix2 y k) = ix2 (row t y) k from by blk_ext [index0, row]]
  unfold_abbrev_sides; after_results; rfl
theorem v2_at (c : Dev nD) (i : S1024x2048.Idx) : (V m c main_v2 i : EReal) = flip (m ((c : Thread nD τ).loc main_arg1)) i := by
  unfold_abbrev_sides; after_results; unfold Prod.flip; pointwise []
theorem blk1_at (c : Dev nD) (t : Fin cfg0.N) (k x : Fin 1024) :
    ((iblk m c 1 t : Vec Ideal S1024x1024 .bf16) (ix2 k x) : EReal) = flip (m ((c : Thread nD τ).loc main_arg1)) (ix2 k (col t x)) := by
  blk_simp [iblk]
  rw [show ((cfg0.win 1).blk t).view.emb (ix2 k x) = ix2 k (col t x) from by blk_ext [index1, col]]
  exact v2_at m c _
theorem blk2_at (c : Dev nD) (t : Fin cfg0.N) (y : S1024x1024.Idx) :
    ((iblk m c 2 t : Vec Ideal S1024x1024 .bf16) y : EReal) = m ((c : Thread nD τ).loc main_arg2) (ix2 (row t (y 0)) (col t (y 1))) := by
  blk_simp [iblk]
  rw [show ((cfg0.win 2).blk t).view.emb y = ix2 (row t (y 0)) (col t (y 1)) from by blk_ext [index2, row, col]]
  unfold_abbrev_sides; after_results; rfl
theorem blk3_at (c : Dev nD) (t : Fin cfg0.N) (y : S1024x1024.Idx) :
    ((iblk m c 3 t : Vec Ideal S1024x1024 .bf16) y : EReal) = m ((c : Thread nD τ).loc main_arg3) (ix2 (row t (y 0)) (col t (y 1))) := by
  blk_simp [iblk]
  rw [show ((cfg0.win 3).blk t).view.emb y = ix2 (row t (y 0)) (col t (y 1)) from by blk_ext [index3, row, col]]
  unfold_abbrev_sides; after_results; rfl

/-- The product, and its blocks. -/
def dz (c : Dev nD) : Mat 8192 2048 := mm (m ((c : Thread nD τ).loc main_arg0)) (flip (m ((c : Thread nD τ).loc main_arg1)))

theorem dz_blk (c : Dev nD) (t : Fin cfg0.N) (y : S1024x1024.Idx) :
    mm (iblk m c 0 t : Vec Ideal S1024x1024 .bf16) (iblk m c 1 t : Vec Ideal S1024x1024 .bf16) y = dz m c (ix2 (row t (y 0)) (col t (y 1))) :=
  Finset.sum_congr rfl fun k _ => congrArg₂ (fun a b : EReal => a * b) (blk0_at m c t (y 0) k) (blk1_at m c t k (y 1))

/-- The two results. -/
def dgate (c : Dev nD) : Buf (Elt Ideal) ((c : Thread nD τ).loc main_v5_0) := fun i : S8192x2048.Idx =>
  gradAt (dz m c i) (m ((c : Thread nD τ).loc main_arg2) i) (m ((c : Thread nD τ).loc main_arg3) i)
def drows (c : Dev nD) : Buf (Elt Ideal) ((c : Thread nD τ).loc main_v5_1) := fun i : S8192x2048.Idx =>
  rowAt (dz m c i) (m ((c : Thread nD τ).loc main_arg3) i)

theorem final4 (c : Dev nD) : (dats m 0 c).arrAt 4 cfg0.N = dgate m c := by
  refine (dats m 0 c).arrAt_eq_of_covers 4 _ (by decide +kernel) fun t hf y => ?_
  blk_simp
  rw [after0_4]; frame_out
  rw [show ((cfg0.win 4).blk t).view.emb y = ix2 (row t (y 0)) (col t (y 1)) from by blk_ext [index4, row, col]]
  refine (pay4_at _ _ _ _ y).trans ?_
  rw [dz_blk]
  exact congrArg₂ _ (blk2_at m c t y) (blk3_at m c t y)

theorem final5 (c : Dev nD) : (dats m 0 c).arrAt 5 cfg0.N = drows m c := by
  refine (dats m 0 c).arrAt_eq_of_covers 5 _ (by decide +kernel) fun t hf y => ?_
  blk_simp
  rw [after0_5]; frame_out
  rw [show ((cfg0.win 5).blk t).view.emb y = ix2 (row t (y 0)) (col t (y 1)) from by blk_ext [index5, row, col]]
  refine (pay5_at _ _ _ y).trans ?_
  rw [dz_blk]
  exact congrArg _ (blk3_at m c t y)

/-! ## The claim -/

instance finiteFacts : Cert.Pre_finite11.Facts where
  bcast_S_S8192x1024 := by decide
  bcast_S_S2048x1024 := by decide
  bcast_S_S8192x2048 := by decide

theorem algebraic : Cert.algebraic_Kernel11Ideal_Reference11Ideal_pre_finite11
    (hKernel11Ideal := Cert.Kernel11Ideal.Gen.facts) (hReference11Ideal := Cert.Reference11Ideal.Gen.facts) (hPre_finite11 := finiteFacts) := by
  intro m g m' g' hp harg
  refine ⟨dgate m, drows m, ?_, ?_⟩
  · exact (θ_run _ _ _).mono (fun r h c => ⟨(h c).1.trans (final4 m c), (h c).2.1.trans (final5 m c), (h c).2.2⟩)
      (Value.run_blocks (F := Ideal) m g)
  · refine (θ_run _ _ _).mono (fun r h c => ?_) (Cert.Reference11Ideal.Value.run (F := Ideal) m' g')
    obtain ⟨p0, p1, p2⟩ := hp c
    have f0 := Att.real_of_lane _ _ p0
    have f1 := Att.real_of_lane _ _ p1
    have f2 := Att.real_of_lane _ _ p2
    obtain ⟨h0, h1, h⟩ := h c
    obtain ⟨a0, a1, a2, a3⟩ := harg c
    refine ⟨h0.trans ?_, h1.trans ?_, h⟩
    · rw [a0, a1, a2, a3, ref_dot]
      exact ref_gate _ _ _ _ (mm_real _ _ f0 fun i => f1 _) f2 (ref_sg _)
    · rw [a0, a1, a3, ref_dot]
      exact ref_rows _ _ _ (ref_sg _)

end Cert.Proof.DyGate

end
-- ==== Proof.Grouped.lean ====
module

public import proofs.«01_k».proof.Defs
public import proofs.«01_k».proof.Proof.Product
public import proofs.«01_k».proof.Proof.Gen.Kernel12Ideal.Value
public import proofs.«01_k».proof.Proof.Gen.Reference12Ideal.Run

@[expose] public section

set_option maxRecDepth 16384

noncomputable section

/-! The gradient of the group weights of mixer A: `dᵀ · dy` within each of the four groups of 512 columns, accumulated over
    eight blocks of rows in the result's own window. -/

namespace Cert.Proof.Grouped

open Cert.Kernel12Ideal Cert.Kernel12Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S1x512x512.Idx) : (k0_pay1 : FVec Ideal S1x512x512 .f32) y = (0 : EReal) := by pointwise [k0_pay1]
theorem step_at (a : Vec Ideal S1x512x512 .f32) (x0 x1 : Vec Ideal S1024x512 .bf16) (y : S1x512x512.Idx) :
    k0_pay2 a x0 x1 y = (a y + mmT x0 x1 (ix2 (y 1) (y 2)) : EReal) := by unfold mmT; pointwise [k0_pay2]

/-- The `s`-th point of the run that ends at `t`. -/
def pt (t : Fin cfg0.N) (s : Fin 8) : Fin cfg0.N := ⟨8 * (t.val / 8) + s.val, by
  have h1 := t.isLt; have h2 := s.isLt; have hN : cfg0.N = 32 := N_0; omega⟩

theorem out_sum (c : Dev nD) (t : Fin cfg0.N) (ht : t.val % 8 = 7) (y : S1x512x512.Idx) :
    (outsAt0 m c t.val t.isLt y : EReal) = ∑ s : Fin 8, mmT (iblk m c 0 (pt t s)) (iblk m c 1 (pt t s)) (ix2 (y 1) (y 2)) := by
  rw [Pipeline.eq_sum_fin_of_reset_step_apply_of_flush (M := EReal) (fun n h => outsAt0 m c n h) 8 (fun _ => 0)
    (fun t y => mmT (iblk m c 0 t) (iblk m c 1 t) (ix2 (y 1) (y 2))) (fun t h y => ?_) (fun t h y => ?_) t ht y, zero_add]
  · rfl
  · rw [outsAt0_A m c t h]; frame_out
    rw [step_at, zero_at]
  · rw [outsAt0_B m c t h]; frame_out
    rw [step_at]

theorem index0 : ∀ t : Fin cfg0.N, win0_0.index t = ![t.val % 8, t.val / 8] := (by decide +kernel : ∀ t : Fin grid0.N, _)
theorem index1 : ∀ t : Fin cfg0.N, win0_1.index t = ![t.val % 8, t.val / 8] := (by decide +kernel : ∀ t : Fin grid0.N, _)
theorem index2 : ∀ t : Fin cfg0.N, win0_2.index t = ![t.val / 8, 0, 0] := (by decide +kernel : ∀ t : Fin grid0.N, _)

def rowAt (s : Fin 8) (k : Fin 1024) : Fin 8192 := tile (J := 8) (T := 1024) rfl s k
def grp (t : Fin cfg0.N) : Fin 4 := ⟨t.val / 8, by have := t.isLt; have hN : cfg0.N = 32 := N_0; omega⟩
/-- The columns of a group, as an array of their own. -/
def part (A : Mat 8192 2048) (g : Fin 4) : Mat 8192 512 := fun i => A (ix2 (i 0) (tile (J := 4) (T := 512) rfl g (i 1)))

theorem blk0_at (c : Dev nD) (t : Fin cfg0.N) (s : Fin 8) (k : Fin 1024) (x : Fin 512) :
    ((iblk m c 0 (pt t s) : Vec Ideal S1024x512 .bf16) (ix2 k x) : EReal)
      = part (m ((c : Thread nD τ).loc main_arg0)) (grp t) (ix2 (rowAt s k) x) := by
  blk_simp [iblk]
  rw [show ((cfg0.win 0).blk (pt t s)).view.emb (ix2 k x) = ix2 (rowAt s k) (tile (J := 4) (T := 512) rfl (grp t) x) from by
    blk_ext [index0, pt, rowAt, tile, grp]]
  unfold_abbrev_sides; after_results; rfl
theorem blk1_at (c : Dev nD) (t : Fin cfg0.N) (s : Fin 8) (k : Fin 1024) (x : Fin 512) :
    ((iblk m c 1 (pt t s) : Vec Ideal S1024x512 .bf16) (ix2 k x) : EReal)
      = part (m ((c : Thread nD τ).loc main_arg1)) (grp t) (ix2 (rowAt s k) x) := by
  blk_simp [iblk]
  rw [show ((cfg0.win 1).blk (pt t s)).view.emb (ix2 k x) = ix2 (rowAt s k) (tile (J := 4) (T := 512) rfl (grp t) x) from by
    blk_ext [index1, pt, rowAt, tile, grp]]
  unfold_abbrev_sides; after_results; rfl

/-- The gradient of every group's weight. -/
def groups (A B : Mat 8192 2048) : FVec Ideal S4x512x512 .f32 := fun i => mmT (part A (i 0)) (part B (i 0)) (ix2 (i 1) (i 2))

/-- The result. -/
def grad (c : Dev nD) : Buf (Elt Ideal) ((c : Thread nD τ).loc main_v2) :=
  groups (m ((c : Thread nD τ).loc main_arg0)) (m ((c : Thread nD τ).loc main_arg1))

theorem final (c : Dev nD) : (dats m 0 c).arrAt 2 cfg0.N = grad m c := by
  refine (dats m 0 c).arrAt_eq_of_covers 2 _ (by decide +kernel) fun t hf y => ?_
  blk_simp
  rw [after0_2]
  refine (out_sum m c t ((flush0_2 t).mp hf) y).trans ?_
  rw [show ((cfg0.win 2).blk t).view.emb y = ix3 (grp t) (y 1) (y 2) from by blk_ext [index2, grp]]
  exact mmT_of_blocks (J := 8) (T := 1024) rfl (part (m ((c : Thread nD τ).loc main_arg0)) (grp t)) (part (m ((c : Thread nD τ).loc main_arg1)) (grp t))
    (fun s => iblk m c 0 (pt t s)) (fun s => iblk m c 1 (pt t s)) (ix2 (y 1) (y 2)) (y 1) (y 2) (fun s k => blk0_at m c t s k (y 1)) (fun s k => blk1_at m c t s k (y 2))

/-- The reference's term. -/
theorem ref_eq (A B : FVec Ideal S8192x2048 .f32) :
    transpose S4x512x512 [0, 2, 1] (Host.dotGeneral (F := Ideal) (φ₁ := .f32) (φ₂ := .f32)
      Cert.Reference12Ideal.dot_S4x512x8192_S8192x4x512_S4x512x512_2_0_1_2_0_1 none
      (transpose Cert.Reference12Ideal.S4x512x8192 [1, 2, 0] (shapeCast Cert.Reference12Ideal.S8192x4x512 B
        Cert.Reference12Ideal.Gen.facts.shapeCasts_S8192x2048_S8192x4x512) Cert.Reference12Ideal.Gen.facts.transposes_S8192x4x512_S4x512x8192_1_2_0)
      (shapeCast Cert.Reference12Ideal.S8192x4x512 A Cert.Reference12Ideal.Gen.facts.shapeCasts_S8192x2048_S8192x4x512))
      Cert.Reference12Ideal.Gen.facts.transposes_S4x512x512_S4x512x512_0_2_1 = groups A B := by
  funext i
  unfold groups mmT part tile
  pointwise []
  exact Finset.sum_congr rfl fun κ _ => mul_comm _ _

theorem algebraic : Cert.algebraic_Kernel12Ideal_Reference12Ideal
    (hKernel12Ideal := Cert.Kernel12Ideal.Gen.facts) (hReference12Ideal := Cert.Reference12Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference12Ideal.Value.run (F := Ideal) m' g')
    rw [(harg c).1, (harg c).2]
    exact ref_eq _ _

end Cert.Proof.Grouped

end
-- ==== Proof.InNarrow.lean ====
module

public import proofs.«01_k».proof.Defs
public import proofs.«01_k».proof.Proof.Product
public import proofs.«01_k».proof.Proof.Gen.Kernel13Ideal.Value
public import proofs.«01_k».proof.Proof.Gen.Reference13Ideal.Run

@[expose] public section

set_option maxRecDepth 16384

noncomputable section

/-! Mixer B's key and value projections: `h · w` with 512 columns, one product per block of rows. -/

namespace Cert.Proof.InNarrow

open Cert.Kernel13Ideal Cert.Kernel13Ideal.Gen Cert.Proof.Prod
open Idealize.SL.Sem Idealize.ShloMosaic Idealize.ShloMosaic.TcCoe Idealize.ShloMosaic.Tactic

variable (m : (ℓ : Loc nD τ sig) → Buf (Elt Ideal) ℓ)

theorem pay_at (x0 : Vec Ideal S2048x1024 .bf16) (x1 : Vec Ideal S1024x512 .bf16) (y : S2048x512.Idx) :
    k0_pay1 x0 x1 y = (mm x0 x1 y : EReal) := by unfold mm; pointwise [k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

def rowAt (t : Fin cfg0.N) (y : Fin 2048) : Fin 8192 := ⟨t.val * 2048 + y.val, by have := t.isLt; have hN : cfg0.N = 4 := N_0; omega⟩

theorem blk0_at (c : Dev nD) (t : Fin cfg0.N) (y : Fin 2048) (k : Fin 1024) :
    ((iblk m c 0 t : Vec Ideal S2048x1024 .bf16) (ix2 y k) : EReal) = m ((c : Thread nD τ).loc main_arg0) (ix2 (rowAt t y) k) := by
  blk_simp [iblk]
  rw [show ((cfg0.win 0).blk t).view.emb (ix2 y k) = ix2 (rowAt t y) k from by blk_ext [index0, rowAt]]
  unfold_abbrev_sides; after_results; rfl
theorem blk1_at (c : Dev nD) (t : Fin cfg0.N) (k : Fin 1024) (x : Fin 512) :
    ((iblk m c 1 t : Vec Ideal S1024x512 .bf16) (ix2 k x) : EReal) = m ((c : Thread nD τ).loc main_arg1) (ix2 k x) := by
  blk_simp [iblk]
  rw [show ((cfg0.win 1).blk t).view.emb (ix2 k x) = ix2 k x from by blk_ext [index1]]
  unfold_abbrev_sides; after_results; rfl

/-- The result. -/
def proj (c : Dev nD) : Buf (Elt Ideal) ((c : Thread nD τ).loc main_v2) :=
  mm (m ((c : Thread nD τ).loc main_arg0)) (m ((c : Thread nD τ).loc main_arg1))

theorem final (c : Dev nD) : (dats m 0 c).arrAt 2 cfg0.N = proj m c := by
  refine (dats m 0 c).arrAt_eq_of_covers 2 _ (by decide +kernel) fun t hf y => ?_
  blk_simp
  rw [after0_2]; frame_out
  rw [show ((cfg0.win 2).blk t).view.emb y = ix2 (rowAt t (y 0)) (y 1) from by blk_ext [index2, rowAt]]
  exact (pay_at _ _ y).trans (Finset.sum_congr rfl fun k _ =>
    congrArg₂ (fun a b : EReal => a * b) (blk0_at m c t (y 0) k) (blk1_at m c t k (y 1)))

/-- The reference's term. -/
theorem ref_eq (A : Vec Ideal S8192x1024 .f32) (B : Vec Ideal S1024x512 .f32) :
    truncf .bf16 (Host.dotGeneral (F := Ideal) (φ₁ := .f32) (φ₂ := .f32) Cert.Reference13Ideal.dot_S8192x1024_S1024x512_S8192x512_1_0_0_1_n_n none A B)
      Cert.Reference13Ideal.Gen.facts.bitsLt_bf16_f32 = (mm A B : Vec Ideal S8192x512 .bf16) := by
  funext i
  unfold mm
  pointwise []

theorem algebraic : Cert.algebraic_Kernel13Ideal_Reference13Ideal
    (hKernel13Ideal := Cert.Kernel13Ideal.Gen.facts) (hReference13Ideal := Cert.Reference13Ideal.Gen.facts) := by
  intro m g m' g' _ harg
  refine ⟨proj m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference13Ideal.Value.run (F := Ideal) m' g')
    rw [(harg c).1, (harg c).2]
    exact ref_eq _ _

end Cert.Proof.InNarrow

end
-- ==== Proof.DwinNarrow.lean ====
module

public import proofs.«01_k».proof.Defs
public import proofs.«01_k».proof.Proof.Product
public import proofs.«01_k».proof.Proof.Gen.Kernel14Ideal.Value
public import proofs.«01_k».proof.Proof.Gen.Reference14Ideal.Run

@[expose] public section

set_option maxRecDepth 16384

noncomputable section

/-! The gradient of the weight of mixer B's key and value projections: `hᵀ · ct` with 512 columns, accumulated over four
    blocks of rows. -/

namespace Cert.Proof.DwinNarrow

open Cert.Kernel14Ideal Cert.Kernel14Ideal.Gen Cert.Proof.Prod
open Idealize.SL.Sem Idealize.ShloMosaic Idealize.ShloMosaic.TcCoe Idealize.ShloMosaic.Tactic

variable (m : (ℓ : Loc nD τ sig) → Buf (Elt Ideal) ℓ)

theorem zero_at (y : S1024x512.Idx) : (k0_pay1 : FVec Ideal S1024x512 .f32) y = (0 : EReal) := by pointwise [k0_pay1]
theorem step_at (a : Vec Ideal S1024x512 .f32) (x0 : Vec Ideal S2048x1024 .bf16) (x1 : Vec Ideal S2048x512 .bf16) (y : S1024x512.Idx) :
    k0_pay2 a x0 x1 y = (a y + mmT x0 x1 y : EReal) := by unfold mmT; pointwise [k0_pay2]
theorem cast_at (a : Vec Ideal S1024x512 .f32) (y : S1024x512.Idx) : k0_pay3 a y = (a y : EReal) := by pointwise [k0_pay3]

/-- The `s`-th point of the run that ends at `t`. -/
def pt (t : Fin cfg0.N) (s : Fin 4) : Fin cfg0.N := ⟨4 * (t.val / 4) + s.val, by
  have h1 := t.isLt; have h2 := s.isLt; have hN : cfg0.N = 4 := N_0; omega⟩

theorem scratch_sum (c : Dev nD) (t : Fin cfg0.N) (ht : t.val % 4 = 3) (y : S1024x512.Idx) :
    ((outsAt0 m c t.val t.isLt).2 y : EReal) = ∑ s : Fin 4, mmT (iblk m c 0 (pt t s)) (iblk m c 1 (pt t s)) y := by
  rw [Pipeline.eq_sum_fin_of_reset_step_apply_of_flush (M := EReal) (fun n h => (outsAt0 m c n h).2) 4 (fun _ => 0)
    (fun t => mmT (iblk m c 0 t) (iblk m c 1 t)) (fun t h y => ?_) (fun t h y => ?_) t ht y, zero_add]
  · rfl
  · rw [outsAt0_A m c t h (by omega)]; frame_out
    rw [step_at, zero_at]
  · by_cases h3 : t.val % 4 = 3
    · rw [outsAt0_C m c t h h3]; frame_out
      rw [step_at]; simp only [read_unread_whole]
    · rw [outsAt0_B m c t h h3]; frame_out
      rw [step_at]; simp only [read_unread_whole]

theorem out_at (c : Dev nD) (t : Fin cfg0.N) (ht : t.val % 4 = 3) (y : S1024x512.Idx) :
    ((outsAt0 m c t.val t.isLt).1 y : EReal) = (outsAt0 m c t.val t.isLt).2 y := by
  rw [outsAt0_C m c t (by omega) ht]; frame_out
  rw [cast_at]

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

def rowAt (s : Fin 4) (k : Fin 2048) : Fin 8192 := tile (J := 4) (T := 2048) rfl s k

theorem blk0_at (c : Dev nD) (t : Fin cfg0.N) (s : Fin 4) (k : Fin 2048) (x : Fin 1024) :
    ((iblk m c 0 (pt t s) : Vec Ideal S2048x1024 .bf16) (ix2 k x) : EReal) = m ((c : Thread nD τ).loc main_arg0) (ix2 (rowAt s k) x) := by
  blk_simp [iblk]
  rw [show ((cfg0.win 0).blk (pt t s)).view.emb (ix2 k x) = ix2 (rowAt s k) x from by blk_ext [index0, pt, rowAt, tile]]
  unfold_abbrev_sides; after_results; rfl
theorem blk1_at (c : Dev nD) (t : Fin cfg0.N) (s : Fin 4) (k : Fin 2048) (x : Fin 512) :
    ((iblk m c 1 (pt t s) : Vec Ideal S2048x512 .bf16) (ix2 k x) : EReal) = m ((c : Thread nD τ).loc main_arg1) (ix2 (rowAt s k) x) := by
  blk_simp [iblk]
  rw [show ((cfg0.win 1).blk (pt t s)).view.emb (ix2 k x) = ix2 (rowAt s k) x from by blk_ext [index1, pt, rowAt, tile]]
  unfold_abbrev_sides; after_results; rfl

/-- The result. -/
def grad (c : Dev nD) : Buf (Elt Ideal) ((c : Thread nD τ).loc main_v2) :=
  mmT (m ((c : Thread nD τ).loc main_arg0)) (m ((c : Thread nD τ).loc main_arg1))

theorem final (c : Dev nD) : (dats m 0 c).arrAt 2 cfg0.N = grad m c := by
  refine (dats m 0 c).arrAt_eq_of_covers 2 _ (by decide +kernel) fun t hf y => ?_
  blk_simp
  rw [after0_2]
  have ht := (flush0_2 t).mp hf
  refine (out_at m c t ht y).trans ((scratch_sum m c t ht y).trans ?_)
  rw [show ((cfg0.win 2).blk t).view.emb y = ix2 (y 0) (y 1) from by blk_ext [index2]]
  exact mmT_of_blocks (J := 4) (T := 2048) rfl _ _ _ _ y _ _ (fun s k => blk0_at m c t s k (y 0)) (fun s k => blk1_at m c t s k (y 1))

/-- The reference's term. -/
theorem ref_eq (A : Vec Ideal S8192x1024 .f32) (B : Vec Ideal S8192x512 .f32) :
    truncf .bf16 (transpose S1024x512 [1, 0] (Host.dotGeneral (F := Ideal) (φ₁ := .f32) (φ₂ := .f32) Cert.Reference14Ideal.dot_S8192x512_S8192x1024_S512x1024_0_0_1_1_n_n none B A)
      Cert.Reference14Ideal.Gen.facts.transposes_S512x1024_S1024x512_1_0) Cert.Reference14Ideal.Gen.facts.bitsLt_bf16_f32 = (mmT A B : Vec Ideal S1024x512 .bf16) := by
  funext i
  unfold mmT
  pointwise []
  exact Finset.sum_congr rfl fun κ _ => mul_comm _ _

theorem algebraic : Cert.algebraic_Kernel14Ideal_Reference14Ideal
    (hKernel14Ideal := Cert.Kernel14Ideal.Gen.facts) (hReference14Ideal := Cert.Reference14Ideal.Gen.facts) := by
  intro m g m' g' _ harg
  refine ⟨grad m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference14Ideal.Value.run (F := Ideal) m' g')
    rw [(harg c).1, (harg c).2]
    exact ref_eq _ _

end Cert.Proof.DwinNarrow

end
-- ==== Proof.GroupFwd.lean ====
module

public import proofs.«01_k».proof.Defs
public import proofs.«01_k».proof.Proof.DzGate
public import proofs.«01_k».proof.Proof.Grouped
public import proofs.«01_k».proof.Proof.Product
public import proofs.«01_k».proof.Proof.Gen.Kernel15Ideal.Value
public import proofs.«01_k».proof.Proof.Gen.Reference15Ideal.Run

@[expose] public section

set_option maxRecDepth 16384

noncomputable section

/-! Mixer A's forward call behind its narrow product: each group of 512 columns times that group's weight, then the scale and the gate. -/

namespace Cert.Proof.GroupFwd

open Cert.Proof.Prod Cert.Proof.DzGate
open Cert.Proof.Grouped (part)
open Idealize.SL.Sem Idealize.ShloMosaic Idealize.ShloMosaic.Tactic

/-- One element of a gated row. -/
def gatedAt (y s g : EReal) : EReal := y * s * (g * sg g)
/-- A group's weight, as an array of its own. -/
def wt (w : (⟨3, ![4, 512, 512]⟩ : Shape).Idx → EReal) (g : Fin 4) : Mat 512 512 := fun i => w (ix3 g (i 0) (i 1))
/-- Which group a column is in, and where in it. -/
def grpOf (x : Fin 2048) : Fin 4 := ⟨x.val / 512, by omega⟩
def posOf (x : Fin 2048) : Fin 512 := ⟨x.val % 512, by omega⟩
/-- Each group's columns times the group's weight. -/
def grouped (d : Mat 8192 2048) (w : (⟨3, ![4, 512, 512]⟩ : Shape).Idx → EReal) : Mat 8192 2048 := fun i =>
  mm (part d (grpOf (i 1))) (wt w (grpOf (i 1))) (ix2 (i 0) (posOf (i 1)))

/-! ## The reference -/

section

open Cert.Reference15Ideal

/-- The product, with the groups' columns side by side. -/
abbrev prod (d : FVec Ideal S8192x2048 .f32) (w : FVec Ideal S4x512x512 .f32) : FVec Ideal S8192x2048 .f32 :=
  shapeCast S8192x2048 (transpose S8192x4x512 [2, 0, 1] (Host.dotGeneral (F := Ideal) (φ₁ := .f32) (φ₂ := .f32)
    dot_S4x512x512_S8192x4x512_S4x512x8192_1_2_2_0_0_1 none w (shapeCast S8192x4x512 d Gen.facts.shapeCasts_S8192x2048_S8192x4x512))
    Gen.facts.transposes_S4x512x8192_S8192x4x512_2_0_1) Gen.facts.shapeCasts_S8192x4x512_S8192x2048

theorem ref_prod (d : FVec Ideal S8192x2048 .f32) (w : FVec Ideal S4x512x512 .f32) : prod d w = (grouped d w : FVec Ideal S8192x2048 .f32) := by
  funext i
  unfold prod grouped mm part wt tile grpOf posOf
  pointwise []
  exact Finset.sum_congr rfl fun κ _ => mul_comm _ _

theorem ref_cast (Y : FVec Ideal S8192x2048 .f32) : truncf .bf16 Y Gen.facts.bitsLt_bf16_f32 = (Y : FVec Ideal S8192x2048 .bf16) := by
  funext i
  pointwise []

theorem ref_gated (Y g : FVec Ideal S8192x2048 .f32) (s : FVec Ideal S2048 .f32) :
    truncf .bf16 (mulf (mulf Y (broadcastInDim S8192x2048 ![0, 1] Gen.facts.bcast_S1x2048_S8192x2048_0_1
        (broadcastInDim S1x2048 ![1] Gen.facts.bcast_S2048_S1x2048_1 s)))
      (mulf g (Host.divf (broadcastInDim S8192x2048 ![] Gen.facts.bcast_S_S8192x2048 (constant S_ .f32 0x3F800000#32))
        (addf (broadcastInDim S8192x2048 ![] Gen.facts.bcast_S_S8192x2048 (constant S_ .f32 0x3F800000#32)) (Host.exp (Host.negf g))))))
      Gen.facts.bitsLt_bf16_f32
      = ((fun i => gatedAt (Y i) (s (ix1 (i 1))) (g i)) : FVec Ideal S8192x2048 .bf16) := by
  funext i
  unfold gatedAt sg
  pointwise []

end

/-! ## The kernel -/

open Cert.Kernel15Ideal Cert.Kernel15Ideal.Gen Idealize.ShloMosaic.TcCoe

variable (m : (ℓ : Loc nD τ sig) → Buf (Elt Ideal) ℓ)

/-- A block of a weight, as an array of its own. -/
def flat (w : Vec Ideal S1x512x512 .bf16) : Mat 512 512 := fun i => w (ix3 0 (i 0) (i 1))

theorem pay2_at (d : Vec Ideal S1024x512 .bf16) (w : Vec Ideal S1x512x512 .bf16) (y : S1024x512.Idx) :
    k0_pay2 d w y = (mm d (flat w) y : EReal) := by
  unfold mm flat
  pointwise [k0_pay2, k0_pay1]
theorem pay3_at (d : Vec Ideal S1024x512 .bf16) (w : Vec Ideal S1x512x512 .bf16) (g : Vec Ideal S1024x512 .bf16) (s : Vec Ideal S1x512 .f32)
    (y : S1024x512.Idx) : k0_pay3 d w g s y = (gatedAt (mm d (flat w) y) (s (ix2 0 (y 1))) (g y) : EReal) := by
  unfold gatedAt sg mm flat
  pointwise [k0_pay3, k0_pay1]
  rw [zero_sub]

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![0, t.val % 4] := (by decide +kernel : ∀ t : Fin grid0.N, _)
theorem index3 : ∀ t : Fin cfg0.N, win0_3.index t = ![t.val / 4, t.val % 4] := (by decide +kernel : ∀ t : Fin grid0.N, _)
theorem index4 : ∀ t : Fin cfg0.N, win0_4.index t = ![t.val / 4, t.val % 4] := (by decide +kernel : ∀ t : Fin grid0.N, _)
theorem index5 : ∀ t : Fin cfg0.N, win0_5.index t = ![t.val / 4, t.val % 4] := (by decide +kernel : ∀ t : Fin grid0.N, _)

/-- A block's place in the results: its rows and its group. -/
def row (t : Fin cfg0.N) (y : Fin 1024) : Fin 8192 := ⟨t.val / 4 * 1024 + y.val, by have := t.isLt; have hN : cfg0.N = 32 := N_0; omega⟩
def grp (t : Fin cfg0.N) : Fin 4 := ⟨t.val % 4, by omega⟩
def col (t : Fin cfg0.N) (x : Fin 512) : Fin 2048 := tile (J := 4) (T := 512) rfl (grp t) x

theorem grpOf_col (t : Fin cfg0.N) (x : Fin 512) : grpOf (col t x) = grp t := Fin.ext (by
  show (t.val % 4 * 512 + x.val) / 512 = t.val % 4
  omega)
theorem posOf_col (t : Fin cfg0.N) (x : Fin 512) : posOf (col t x) = x := Fin.ext (by
  show (t.val % 4 * 512 + x.val) % 512 = x.val
  omega)

theorem blk0_at (c : Dev nD) (t : Fin cfg0.N) (y : Fin 1024) (k : Fin 512) :
    ((iblk m c 0 t : Vec Ideal S1024x512 .bf16) (ix2 y k) : EReal) = part (m ((c : Thread nD τ).loc main_arg0)) (grp t) (ix2 (row t y) k) := by
  blk_simp [iblk]
  rw [show ((cfg0.win 0).blk t).view.emb (ix2 y k) = ix2 (row t y) (tile (J := 4) (T := 512) rfl (grp t) k) from by
    blk_ext [index0, row, tile, grp]]
  unfold_abbrev_sides; after_results; rfl
theorem blk1_at (c : Dev nD) (t : Fin cfg0.N) (k x : Fin 512) :
    (flat (iblk m c 1 t) (ix2 k x) : EReal) = wt (m ((c : Thread nD τ).loc main_arg1)) (grp t) (ix2 k x) := by
  show ((iblk m c 1 t : Vec Ideal S1x512x512 .bf16) (ix3 0 k x) : EReal) = _
  blk_simp [iblk]
  rw [show ((cfg0.win 1).blk t).view.emb (ix3 0 k x) = ix3 (grp t) k x from by blk_ext [index1, grp]]
  unfold_abbrev_sides; after_results; rfl
theorem v2_at (c : Dev nD) (x : Fin 2048) : (V m c main_v2 (ix2 0 x) : EReal) = m ((c : Thread nD τ).loc main_arg2) (ix1 x) := by
  unfold_abbrev_sides; after_results; pointwise []
theorem blk2_at (c : Dev nD) (t : Fin cfg0.N) (x : Fin 512) :
    ((iblk m c 2 t : Vec Ideal S1x512 .f32) (ix2 0 x) : EReal) = m ((c : Thread nD τ).loc main_arg2) (ix1 (col t x)) := by
  blk_simp [iblk]
  rw [show ((cfg0.win 2).blk t).view.emb (ix2 0 x) = ix2 0 (col t x) from by blk_ext [index2, col, tile, grp]]
  exact v2_at m c _
theorem blk3_at (c : Dev nD) (t : Fin cfg0.N) (y : S1024x512.Idx) :
    ((iblk m c 3 t : Vec Ideal S1024x512 .bf16) y : EReal) = m ((c : Thread nD τ).loc main_arg3) (ix2 (row t (y 0)) (col t (y 1))) := by
  blk_simp [iblk]
  rw [show ((cfg0.win 3).blk t).view.emb y = ix2 (row t (y 0)) (col t (y 1)) from by blk_ext [index3, row, col, tile, grp]]
  unfold_abbrev_sides; after_results; rfl

/-- The two results. -/
def yr (c : Dev nD) : Buf (Elt Ideal) ((c : Thread nD τ).loc main_v4_0) :=
  grouped (m ((c : Thread nD τ).loc main_arg0)) (m ((c : Thread nD τ).loc main_arg1))
def gated (c : Dev nD) : Buf (Elt Ideal) ((c : Thread nD τ).loc main_v4_1) := fun i : S8192x2048.Idx =>
  gatedAt (yr m c i) (m ((c : Thread nD τ).loc main_arg2) (ix1 (i 1))) (m ((c : Thread nD τ).loc main_arg3) i)

theorem grouped_at (d : Mat 8192 2048) (w : (⟨3, ![4, 512, 512]⟩ : Shape).Idx → EReal) (t : Fin cfg0.N) (r : Fin 8192) (x : Fin 512) :
    grouped d w (ix2 r (col t x)) = mm (part d (grp t)) (wt w (grp t)) (ix2 r x) := by
  show mm (part d (grpOf (col t x))) (wt w (grpOf (col t x))) (ix2 r (posOf (col t x))) = _
  rw [grpOf_col, posOf_col]
theorem yr_blk (c : Dev nD) (t : Fin cfg0.N) (y : S1024x512.Idx) :
    (mm (iblk m c 0 t : Vec Ideal S1024x512 .bf16) (flat (iblk m c 1 t)) y : EReal) = yr m c (ix2 (row t (y 0)) (col t (y 1))) := by
  refine Eq.trans ?_ (grouped_at _ _ t (row t (y 0)) (y 1)).symm
  exact Finset.sum_congr rfl fun k _ => congrArg₂ (fun a b : EReal => a * b) (blk0_at m c t (y 0) k) (blk1_at m c t k (y 1))

theorem final4 (c : Dev nD) : (dats m 0 c).arrAt 4 cfg0.N = yr m c := by
  refine (dats m 0 c).arrAt_eq_of_covers 4 _ (by decide +kernel) fun t hf y => ?_
  blk_simp
  rw [after0_4]; frame_out
  rw [show ((cfg0.win 4).blk t).view.emb y = ix2 (row t (y 0)) (col t (y 1)) from by blk_ext [index4, row, col, tile, grp]]
  exact (pay2_at _ _ y).trans (yr_blk m c t y)

theorem final5 (c : Dev nD) : (dats m 0 c).arrAt 5 cfg0.N = gated m c := by
  refine (dats m 0 c).arrAt_eq_of_covers 5 _ (by decide +kernel) fun t hf y => ?_
  blk_simp
  rw [after0_5]; frame_out
  rw [show ((cfg0.win 5).blk t).view.emb y = ix2 (row t (y 0)) (col t (y 1)) from by blk_ext [index5, row, col, tile, grp]]
  refine (pay3_at _ _ _ _ y).trans ?_
  rw [yr_blk]
  exact congrArg₂ _ (blk2_at m c t (y 1)) (blk3_at m c t y)

/-! ## The claim -/

theorem algebraic : Cert.algebraic_Kernel15Ideal_Reference15Ideal
    (hKernel15Ideal := Cert.Kernel15Ideal.Gen.facts) (hReference15Ideal := Cert.Reference15Ideal.Gen.facts) := by
  intro m g m' g' _ harg
  refine ⟨yr m, gated m, ?_, ?_⟩
  · exact (θ_run _ _ _).mono (fun r h c => ⟨(h c).1.trans (final4 m c), (h c).2.1.trans (final5 m c), (h c).2.2⟩)
      (Value.run_blocks (F := Ideal) m g)
  · refine (θ_run _ _ _).mono (fun r h c => ?_) (Cert.Reference15Ideal.Value.run (F := Ideal) m' g')
    obtain ⟨h0, h1, h⟩ := h c
    obtain ⟨a0, a1, a2, a3⟩ := harg c
    refine ⟨h0.trans ?_, h1.trans ?_, h⟩
    · rw [a0, a1]
      exact (ref_cast _).trans (ref_prod _ _)
    · rw [a0, a1, a2, a3]
      refine (ref_gated (prod _ _) _ _).trans ?_
      rw [ref_prod]
      rfl

end Cert.Proof.GroupFwd

end
-- ==== Proof.GateFwd.lean ====
module

public import proofs.«01_k».proof.Defs
public import proofs.«01_k».proof.Proof.DzGate
public import proofs.«01_k».proof.Proof.Product
public import proofs.«01_k».proof.Proof.Gen.Kernel16Ideal.Value
public import proofs.«01_k».proof.Proof.Gen.Reference16Ideal.Run

@[expose] public section

set_option maxRecDepth 16384

noncomputable section

/-! Mixer B's gate: the attention's rows times `silu` of the gate, element by element. -/

namespace Cert.Proof.GateFwd

open Cert.Proof.DzGate
open Idealize.SL.Sem Idealize.ShloMosaic Idealize.ShloMosaic.Tactic

/-- One element of a gated row. -/
def gatedAt (y g : EReal) : EReal := y * (g * sg g)

section

open Cert.Reference16Ideal

theorem ref_eq (Y g : FVec Ideal S8192x2048 .f32) :
    truncf .bf16 (mulf Y (mulf g (Host.divf (broadcastInDim S8192x2048 ![] Gen.facts.bcast_S_S8192x2048 (constant S_ .f32 0x3F800000#32))
        (addf (broadcastInDim S8192x2048 ![] Gen.facts.bcast_S_S8192x2048 (constant S_ .f32 0x3F800000#32)) (Host.exp (Host.negf g))))))
      Gen.facts.bitsLt_bf16_f32 = ((fun i => gatedAt (Y i) (g i)) : FVec Ideal S8192x2048 .bf16) := by
  funext i
  unfold gatedAt sg
  pointwise []

end

open Cert.Kernel16Ideal Cert.Kernel16Ideal.Gen Idealize.ShloMosaic.TcCoe

variable (m : (ℓ : Loc nD τ sig) → Buf (Elt Ideal) ℓ)

theorem pay_at (g y : Vec Ideal S512x512 .bf16) (i : S512x512.Idx) : k0_pay1 g y i = (gatedAt (y i) (g i) : EReal) := by
  unfold gatedAt sg
  pointwise [k0_pay1]
  rw [zero_sub]

theorem index0 : ∀ t : Fin cfg0.N, win0_0.index t = ![t.val / 4, t.val % 4] := (by decide +kernel : ∀ t : Fin grid0.N, _)
theorem index1 : ∀ t : Fin cfg0.N, win0_1.index t = ![t.val / 4, t.val % 4] := (by decide +kernel : ∀ t : Fin grid0.N, _)
theorem index2 : ∀ t : Fin cfg0.N, win0_2.index t = ![t.val / 4, t.val % 4] := (by decide +kernel : ∀ t : Fin grid0.N, _)

/-- A block's place. -/
def place (t : Fin cfg0.N) (y : S512x512.Idx) : S8192x2048.Idx :=
  ix2 ⟨t.val / 4 * 512 + (y 0).val, by have := t.isLt; have hN : cfg0.N = 64 := N_0; have := (y 0).isLt; have : (y 0).val < 512 := this; omega⟩
    ⟨t.val % 4 * 512 + (y 1).val, by have := (y 1).isLt; have : (y 1).val < 512 := this; omega⟩

theorem blk0_at (c : Dev nD) (t : Fin cfg0.N) (y : S512x512.Idx) :
    ((iblk m c 0 t : Vec Ideal S512x512 .bf16) y : EReal) = m ((c : Thread nD τ).loc main_arg0) (place t y) := by
  blk_simp [iblk]
  rw [show ((cfg0.win 0).blk t).view.emb y = place t y from by blk_ext [index0, place]]
  unfold_abbrev_sides; after_results; rfl
theorem blk1_at (c : Dev nD) (t : Fin cfg0.N) (y : S512x512.Idx) :
    ((iblk m c 1 t : Vec Ideal S512x512 .bf16) y : EReal) = m ((c : Thread nD τ).loc main_arg1) (place t y) := by
  blk_simp [iblk]
  rw [show ((cfg0.win 1).blk t).view.emb y = place t y from by blk_ext [index1, place]]
  unfold_abbrev_sides; after_results; rfl

/-- The result. -/
def gated (c : Dev nD) : Buf (Elt Ideal) ((c : Thread nD τ).loc main_v2) := fun i : S8192x2048.Idx =>
  gatedAt (m ((c : Thread nD τ).loc main_arg0) i) (m ((c : Thread nD τ).loc main_arg1) i)

theorem final (c : Dev nD) : (dats m 0 c).arrAt 2 cfg0.N = gated m c := by
  refine (dats m 0 c).arrAt_eq_of_covers 2 _ (by decide +kernel) fun t hf y => ?_
  blk_simp
  rw [after0_2]; frame_out
  rw [show ((cfg0.win 2).blk t).view.emb y = place t y from by blk_ext [index2, place]]
  exact (pay_at _ _ y).trans (congrArg₂ gatedAt (blk0_at m c t y) (blk1_at m c t y))

theorem algebraic : Cert.algebraic_Kernel16Ideal_Reference16Ideal
    (hKernel16Ideal := Cert.Kernel16Ideal.Gen.facts) (hReference16Ideal := Cert.Reference16Ideal.Gen.facts) := by
  intro m g m' g' _ harg
  refine ⟨gated m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference16Ideal.Value.run (F := Ideal) m' g')
    rw [(harg c).1, (harg c).2]
    exact ref_eq _ _

end Cert.Proof.GateFwd

end
-- ==== Proof.Norm.lean ====
module

public import proofs.«01_k».proof.Defs
public import proofs.«01_k».proof.Proof.OutNorm
public import proofs.«01_k».proof.Proof.Product
public import proofs.«01_k».proof.Proof.Gen.Kernel17Ideal.Value
public import proofs.«01_k».proof.Proof.Gen.Reference17Ideal.Run

@[expose] public section

set_option maxRecDepth 16384

noncomputable section

/-! The rms norm in front of the first layer, one block of rows at a time. -/

namespace Cert.Proof.Norm

open Cert.Proof.Prod
open Cert.Proof.OutNorm (nrm)
open Idealize.SL.Sem Idealize.ShloMosaic Idealize.ShloMosaic.Tactic

section

open Cert.Reference17Ideal

theorem ref_eq (v : FVec Ideal S8192x1024 .f32) (g : FVec Ideal S1024 .f32) :
    truncf .bf16 (mulf (mulf v (broadcastInDim S8192x1024 ![0, 1] Gen.facts.bcast_S8192x1_S8192x1024_0_1
      (Host.rsqrt (addf (Host.divf (broadcastInDim S8192x1 ![0] Gen.facts.bcast_S8192_S8192x1_0
          (Host.reduceAdd (mulf v v) (constant S_ .f32 0x00000000#32) Gen.facts.reducesTo_S8192x1024_S8192_d1 Gen.facts.h_S_))
        (broadcastInDim S8192x1 ![] Gen.facts.bcast_S_S8192x1 (constant S_ .f32 0x44800000#32)))
        (broadcastInDim S8192x1 ![] Gen.facts.bcast_S_S8192x1 (constant S_ .f32 0x3727C5AC#32))))))
      (broadcastInDim S8192x1024 ![0, 1] Gen.facts.bcast_S1x1024_S8192x1024_0_1
        (broadcastInDim S1x1024 ![1] Gen.facts.bcast_S1024_S1x1024_1 g))) Gen.facts.bitsLt_bf16_f32
      = (nrm v (fun k => g (ix1 k)) : FVec Ideal S8192x1024 .bf16) := by
  exact Cert.Proof.OutNorm.ref_norm v g

end

open Cert.Kernel17Ideal Cert.Kernel17Ideal.Gen Idealize.ShloMosaic.TcCoe

variable (m : (ℓ : Loc nD τ sig) → Buf (Elt Ideal) ℓ)

theorem pay_at (v : Vec Ideal S256x1024 .f32) (g : Vec Ideal S1x1024 .f32) (y : S256x1024.Idx) :
    k0_pay1 v g y = (nrm v (fun k => g (ix2 0 k)) y : EReal) := by
  unfold nrm OutNorm.inv
  pointwise [k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

def rowAt (t : Fin cfg0.N) (y : Fin 256) : Fin 8192 := ⟨t.val * 256 + y.val, by have := t.isLt; have hN : cfg0.N = 32 := N_0; omega⟩

/-- The gain, by column. -/
def gain (c : Dev nD) (k : Fin 1024) : EReal := m ((c : Thread nD τ).loc main_arg1) (ix1 k)
theorem v0_at (c : Dev nD) (k : Fin 1024) : (V m c main_v0 (ix2 0 k) : EReal) = gain m c k := by
  unfold_abbrev_sides; after_results; unfold gain; pointwise []
theorem arg0_at (c : Dev nD) (i : S8192x1024.Idx) : (V m c main_arg0 i : EReal) = m ((c : Thread nD τ).loc main_arg0) i := by
  unfold_abbrev_sides; after_results

theorem blk0_at (c : Dev nD) (t : Fin cfg0.N) (y : Fin 256) (x : Fin 1024) :
    ((iblk m c 0 t : Vec Ideal S256x1024 .f32) (ix2 y x) : EReal) = m ((c : Thread nD τ).loc main_arg0) (ix2 (rowAt t y) x) := by
  blk_simp [iblk]
  rw [show ((cfg0.win 0).blk t).view.emb (ix2 y x) = ix2 (rowAt t y) x from by blk_ext [index0, rowAt]]
  exact arg0_at m c _
theorem blk1_at (c : Dev nD) (t : Fin cfg0.N) (x : Fin 1024) : ((iblk m c 1 t : Vec Ideal S1x1024 .f32) (ix2 0 x) : EReal) = gain m c x := by
  blk_simp [iblk]
  rw [show ((cfg0.win 1).blk t).view.emb (ix2 0 x) = ix2 0 x from by blk_ext [index1]]
  exact v0_at m c _

/-- The result. -/
def normed (c : Dev nD) : Buf (Elt Ideal) ((c : Thread nD τ).loc main_v1) := nrm (m ((c : Thread nD τ).loc main_arg0)) (gain m c)

theorem final (c : Dev nD) : (dats m 0 c).arrAt 2 cfg0.N = normed m c := by
  refine (dats m 0 c).arrAt_eq_of_covers 2 _ (by decide +kernel) fun t hf y => ?_
  blk_simp
  rw [after0_2]; frame_out
  rw [show ((cfg0.win 2).blk t).view.emb y = ix2 (rowAt t (y 0)) (y 1) from by blk_ext [index2, rowAt]]
  refine (pay_at _ _ y).trans ?_
  have hy : ix2 (y 0) (y 1) = y := by ext a; fin_cases a <;> rfl
  have h := blk0_at m c t
  unfold normed nrm
  refine congrArg₂ (fun a b : EReal => a * b) (congrArg₂ (fun a b : EReal => a * b) ?_ (congrArg OutNorm.inv ?_)) (blk1_at m c t (y 1))
  · rw [← hy]; exact h (y 0) (y 1)
  · exact Finset.sum_congr rfl fun x _ => congrArg₂ (fun a b : EReal => a * b) (h (y 0) x) (h (y 0) x)

theorem algebraic : Cert.algebraic_Kernel17Ideal_Reference17Ideal
    (hKernel17Ideal := Cert.Kernel17Ideal.Gen.facts) (hReference17Ideal := Cert.Reference17Ideal.Gen.facts) := by
  intro m g m' g' _ harg
  refine ⟨normed m, ?_, ?_⟩
  · exact (θ_run _ _ _).mono (fun r h c => ⟨(h c).1.trans (final m c), (h c).2⟩) (Value.run_blocks (F := Ideal) m g)
  · refine (θ_run _ _ _).mono (fun r h c => ⟨(h c).1.trans ?_, (h c).2⟩) (Cert.Reference17Ideal.Value.run (F := Ideal) m' g')
    rw [(harg c).1, (harg c).2]
    exact ref_eq _ _

end Cert.Proof.Norm

end
-- ==== Proof.Adam.lean ====
module

public import proofs.«01_k».proof.Defs
public import proofs.«01_k».proof.Proof.Product
public import proofs.«01_k».proof.Proof.Gen.Kernel18Ideal.Value
public import proofs.«01_k».proof.Proof.Gen.Reference18Ideal.Run

@[expose] public section

set_option maxRecDepth 16384

noncomputable section

/-! The optimiser's call for one weight: the four slots' gradients summed, and AdamW's step from the sum. -/

namespace Cert.Proof.Adam

open Idealize.SL.Sem Idealize.ShloMosaic Idealize.ShloMosaic.Tactic

/-- The sum of the four slots. -/
def slots (s : (⟨3, ![4, 1024, 1024]⟩ : Shape).Idx → EReal) : (⟨2, ![1024, 1024]⟩ : Shape).Idx → EReal := fun i => ∑ k : Fin 4, s (ix3 k (i 0) (i 1))
theorem slots_four (s : (⟨3, ![4, 1024, 1024]⟩ : Shape).Idx → EReal) (y x : Fin 1024) :
    slots s (ix2 y x) = s (ix3 0 y x) + s (ix3 1 y x) + s (ix3 2 y x) + s (ix3 3 y x) := Fin.sum_univ_four _
/-- A constant's value. -/
abbrev lit (b : BitVec 32) : EReal := Ideal.ofBits FTy.f32 b
/-- AdamW for one element: the moments after the step, and the update from them. -/
def mom (a g : EReal) : EReal := lit 0x3F666666#32 * a + lit 0x3DCCCCCD#32 * g
def vel (a g : EReal) : EReal := lit 0x3F7FBE77#32 * a + lit 0x3A83126F#32 * (g * g)
def delta (w p q : EReal) : EReal :=
  lit 0xBA83126F#32 * (Ideal.div (Ideal.div p (lit 0x3F26BD02#32)) (Ideal.sqrt (Ideal.div q (lit 0x3C231ACC#32)) + lit 0x322BCC77#32)
    + lit 0x3C23D70A#32 * w)

section

open Cert.Reference18Ideal

abbrev cst (b : BitVec 32) : FVec Ideal S1024x1024 .f32 := broadcastInDim S1024x1024 ![] Gen.facts.bcast_S_S1024x1024 (constant S_ .f32 b)

theorem ref_sum (s : FVec Ideal S4x1024x1024 .f32) :
    Host.reduceAdd s (constant S_ .f32 0x00000000#32) Gen.facts.reducesTo_S4x1024x1024_S1024x1024_d0 Gen.facts.h_S_
      = (slots s : FVec Ideal S1024x1024 .f32) := by
  funext i
  unfold slots
  pointwise []

theorem ref_mom (a g : FVec Ideal S1024x1024 .f32) :
    addf (mulf (cst 0x3F666666#32) a) (mulf (cst 0x3DCCCCCD#32) g) = ((fun i => mom (a i) (g i)) : FVec Ideal S1024x1024 .f32) := by
  funext i
  unfold mom lit cst
  pointwise []
theorem ref_vel (a g : FVec Ideal S1024x1024 .f32) :
    addf (mulf (cst 0x3F7FBE77#32) a) (mulf (cst 0x3A83126F#32) (mulf g g)) = ((fun i => vel (a i) (g i)) : FVec Ideal S1024x1024 .f32) := by
  funext i
  unfold vel lit cst
  pointwise []
theorem ref_delta (w p q : FVec Ideal S1024x1024 .f32) :
    mulf (cst 0xBA83126F#32) (addf (Host.divf (Host.divf p (cst 0x3F26BD02#32))
        (addf (Host.sqrt (Host.divf q (cst 0x3C231ACC#32))) (cst 0x322BCC77#32))) (mulf (cst 0x3C23D70A#32) w))
      = ((fun i => delta (w i) (p i) (q i)) : FVec Ideal S1024x1024 .f32) := by
  funext i
  unfold delta lit cst
  pointwise []

end

open Cert.Kernel18Ideal Cert.Kernel18Ideal.Gen Idealize.ShloMosaic.TcCoe

variable (m : (ℓ : Loc nD τ sig) → Buf (Elt Ideal) ℓ)

/-- The four slots of a block added up, in the kernel's order. -/
def add4 (a b c d : Vec Ideal S1x256x1024 .bf16) (y : S256x1024.Idx) : EReal :=
  a (ix3 0 (y 0) (y 1)) + b (ix3 0 (y 0) (y 1)) + c (ix3 0 (y 0) (y 1)) + d (ix3 0 (y 0) (y 1))

theorem sum_at (a b c d : Vec Ideal S1x256x1024 .bf16) (y : S256x1024.Idx) : k0_pay2 a b c d y = (add4 a b c d y : EReal) := by
  unfold add4
  pointwise [k0_pay2]
theorem mom_at (a b c d : Vec Ideal S1x256x1024 .bf16) (v : Vec Ideal S256x1024 .f32) (y : S256x1024.Idx) :
    k0_pay3 a b c d v y = (mom (v y) (add4 a b c d y) : EReal) := by
  rw [← sum_at]
  generalize hg : k0_pay2 a b c d = g
  unfold mom lit
  pointwise [k0_pay3, hg]
theorem vel_at (a b c d : Vec Ideal S1x256x1024 .bf16) (v : Vec Ideal S256x1024 .f32) (y : S256x1024.Idx) :
    k0_pay4 a b c d v y = (vel (v y) (add4 a b c d y) : EReal) := by
  rw [← sum_at]
  generalize hg : k0_pay2 a b c d = g
  unfold vel lit
  pointwise [k0_pay4, hg]
theorem delta_at (a b c d : Vec Ideal S1x256x1024 .bf16) (w v q : Vec Ideal S256x1024 .f32) (y : S256x1024.Idx) :
    k0_pay1 w q (k0_pay5 a b c d v) (Scalar.ofBits .f32 0x3C231ACC#32) y = (delta (w y) (k0_pay3 a b c d v y) (q y) : EReal) := by
  generalize hp : k0_pay3 a b c d v = p
  unfold delta lit
  pointwise [k0_pay1, k0_pay5, hp]

theorem index0 : ∀ t : Fin cfg0.N, win0_0.index t = ![t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

def row (t : Fin cfg0.N) (y : Fin 256) : Fin 1024 := ⟨t.val * 256 + y.val, by have := t.isLt; have hN : cfg0.N = 4 := N_0; omega⟩
/-- A block's place. -/
def place (t : Fin cfg0.N) (y : S256x1024.Idx) : S1024x1024.Idx := ix2 (row t (y 0)) (y 1)

theorem blk0_at (c : Dev nD) (t : Fin cfg0.N) (y : S256x1024.Idx) :
    ((iblk m c 0 t : Vec Ideal S256x1024 .f32) y : EReal) = m ((c : Thread nD τ).loc main_arg0) (place t y) := by
  blk_simp [iblk]
  rw [show ((cfg0.win 0).blk t).view.emb y = place t y from by blk_ext [index0, place, row]]
  unfold_abbrev_sides; after_results
theorem blk1_at (c : Dev nD) (t : Fin cfg0.N) (k : Fin 4) (y : Fin 256) (x : Fin 1024) :
    ((iblk m c 1 t : Vec Ideal S4x256x1024 .bf16) (ix3 k y x) : EReal) = m ((c : Thread nD τ).loc main_arg1) (ix3 k (row t y) x) := by
  blk_simp [iblk]
  rw [show ((cfg0.win 1).blk t).view.emb (ix3 k y x) = ix3 k (row t y) x from by blk_ext [index1, row]]
  unfold_abbrev_sides; after_results; rfl
theorem blk2_at (c : Dev nD) (t : Fin cfg0.N) (y : S256x1024.Idx) :
    ((iblk m c 2 t : Vec Ideal S256x1024 .f32) y : EReal) = m ((c : Thread nD τ).loc main_arg2) (place t y) := by
  blk_simp [iblk]
  rw [show ((cfg0.win 2).blk t).view.emb y = place t y from by blk_ext [index2, place, row]]
  unfold_abbrev_sides; after_results
theorem blk3_at (c : Dev nD) (t : Fin cfg0.N) (y : S256x1024.Idx) :
    ((iblk m c 3 t : Vec Ideal S256x1024 .f32) y : EReal) = m ((c : Thread nD τ).loc main_arg3) (place t y) := by
  blk_simp [iblk]
  rw [show ((cfg0.win 3).blk t).view.emb y = place t y from by blk_ext [index3, place, row]]
  unfold_abbrev_sides; after_results

/-- One slot of a block, and a whole block. -/
theorem slot0 (X : Vec Ideal S4x256x1024 .bf16) (y : Fin 256) (x : Fin 1024) : View.ld X r0_0 (ix3 0 y x) = X (ix3 0 y x) := by
  refine congrArg X (funext fun a => Fin.ext ?_)
  match a with
  | ⟨0, _⟩ => rfl
  | ⟨1, _⟩ => show 0 + 1 * y.val = y.val; omega
  | ⟨2, _⟩ => show 0 + 1 * x.val = x.val; omega
theorem slot1 (X : Vec Ideal S4x256x1024 .bf16) (y : Fin 256) (x : Fin 1024) : View.ld X r0_1 (ix3 0 y x) = X (ix3 1 y x) := by
  refine congrArg X (funext fun a => Fin.ext ?_)
  match a with
  | ⟨0, _⟩ => rfl
  | ⟨1, _⟩ => show 0 + 1 * y.val = y.val; omega
  | ⟨2, _⟩ => show 0 + 1 * x.val = x.val; omega
theorem slot2 (X : Vec Ideal S4x256x1024 .bf16) (y : Fin 256) (x : Fin 1024) : View.ld X r0_2 (ix3 0 y x) = X (ix3 2 y x) := by
  refine congrArg X (funext fun a => Fin.ext ?_)
  match a with
  | ⟨0, _⟩ => rfl
  | ⟨1, _⟩ => show 0 + 1 * y.val = y.val; omega
  | ⟨2, _⟩ => show 0 + 1 * x.val = x.val; omega
theorem slot3 (X : Vec Ideal S4x256x1024 .bf16) (y : Fin 256) (x : Fin 1024) : View.ld X r0_3 (ix3 0 y x) = X (ix3 3 y x) := by
  refine congrArg X (funext fun a => Fin.ext ?_)
  match a with
  | ⟨0, _⟩ => rfl
  | ⟨1, _⟩ => show 0 + 1 * y.val = y.val; omega
  | ⟨2, _⟩ => show 0 + 1 * x.val = x.val; omega
theorem whole (X : Vec Ideal S256x1024 .f32) : View.ld X r0_4 = X := by
  funext y; refine congrArg X (funext fun a => Fin.ext ?_)
  match a with
  | ⟨0, _⟩ => show 0 + 1 * (y 0).val = (y 0).val; omega
  | ⟨1, _⟩ => show 0 + 1 * (y 1).val = (y 1).val; omega

/-- The four results. -/
def total (c : Dev nD) : Buf (Elt Ideal) ((c : Thread nD τ).loc main_v1_0) :=
  slots (m ((c : Thread nD τ).loc main_arg1))
def newM (c : Dev nD) : Buf (Elt Ideal) ((c : Thread nD τ).loc main_v1_2) := fun i : S1024x1024.Idx =>
  mom (m ((c : Thread nD τ).loc main_arg2) i) (total m c i)
def newV (c : Dev nD) : Buf (Elt Ideal) ((c : Thread nD τ).loc main_v1_3) := fun i : S1024x1024.Idx =>
  vel (m ((c : Thread nD τ).loc main_arg3) i) (total m c i)
def update (c : Dev nD) : Buf (Elt Ideal) ((c : Thread nD τ).loc main_v1_1) := fun i : S1024x1024.Idx =>
  delta (m ((c : Thread nD τ).loc main_arg0) i) (newM m c i) (newV m c i)

theorem total_blk (c : Dev nD) (t : Fin cfg0.N) (y : S256x1024.Idx) :
    add4 (View.ld (iblk m c 1 t) r0_0) (View.ld (iblk m c 1 t) r0_1) (View.ld (iblk m c 1 t) r0_2) (View.ld (iblk m c 1 t) r0_3) y
      = total m c (place t y) := by
  refine Eq.trans ?_ (slots_four _ (row t (y 0)) (y 1)).symm
  have h := fun k => blk1_at m c t k (y 0) (y 1)
  exact congrArg₂ (fun a b : EReal => a + b) (congrArg₂ (fun a b : EReal => a + b) (congrArg₂ (fun a b : EReal => a + b)
    ((slot0 _ _ _).trans (h 0)) ((slot1 _ _ _).trans (h 1))) ((slot2 _ _ _).trans (h 2))) ((slot3 _ _ _).trans (h 3))

theorem newM_blk (c : Dev nD) (t : Fin cfg0.N) (y : S256x1024.Idx) :
    (k0_pay3 (View.ld (iblk m c 1 t) r0_0) (View.ld (iblk m c 1 t) r0_1) (View.ld (iblk m c 1 t) r0_2) (View.ld (iblk m c 1 t) r0_3)
      (iblk m c 2 t) y : EReal) = newM m c (place t y) :=
  (mom_at _ _ _ _ _ y).trans (congrArg₂ mom (blk2_at m c t y) (total_blk m c t y))
theorem newV_blk (c : Dev nD) (t : Fin cfg0.N) (y : S256x1024.Idx) :
    (k0_pay6 (iblk m c 0 t) (iblk m c 1 t) (iblk m c 2 t) (iblk m c 3 t) y : EReal) = newV m c (place t y) := by
  unfold k0_pay6
  rw [whole]
  exact (vel_at _ _ _ _ _ y).trans (congrArg₂ vel (blk3_at m c t y) (total_blk m c t y))

theorem final4 (c : Dev nD) : (dats m 0 c).arrAt 4 cfg0.N = total m c := by
  refine (dats m 0 c).arrAt_eq_of_covers 4 _ (by decide +kernel) fun t hf y => ?_
  blk_simp
  rw [after0_4]; frame_out
  rw [show ((cfg0.win 4).blk t).view.emb y = place t y from by blk_ext [index4, place, row]]
  exact (sum_at _ _ _ _ y).trans (total_blk m c t y)
theorem final5 (c : Dev nD) : (dats m 0 c).arrAt 5 cfg0.N = update m c := by
  refine (dats m 0 c).arrAt_eq_of_covers 5 _ (by decide +kernel) fun t hf y => ?_
  blk_simp
  rw [after0_5]; frame_out
  rw [show ((cfg0.win 5).blk t).view.emb y = place t y from by blk_ext [index5, place, row]]
  refine (delta_at _ _ _ _ _ _ _ y).trans ?_
  exact congr (congrArg₂ delta (blk0_at m c t y) (newM_blk m c t y)) (newV_blk m c t y)
theorem final6 (c : Dev nD) : (dats m 0 c).arrAt 6 cfg0.N = newM m c := by
  refine (dats m 0 c).arrAt_eq_of_covers 6 _ (by decide +kernel) fun t hf y => ?_
  blk_simp
  rw [after0_6]; frame_out
  rw [show ((cfg0.win 6).blk t).view.emb y = place t y from by blk_ext [index6, place, row]]
  exact newM_blk m c t y
theorem final7 (c : Dev nD) : (dats m 0 c).arrAt 7 cfg0.N = newV m c := by
  refine (dats m 0 c).arrAt_eq_of_covers 7 _ (by decide +kernel) fun t hf y => ?_
  blk_simp
  rw [after0_7]; frame_out
  rw [show ((cfg0.win 7).blk t).view.emb y = place t y from by blk_ext [index7, place, row]]
  exact newV_blk m c t y

theorem algebraic : Cert.algebraic_Kernel18Ideal_Reference18Ideal
    (hKernel18Ideal := Cert.Kernel18Ideal.Gen.facts) (hReference18Ideal := Cert.Reference18Ideal.Gen.facts) := by
  intro m g m' g' _ harg
  refine ⟨total m, update m, newM m, newV m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Value.run_blocks (F := Ideal) m g)
  · refine (θ_run _ _ _).mono (fun r h c => ?_) (Cert.Reference18Ideal.Value.run (F := Ideal) m' g')
    obtain ⟨h0, h1, h2, h3, h⟩ := h c
    obtain ⟨a0, a1, a2, a3⟩ := harg c
    refine ⟨h0.trans ?_, h1.trans ?_, h2.trans ?_, h3.trans ?_, h⟩
    · rw [a1]
      exact ref_sum _
    · rw [a0, a1, a2, a3, ref_sum]
      refine (ref_delta _ _ _).trans ?_
      rw [ref_mom, ref_vel]
      rfl
    · rw [a1, a2, ref_sum]
      exact ref_mom _ _
    · rw [a1, a3, ref_sum]
      exact ref_vel _ _

end Cert.Proof.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.RunK
public import proofs.«01_k».proof.Proof.Close
public import proofs.«01_k».proof.Proof.Frames
public import proofs.«01_k».proof.Proof.Dwin
public import proofs.«01_k».proof.Proof.In
public import proofs.«01_k».proof.Proof.Cat3
public import proofs.«01_k».proof.Proof.Cat2
public import proofs.«01_k».proof.Proof.Dwout
public import proofs.«01_k».proof.Proof.Gate
public import proofs.«01_k».proof.Proof.DzGate
public import proofs.«01_k».proof.Proof.OutNorm
public import proofs.«01_k».proof.Proof.Cat4
public import proofs.«01_k».proof.Proof.DyGate
public import proofs.«01_k».proof.Proof.Grouped
public import proofs.«01_k».proof.Proof.InNarrow
public import proofs.«01_k».proof.Proof.DwinNarrow
public import proofs.«01_k».proof.Proof.GroupFwd
public import proofs.«01_k».proof.Proof.GateFwd
public import proofs.«01_k».proof.Proof.Norm
public import proofs.«01_k».proof.Proof.Adam
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    facts2, Cert.Kernel2Ideal.Gen.facts, Cert.Reference2Ideal.Gen.facts,
    facts3, Cert.Kernel3Ideal.Gen.facts, Cert.Reference3Ideal.Gen.facts,
    facts4, Cert.Kernel4Ideal.Gen.facts, Cert.Reference4Ideal.Gen.facts,
    facts5, Cert.Kernel5Ideal.Gen.facts, Cert.Reference5Ideal.Gen.facts,
    facts6, Cert.Kernel6Ideal.Gen.facts, Cert.Reference6Ideal.Gen.facts,
    facts7, Cert.Kernel7Ideal.Gen.facts, Cert.Reference7Ideal.Gen.facts,
    facts8, Cert.Kernel8Ideal.Gen.facts, Cert.Reference8Ideal.Gen.facts,
    facts9, Cert.Kernel9Ideal.Gen.facts, Cert.Reference9Ideal.Gen.facts,
    facts10, Cert.Kernel10Ideal.Gen.facts, Cert.Reference10Ideal.Gen.facts,
    facts11, Cert.Kernel11Ideal.Gen.facts, Cert.Reference11Ideal.Gen.facts,
    facts12, Cert.Kernel12Ideal.Gen.facts, Cert.Reference12Ideal.Gen.facts,
    facts13, Cert.Kernel13Ideal.Gen.facts, Cert.Reference13Ideal.Gen.facts,
    facts14, Cert.Kernel14Ideal.Gen.facts, Cert.Reference14Ideal.Gen.facts,
    facts15, Cert.Kernel15Ideal.Gen.facts, Cert.Reference15Ideal.Gen.facts,
    facts16, Cert.Kernel16Ideal.Gen.facts, Cert.Reference16Ideal.Gen.facts,
    facts17, Cert.Kernel17Ideal.Gen.facts, Cert.Reference17Ideal.Gen.facts,
    facts18, Cert.Kernel18Ideal.Gen.facts, Cert.Reference18Ideal.Gen.facts,
    Att.finiteFacts, DzGate.finiteFacts, DyGate.finiteFacts,
    fun m ρ _ => AttK.frame m ρ, fun m ρ _ => Att.frame m ρ, fun m ρ _ => Att.frame m ρ,
    reference_frame, fun m ρ _ => reference_frame m ρ trivial,
    frame2, fun m ρ _ => Cert.Kernel2Ideal.Gen.frame m ρ, reference2,
    frame3, fun m ρ _ => Cert.Kernel3Ideal.Gen.frame m ρ, reference3,
    frame4, fun m ρ _ => Cert.Kernel4Ideal.Gen.frame m ρ, reference4,
    frame5, fun m ρ _ => Cert.Kernel5Ideal.Gen.frame m ρ, reference5,
    frame6, fun m ρ _ => Cert.Kernel6Ideal.Gen.frame m ρ, reference6,
    frame7, fun m ρ _ => Cert.Kernel7Ideal.Gen.frame m ρ, reference7,
    frame8, fun m ρ _ => Cert.Kernel8Ideal.Gen.frame m ρ, fun m ρ _ => Cert.Kernel8Ideal.Gen.frame m ρ,
    reference8, fun m ρ _ => reference8 m ρ trivial,
    frame9, fun m ρ _ => Cert.Kernel9Ideal.Gen.frame m ρ, reference9,
    frame10, fun m ρ _ => Cert.Kernel10Ideal.Gen.frame m ρ, reference10,
    frame11, fun m ρ _ => Cert.Kernel11Ideal.Gen.frame m ρ, fun m ρ _ => Cert.Kernel11Ideal.Gen.frame m ρ,
    reference11, fun m ρ _ => reference11 m ρ trivial,
    frame12, fun m ρ _ => Cert.Kernel12Ideal.Gen.frame m ρ, reference12,
    frame13, fun m ρ _ => Cert.Kernel13Ideal.Gen.frame m ρ, reference13,
    frame14, fun m ρ _ => Cert.Kernel14Ideal.Gen.frame m ρ, reference14,
    frame15, fun m ρ _ => Cert.Kernel15Ideal.Gen.frame m ρ, reference15,
    frame16, fun m ρ _ => Cert.Kernel16Ideal.Gen.frame m ρ, reference16,
    frame17, fun m ρ _ => Cert.Kernel17Ideal.Gen.frame m ρ, reference17,
    frame18, fun m ρ _ => Cert.Kernel18Ideal.Gen.frame m ρ, reference18,
    IdealRules.named_const.statement Cert.KernelIdeal.κ "mask" .f32 0xF149F2CA#32 ⊥ rfl,
    Att.algebraic,
    trivial, Dwin.algebraic,
    trivial, In.algebraic,
    trivial, Cat3.algebraic,
    trivial, Cat2.algebraic,
    trivial, Dwout.algebraic,
    trivial, Gate.algebraic,
    trivial, DzGate.algebraic,
    trivial, OutNorm.algebraic,
    trivial, Cat4.algebraic,
    trivial, DyGate.algebraic,
    trivial, Grouped.algebraic,
    trivial, InNarrow.algebraic,
    trivial, DwinNarrow.algebraic,
    trivial, GroupFwd.algebraic,
    trivial, GateFwd.algebraic,
    trivial, Norm.algebraic,
    trivial, Adam.algebraic⟩

end Cert.Proof

end
